-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rays_outside [hPre_rays_outside : Cert.Pre_rays_outside.Facts] (m : (ℓ : Loc Cert.KernelIdeal.nD Cert.KernelIdeal.τ Cert.KernelIdeal.sig) → Buf (Elt Ideal) ℓ) : Prop :=
  ∀ c : Dev Cert.KernelIdeal.nD,
    (Cert.Pre_rays_outside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rays_outside [hPre_rays_outside : Cert.Pre_rays_outside.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rays_outside.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_rays_outside [hKernelIdeal : Cert.KernelIdeal.Facts] [hPre_rays_outside : Cert.Pre_rays_outside.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rays_outside m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_rays_outside [hReferenceIdeal : Cert.ReferenceIdeal.Facts] [hPre_rays_outside : Cert.Pre_rays_outside.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rays_outside m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv127" .f32 0x3C010204#32 ((127⁻¹ : ℝ) : EReal)

def algebraic_KernelIdeal_ReferenceIdeal_on_not_bisected_pre_rays_outside [hKernelIdeal : Cert.KernelIdeal.Facts] [hReferenceIdeal : Cert.ReferenceIdeal.Facts] [hPre_rays_outside : Cert.Pre_rays_outside.Facts] [hOn_not_bisected : Cert.On_not_bisected.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rays_outside m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![131072]⟩ : Shape).Idx, (Cert.On_not_bisected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v0_0) i = v0 c i)
          ∧ (∀ i : (⟨2, ![131072, 3]⟩ : Shape).Idx, (Cert.On_not_bisected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v0_1) i = v1 c i)
          ∧ (∀ i : (⟨1, ![131072]⟩ : Shape).Idx, (Cert.On_not_bisected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v0_2) i = v2 c i)
          ∧ (∀ i : (⟨1, ![131072]⟩ : Shape).Idx, (Cert.On_not_bisected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![131072]⟩ : Shape).Idx, (Cert.On_not_bisected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v1074) i = v0 c i)
          ∧ (∀ i : (⟨2, ![131072, 3]⟩ : Shape).Idx, (Cert.On_not_bisected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v1076) i = v1 c i)
          ∧ (∀ i : (⟨1, ![131072]⟩ : Shape).Idx, (Cert.On_not_bisected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v1077) i = v2 c i)
          ∧ (∀ i : (⟨1, ![131072]⟩ : Shape).Idx, (Cert.On_not_bisected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.ReferenceIdeal.nD Cert.ReferenceIdeal.τ).loc Cert.ReferenceIdeal.main_v1078) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_rays_outside : Cert.Pre_rays_outside.Facts) (hOn_not_bisected : Cert.On_not_bisected.Facts),
    quiescent_Kernel (hKernel := hKernel)
    ∧ quiescent_KernelIdeal (hKernelIdeal := hKernelIdeal)
    ∧ quiescent_KernelIdeal_pre_rays_outside (hKernelIdeal := hKernelIdeal) (hPre_rays_outside := hPre_rays_outside)
    ∧ quiescent_ReferenceIdeal (hReferenceIdeal := hReferenceIdeal)
    ∧ quiescent_ReferenceIdeal_pre_rays_outside (hReferenceIdeal := hReferenceIdeal) (hPre_rays_outside := hPre_rays_outside)
    ∧ preserves_Kernel_KernelIdeal
    ∧ algebraic_KernelIdeal_ReferenceIdeal_on_not_bisected_pre_rays_outside (hKernelIdeal := hKernelIdeal) (hReferenceIdeal := hReferenceIdeal) (hPre_rays_outside := hPre_rays_outside) (hOn_not_bisected := hOn_not_bisected)
-- ==== On_not_bisected.lean ====
abbrev S131072x3 : Shape := ⟨2, ![131072, 3]⟩
abbrev S131072 : Shape := ⟨1, ![131072]⟩
abbrev S131072x1 : Shape := ⟨2, ![131072, 1]⟩
abbrev S_ : Shape := ⟨0, ![]⟩
abbrev S127 : Shape := ⟨1, ![127]⟩
abbrev S1 : Shape := ⟨1, ![1]⟩
abbrev S128 : Shape := ⟨1, ![128]⟩
abbrev S1x128 : Shape := ⟨2, ![1, 128]⟩
abbrev S131072x128 : Shape := ⟨2, ![131072, 128]⟩
abbrev S131072x1x3 : Shape := ⟨3, ![131072, 1, 3]⟩
abbrev S131072x128x1 : Shape := ⟨3, ![131072, 128, 1]⟩
abbrev S131072x128x3 : Shape := ⟨3, ![131072, 128, 3]⟩

class Facts : Prop where
  bcast_S131072_S131072x1_0 : S131072.BroadcastsInDim S131072x1 (![0] : Fin 1 → Fin S131072x1.rank)
  bcast_S131072x1_S131072x3_0_1 : S131072x1.BroadcastsInDim S131072x3 (![0, 1] : Fin 2 → Fin S131072x3.rank)
  reducesTo_S131072x3_S131072_d1 : S131072x3.ReducesTo [1] S131072
  h_S_ : 0 < S_.numel
  bcast_S_S131072 : S_.BroadcastsInDim S131072 (![] : Fin 0 → Fin S131072.rank)
  bcast_S_S127 : S_.BroadcastsInDim S127 (![] : Fin 0 → Fin S127.rank)
  shapeCasts_S_S1 : S_.ShapeCasts S1
  bcast_S1_S127_0 : S1.BroadcastsInDim S127 (![0] : Fin 1 → Fin S127.rank)
  bcast_S_S1 : S_.BroadcastsInDim S1 (![] : Fin 0 → Fin S1.rank)
  concatenates_S127_S1_S128_d0 : Shape.Concatenates [S127, S1] S128 0
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S131072x1_S131072x128_0_1 : S131072x1.BroadcastsInDim S131072x128 (![0, 1] : Fin 2 → Fin S131072x128.rank)
  bcast_S131072x3_S131072x1x3_0_2 : S131072x3.BroadcastsInDim S131072x1x3 (![0, 2] : Fin 2 → Fin S131072x1x3.rank)
  bcast_S131072x128_S131072x128x1_0_1 : S131072x128.BroadcastsInDim S131072x128x1 (![0, 1] : Fin 2 → Fin S131072x128x1.rank)
  bcast_S131072x1x3_S131072x128x3_0_1_2 : S131072x1x3.BroadcastsInDim S131072x128x3 (![0, 1, 2] : Fin 3 → Fin S131072x128x3.rank)
  bcast_S131072x128x1_S131072x128x3_0_1_2 : S131072x128x1.BroadcastsInDim S131072x128x3 (![0, 1, 2] : Fin 3 → Fin S131072x128x3.rank)
  reducesTo_S131072x128x3_S131072x128_d2 : S131072x128x3.ReducesTo [2] S131072x128
  bcast_S_S131072x128 : S_.BroadcastsInDim S131072x128 (![] : Fin 0 → Fin S131072x128.rank)
  bcast_S_S128 : S_.BroadcastsInDim S128 (![] : Fin 0 → Fin S128.rank)
  reducesTo_S131072x128_S131072_d1 : S131072x128.ReducesTo [1] S131072

variable [Facts]

def fn_where {F : FTy → Type} [FloatOps F] (arg0 : IVec S131072 1) (arg1 : FVec F S131072 .f32) (arg2 : FVec F S_ .f32) : FVec F S131072 .f32 :=
  let v0 : FVec F S_ .f32 := id arg2
  let v1 : FVec F S131072 .f32 := broadcastInDim S131072 ![] bcast_S_S131072 v0
  let v2 : FVec F S131072 .f32 := select arg0 arg1 v1
  v2

def fn_where_0 {F : FTy → Type} [FloatOps F] (arg0 : IVec S131072 1) (arg1 : FVec F S131072 .f32) (arg2 : FVec F S131072 .f32) : FVec F S131072 .f32 :=
  let v0 : FVec F S131072 .f32 := select arg0 arg1 arg2
  v0

def fn_linspace {F : FTy → Type} [FloatOps F] (arg0 : FVec F S_ .f32) (arg1 : FVec F S_ .f32) : FVec F S128 .f32 :=
  let v0 : FVec F S_ .f32 := id arg0
  let v1 : FVec F S_ .f32 := id arg1
  let v2 : FVec F S_ .f32 := subf v1 v0
  let cst : FVec F S_ .f32 := constant S_ .f32 0x42FE0000#32
  let v3 : FVec F S_ .f32 := Host.divf v2 cst
  let v4 : FVec F S127 .f32 := sitofp .f32 (iotaInDim S127 32 0)
  let cst_0 : FVec F S_ .f32 := constant S_ .f32 0x42FE0000#32
  let v5 : FVec F S127 .f32 := broadcastInDim S127 ![] bcast_S_S127 cst_0
  let v6 : FVec F S127 .f32 := Host.divf v4 v5
  let v7 : FVec F S1 .f32 := shapeCast S1 v0 shapeCasts_S_S1
  let cst_1 : FVec F S_ .f32 := constant S_ .f32 0x3F800000#32
  let v8 : FVec F S127 .f32 := broadcastInDim S127 ![] bcast_S_S127 cst_1
  let v9 : FVec F S127 .f32 := subf v8 v6
  let v10 : FVec F S127 .f32 := broadcastInDim S127 ![0] bcast_S1_S127_0 v7
  let v11 : FVec F S127 .f32 := mulf v10 v9
  let v12 : FVec F S1 .f32 := shapeCast S1 v1 shapeCasts_S_S1
  let v13 : FVec F S127 .f32 := broadcastInDim S127 ![0] bcast_S1_S127_0 v12
  let v14 : FVec F S127 .f32 := mulf v13 v6
  let v15 : FVec F S127 .f32 := addf v11 v14
  let v16 : FVec F S1 .f32 := broadcastInDim S1 ![] bcast_S_S1 v1
  let v17 : FVec F S128 .f32 := (fun a b => concatenate S128 0 [⟨S127, a⟩, ⟨S1, b⟩] concatenates_S127_S1_S128_d0) v15 v16
  v17

def fn_where_1 {F : FTy → Type} [FloatOps F] (arg0 : IVec S131072x128 1) (arg1 : IVec S1x128 32) (arg2 : IVec S_ 32) : IVec S131072x128 32 :=
  let v0 : IVec S_ 32 := id arg2
  let v1 : IVec S131072x128 32 := broadcastInDim S131072x128 ![0, 1] bcast_S1x128_S131072x128_0_1 arg1
  let v2 : IVec S131072x128 32 := broadcastInDim S131072x128 ![] bcast_S_S131072x128 v0
  let v3 : IVec S131072x128 32 := select arg0 v1 v2
  v3

def fn_part18 {F : FTy → Type} [FloatOps F] (main_v302 : IVec S131072 1) (main_v348 : FVec F S131072 .f32) (main_v351 : IVec S131072x128 1) (main_v353 : IVec S1x128 32) (main_c : IVec S_ 32) : IVec S131072 1 × IVec S131072x3 1 × IVec S131072 1 × IVec S131072 1 :=
  let main_v354 : IVec S131072x128 32 := fn_where_1 (F := F) main_v351 main_v353 main_c
  let main_c_76 : IVec S_ 32 := constantI S_ 32 2147483647#32
  let main_v355 : IVec S131072 32 := (fun x v => Host.reduce IntOp.minsi x v reducesTo_S131072x128_S131072_d1 h_S_) main_v354 main_c_76
  let main_cst_77 : FVec F S_ .f32 := constant S_ .f32 0x00000000#32
  let main_v356 : FVec F S131072 .f32 := broadcastInDim S131072 ![] bcast_S_S131072 main_cst_77
  let main_v357 : IVec S131072 1 := cmpf .olt main_v348 main_v356
  let main_c_78 : IVec S_ 32 := constantI S_ 32 1#32
  let main_v358 : IVec S131072 32 := broadcastInDim S131072 ![] bcast_S_S131072 main_c_78
  let main_v359 : IVec S131072 1 := cmpi .sge main_v355 main_v358
  let main_v360 : IVec S131072 1 := andi main_v357 main_v359
  let main_v361 : IVec S131072 1 := andi main_v302 main_v360
  let main_v362 : IVec S131072 1 := noti main_v361
  let main_c_79 : IVec S_ 1 := constantI S_ 1 1#1
  let main_v363 : IVec S131072 1 := broadcastInDim S131072 ![] bcast_S_S131072 main_c_79
  let main_v364 : IVec S131072x1 1 := broadcastInDim S131072x1 ![0] bcast_S131072_S131072x1_0 main_v362
  let main_v365 : IVec S131072x3 1 := broadcastInDim S131072x3 ![0, 1] bcast_S131072x1_S131072x3_0_1 main_v364
  (main_v363, main_v365, main_v362, main_v362)

def fn_part17 {F : FTy → Type} [FloatOps F] (main_v302 : IVec S131072 1) (main_v334 : FVec F S131072x128x3 .f32) (main_cst_71 : FVec F S_ .f32) : IVec S131072 1 × IVec S131072x3 1 × IVec S131072 1 × IVec S131072 1 :=
  let main_v335 : FVec F S131072x128 .f32 := (fun x v => Host.reduceAdd x v reducesTo_S131072x128x3_S131072x128_d2 h_S_) main_v334 main_cst_71
  let main_v336 : FVec F S131072x128 .f32 := Host.sqrt main_v335
  let main_cst_72 : FVec F S_ .f32 := constant S_ .f32 0x3F800000#32
  let main_v337 : FVec F S131072x128 .f32 := broadcastInDim S131072x128 ![] bcast_S_S131072x128 main_cst_72
  let main_v338 : FVec F S131072x128 .f32 := subf main_v336 main_v337
  let main_v339 : FVec F S131072x128 .f32 := Host.sign main_v338
  let main_v340 : FVec F S128 .f32 := sitofp .f32 (iotaInDim S128 32 0)
  let main_cst_73 : FVec F S_ .f32 := constant S_ .f32 0xBF800000#32
  let main_v341 : FVec F S128 .f32 := broadcastInDim S128 ![] bcast_S_S128 main_cst_73
  let main_v342 : FVec F S128 .f32 := mulf main_v341 main_v340
  let main_cst_74 : FVec F S_ .f32 := constant S_ .f32 0x43000000#32
  let main_v343 : FVec F S128 .f32 := broadcastInDim S128 ![] bcast_S_S128 main_cst_74
  let main_v344 : FVec F S128 .f32 := addf main_v343 main_v342
  let main_v345 : FVec F S1x128 .f32 := broadcastInDim S1x128 ![1] bcast_S128_S1x128_1 main_v344
  let main_v346 : FVec F S131072x128 .f32 := broadcastInDim S131072x128 ![0, 1] bcast_S1x128_S131072x128_0_1 main_v345
  let main_v347 : FVec F S131072x128 .f32 := mulf main_v339 main_v346
  let main_cst_75 : FVec F S_ .f32 := constant S_ .f32 0x7F800000#32
  let main_v348 : FVec F S131072 .f32 := (fun x v => Host.reduce FloatOps.minimumf x v reducesTo_S131072x128_S131072_d1 h_S_) main_v347 main_cst_75
  let main_v349 : FVec F S131072x1 .f32 := broadcastInDim S131072x1 ![0] bcast_S131072_S131072x1_0 main_v348
  let main_v350 : FVec F S131072x128 .f32 := broadcastInDim S131072x128 ![0, 1] bcast_S131072x1_S131072x128_0_1 main_v349
  let main_v351 : IVec S131072x128 1 := cmpf .oeq main_v347 main_v350
  let main_v352 : IVec S128 32 := iotaInDim S128 32 0
  let main_v353 : IVec S1x128 32 := broadcastInDim S1x128 ![1] bcast_S128_S1x128_1 main_v352
  let main_c : IVec S_ 32 := constantI S_ 32 128#32
  fn_part18 (F := F) main_v302 main_v348 main_v351 main_v353 main_c

def fn_part16 {F : FTy → Type} [FloatOps F] (main_arg0 : FVec F S131072x3 .f32) (main_arg1 : FVec F S131072x3 .f32) (main_v286 : FVec F S131072 .f32) (main_v302 : IVec S131072 1) (main_v310 : FVec F S131072 .f32) (main_v311 : FVec F S131072 .f32) (main_v313 : FVec F S131072 .f32) : IVec S131072 1 × IVec S131072x3 1 × IVec S131072 1 × IVec S131072 1 :=
  let main_v314 : FVec F S131072 .f32 := mulf main_v313 main_v286
  let main_v315 : FVec F S131072 .f32 := addf main_v311 main_v314
  let main_cst_69 : FVec F S_ .f32 := constant S_ .f32 0x00000000#32
  let main_cst_70 : FVec F S_ .f32 := constant S_ .f32 0x3F800000#32
  let main_v316 : FVec F S128 .f32 := fn_linspace (F := F) main_cst_69 main_cst_70
  let main_v317 : FVec F S1x128 .f32 := broadcastInDim S1x128 ![1] bcast_S128_S1x128_1 main_v316
  let main_v318 : FVec F S131072x1 .f32 := broadcastInDim S131072x1 ![0] bcast_S131072_S131072x1_0 main_v310
  let main_v319 : FVec F S131072 .f32 := subf main_v315 main_v310
  let main_v320 : FVec F S131072x1 .f32 := broadcastInDim S131072x1 ![0] bcast_S131072_S131072x1_0 main_v319
  let main_v321 : FVec F S131072x128 .f32 := broadcastInDim S131072x128 ![0, 1] bcast_S1x128_S131072x128_0_1 main_v317
  let main_v322 : FVec F S131072x128 .f32 := broadcastInDim S131072x128 ![0, 1] bcast_S131072x1_S131072x128_0_1 main_v320
  let main_v323 : FVec F S131072x128 .f32 := mulf main_v321 main_v322
  let main_v324 : FVec F S131072x128 .f32 := broadcastInDim S131072x128 ![0, 1] bcast_S131072x1_S131072x128_0_1 main_v318
  let main_v325 : FVec F S131072x128 .f32 := addf main_v324 main_v323
  let main_v326 : FVec F S131072x1x3 .f32 := broadcastInDim S131072x1x3 ![0, 2] bcast_S131072x3_S131072x1x3_0_2 main_arg0
  let main_v327 : FVec F S131072x1x3 .f32 := broadcastInDim S131072x1x3 ![0, 2] bcast_S131072x3_S131072x1x3_0_2 main_arg1
  let main_v328 : FVec F S131072x128x1 .f32 := broadcastInDim S131072x128x1 ![0, 1] bcast_S131072x128_S131072x128x1_0_1 main_v325
  let main_v329 : FVec F S131072x128x3 .f32 := broadcastInDim S131072x128x3 ![0, 1, 2] bcast_S131072x1x3_S131072x128x3_0_1_2 main_v327
  let main_v330 : FVec F S131072x128x3 .f32 := broadcastInDim S131072x128x3 ![0, 1, 2] bcast_S131072x128x1_S131072x128x3_0_1_2 main_v328
  let main_v331 : FVec F S131072x128x3 .f32 := mulf main_v329 main_v330
  let main_v332 : FVec F S131072x128x3 .f32 := broadcastInDim S131072x128x3 ![0, 1, 2] bcast_S131072x1x3_S131072x128x3_0_1_2 main_v326
  let main_v333 : FVec F S131072x128x3 .f32 := addf main_v332 main_v331
  let main_v334 : FVec F S131072x128x3 .f32 := mulf main_v333 main_v333
  let main_cst_71 : FVec F S_ .f32 := constant S_ .f32 0x00000000#32
  fn_part17 (F := F) main_v302 main_v334 main_cst_71

def fn_part15 {F : FTy → Type} [FloatOps F] (main_arg0 : FVec F S131072x3 .f32) (main_arg1 : FVec F S131072x3 .f32) (main_arg2 : FVec F S131072 .f32) (main_arg3 : FVec F S131072 .f32) (main_v278 : FVec F S131072 .f32) (main_v284 : IVec S131072 1) (main_v286 : FVec F S131072 .f32) (main_v293 : FVec F S131072 .f32) (main_cst_64 : FVec F S_ .f32) : IVec S131072 1 × IVec S131072x3 1 × IVec S131072 1 × IVec S131072 1 :=
  let main_v294 : FVec F S131072 .f32 := broadcastInDim S131072 ![] bcast_S_S131072 main_cst_64
  let main_v295 : FVec F S131072 .f32 := subf main_v293 main_v294
  let main_v296 : FVec F S131072 .f32 := fn_where_0 (F := F) main_v284 main_v295 main_v278
  let main_v297 : FVec F S131072 .f32 := Host.absf main_v296
  let main_cst_65 : FVec F S_ .f32 := constant S_ .f32 0x3851B717#32
  let main_v298 : FVec F S131072 .f32 := broadcastInDim S131072 ![] bcast_S_S131072 main_cst_65
  let main_v299 : IVec S131072 1 := cmpf .ogt main_v297 main_v298
  let main_v300 : IVec S131072 1 := andi main_v284 main_v299
  let main_v301 : IVec S131072 1 := cmpf .olt main_v286 main_arg3
  let main_v302 : IVec S131072 1 := andi main_v300 main_v301
  let main_cst_66 : FVec F S_ .f32 := constant S_ .f32 0x00000000#32
  let main_v303 : FVec F S131072 .f32 := broadcastInDim S131072 ![] bcast_S_S131072 main_cst_66
  let main_v304 : IVec S131072 1 := cmpf .ogt main_v296 main_v303
  let main_v305 : FVec F S131072 .f32 := uitofp .f32 main_v304
  let main_v306 : FVec F S131072 .f32 := mulf main_v305 main_v286
  let main_cst_67 : FVec F S_ .f32 := constant S_ .f32 0x3F800000#32
  let main_v307 : FVec F S131072 .f32 := broadcastInDim S131072 ![] bcast_S_S131072 main_cst_67
  let main_v308 : FVec F S131072 .f32 := subf main_v307 main_v305
  let main_v309 : FVec F S131072 .f32 := mulf main_v308 main_arg2
  let main_v310 : FVec F S131072 .f32 := addf main_v306 main_v309
  let main_v311 : FVec F S131072 .f32 := mulf main_v305 main_arg3
  let main_cst_68 : FVec F S_ .f32 := constant S_ .f32 0x3F800000#32
  let main_v312 : FVec F S131072 .f32 := broadcastInDim S131072 ![] bcast_S_S131072 main_cst_68
  let main_v313 : FVec F S131072 .f32 := subf main_v312 main_v305
  fn_part16 (F := F) main_arg0 main_arg1 main_v286 main_v302 main_v310 main_v311 main_v313

def fn_part14 {F : FTy → Type} [FloatOps F] (main_arg0 : FVec F S131072x3 .f32) (main_arg1 : FVec F S131072x3 .f32) (main_arg2 : FVec F S131072 .f32) (main_arg3 : FVec F S131072 .f32) (main_v260 : FVec F S131072 .f32) (main_v266 : IVec S131072 1) (main_v268 : FVec F S131072 .f32) (main_v272 : FVec F S131072x3 .f32) (main_v274 : FVec F S131072 .f32) : IVec S131072 1 × IVec S131072x3 1 × IVec S131072 1 × IVec S131072 1 :=
  let main_v275 : FVec F S131072 .f32 := Host.sqrt main_v274
  let main_cst_60 : FVec F S_ .f32 := constant S_ .f32 0x3F800000#32
  let main_v276 : FVec F S131072 .f32 := broadcastInDim S131072 ![] bcast_S_S131072 main_cst_60
  let main_v277 : FVec F S131072 .f32 := subf main_v275 main_v276
  let main_v278 : FVec F S131072 .f32 := fn_where_0 (F := F) main_v266 main_v277 main_v260
  let main_v279 : FVec F S131072 .f32 := Host.absf main_v278
  let main_cst_61 : FVec F S_ .f32 := constant S_ .f32 0x3851B717#32
  let main_v280 : FVec F S131072 .f32 := broadcastInDim S131072 ![] bcast_S_S131072 main_cst_61
  let main_v281 : IVec S131072 1 := cmpf .ogt main_v279 main_v280
  let main_v282 : IVec S131072 1 := andi main_v266 main_v281
  let main_v283 : IVec S131072 1 := cmpf .olt main_v268 main_arg3
  let main_v284 : IVec S131072 1 := andi main_v282 main_v283
  let main_cst_62 : FVec F S_ .f32 := constant S_ .f32 0x00000000#32
  let main_v285 : FVec F S131072 .f32 := fn_where (F := F) main_v284 main_v278 main_cst_62
  let main_v286 : FVec F S131072 .f32 := addf main_v268 main_v285
  let main_v287 : FVec F S131072x1 .f32 := broadcastInDim S131072x1 ![0] bcast_S131072_S131072x1_0 main_v285
  let main_v288 : FVec F S131072x3 .f32 := broadcastInDim S131072x3 ![0, 1] bcast_S131072x1_S131072x3_0_1 main_v287
  let main_v289 : FVec F S131072x3 .f32 := mulf main_arg1 main_v288
  let main_v290 : FVec F S131072x3 .f32 := addf main_v272 main_v289
  let main_v291 : FVec F S131072x3 .f32 := mulf main_v290 main_v290
  let main_cst_63 : FVec F S_ .f32 := constant S_ .f32 0x00000000#32
  let main_v292 : FVec F S131072 .f32 := (fun x v => Host.reduceAdd x v reducesTo_S131072x3_S131072_d1 h_S_) main_v291 main_cst_63
  let main_v293 : FVec F S131072 .f32 := Host.sqrt main_v292
  let main_cst_64 : FVec F S_ .f32 := constant S_ .f32 0x3F800000#32
  fn_part15 (F := F) main_arg0 main_arg1 main_arg2 main_arg3 main_v278 main_v284 main_v286 main_v293 main_cst_64

def fn_part13 {F : FTy → Type} [FloatOps F] (main_arg0 : FVec F S131072x3 .f32) (main_arg1 : FVec F S131072x3 .f32) (main_arg2 : FVec F S131072 .f32) (main_arg3 : FVec F S131072 .f32) (main_v242 : FVec F S131072 .f32) (main_v248 : IVec S131072 1) (main_v250 : FVec F S131072 .f32) (main_v254 : FVec F S131072x3 .f32) (main_v255 : FVec F S131072x3 .f32) : IVec S131072 1 × IVec S131072x3 1 × IVec S131072 1 × IVec S131072 1 :=
  let main_cst_55 : FVec F S_ .f32 := constant S_ .f32 0x00000000#32
  let main_v256 : FVec F S131072 .f32 := (fun x v => Host.reduceAdd x v reducesTo_S131072x3_S131072_d1 h_S_) main_v255 main_cst_55
  let main_v257 : FVec F S131072 .f32 := Host.sqrt main_v256
  let main_cst_56 : FVec F S_ .f32 := constant S_ .f32 0x3F800000#32
  let main_v258 : FVec F S131072 .f32 := broadcastInDim S131072 ![] bcast_S_S131072 main_cst_56
  let main_v259 : FVec F S131072 .f32 := subf main_v257 main_v258
  let main_v260 : FVec F S131072 .f32 := fn_where_0 (F := F) main_v248 main_v259 main_v242
  let main_v261 : FVec F S131072 .f32 := Host.absf main_v260
  let main_cst_57 : FVec F S_ .f32 := constant S_ .f32 0x3851B717#32
  let main_v262 : FVec F S131072 .f32 := broadcastInDim S131072 ![] bcast_S_S131072 main_cst_57
  let main_v263 : IVec S131072 1 := cmpf .ogt main_v261 main_v262
  let main_v264 : IVec S131072 1 := andi main_v248 main_v263
  let main_v265 : IVec S131072 1 := cmpf .olt main_v250 main_arg3
  let main_v266 : IVec S131072 1 := andi main_v264 main_v265
  let main_cst_58 : FVec F S_ .f32 := constant S_ .f32 0x00000000#32
  let main_v267 : FVec F S131072 .f32 := fn_where (F := F) main_v266 main_v260 main_cst_58
  let main_v268 : FVec F S131072 .f32 := addf main_v250 main_v267
  let main_v269 : FVec F S131072x1 .f32 := broadcastInDim S131072x1 ![0] bcast_S131072_S131072x1_0 main_v267
  let main_v270 : FVec F S131072x3 .f32 := broadcastInDim S131072x3 ![0, 1] bcast_S131072x1_S131072x3_0_1 main_v269
  let main_v271 : FVec F S131072x3 .f32 := mulf main_arg1 main_v270
  let main_v272 : FVec F S131072x3 .f32 := addf main_v254 main_v271
  let main_v273 : FVec F S131072x3 .f32 := mulf main_v272 main_v272
  let main_cst_59 : FVec F S_ .f32 := constant S_ .f32 0x00000000#32
  let main_v274 : FVec F S131072 .f32 := (fun x v => Host.reduceAdd x v reducesTo_S131072x3_S131072_d1 h_S_) main_v273 main_cst_59
  fn_part14 (F := F) main_arg0 main_arg1 main_arg2 main_arg3 main_v260 main_v266 main_v268 main_v272 main_v274

def fn_part12 {F : FTy → Type} [FloatOps F] (main_arg0 : FVec F S131072x3 .f32) (main_arg1 : FVec F S131072x3 .f32) (main_arg2 : FVec F S131072 .f32) (main_arg3 : FVec F S131072 .f32) (main_v218 : FVec F S131072x3 .f32) (main_v224 : FVec F S131072 .f32) (main_v230 : IVec S131072 1) (main_v232 : FVec F S131072 .f32) (main_v235 : FVec F S131072x3 .f32) : IVec S131072 1 × IVec S131072x3 1 × IVec S131072 1 × IVec S131072 1 :=
  let main_v236 : FVec F S131072x3 .f32 := addf main_v218 main_v235
  let main_v237 : FVec F S131072x3 .f32 := mulf main_v236 main_v236
  let main_cst_51 : FVec F S_ .f32 := constant S_ .f32 0x00000000#32
  let main_v238 : FVec F S131072 .f32 := (fun x v => Host.reduceAdd x v reducesTo_S131072x3_S131072_d1 h_S_) main_v237 main_cst_51
  let main_v239 : FVec F S131072 .f32 := Host.sqrt main_v238
  let main_cst_52 : FVec F S_ .f32 := constant S_ .f32 0x3F800000#32
  let main_v240 : FVec F S131072 .f32 := broadcastInDim S131072 ![] bcast_S_S131072 main_cst_52
  let main_v241 : FVec F S131072 .f32 := subf main_v239 main_v240
  let main_v242 : FVec F S131072 .f32 := fn_where_0 (F := F) main_v230 main_v241 main_v224
  let main_v243 : FVec F S131072 .f32 := Host.absf main_v242
  let main_cst_53 : FVec F S_ .f32 := constant S_ .f32 0x3851B717#32
  let main_v244 : FVec F S131072 .f32 := broadcastInDim S131072 ![] bcast_S_S131072 main_cst_53
  let main_v245 : IVec S131072 1 := cmpf .ogt main_v243 main_v244
  let main_v246 : IVec S131072 1 := andi main_v230 main_v245
  let main_v247 : IVec S131072 1 := cmpf .olt main_v232 main_arg3
  let main_v248 : IVec S131072 1 := andi main_v246 main_v247
  let main_cst_54 : FVec F S_ .f32 := constant S_ .f32 0x00000000#32
  let main_v249 : FVec F S131072 .f32 := fn_where (F := F) main_v248 main_v242 main_cst_54
  let main_v250 : FVec F S131072 .f32 := addf main_v232 main_v249
  let main_v251 : FVec F S131072x1 .f32 := broadcastInDim S131072x1 ![0] bcast_S131072_S131072x1_0 main_v249
  let main_v252 : FVec F S131072x3 .f32 := broadcastInDim S131072x3 ![0, 1] bcast_S131072x1_S131072x3_0_1 main_v251
  let main_v253 : FVec F S131072x3 .f32 := mulf main_arg1 main_v252
  let main_v254 : FVec F S131072x3 .f32 := addf main_v236 main_v253
  let main_v255 : FVec F S131072x3 .f32 := mulf main_v254 main_v254
  fn_part13 (F := F) main_arg0 main_arg1 main_arg2 main_arg3 main_v242 main_v248 main_v250 main_v254 main_v255

def fn_part11 {F : FTy → Type} [FloatOps F] (main_arg0 : FVec F S131072x3 .f32) (main_arg1 : FVec F S131072x3 .f32) (main_arg2 : FVec F S131072 .f32) (main_arg3 : FVec F S131072 .f32) (main_v200 : FVec F S131072x3 .f32) (main_v206 : FVec F S131072 .f32) (main_v212 : IVec S131072 1) (main_v214 : FVec F S131072 .f32) (main_v215 : FVec F S131072x1 .f32) : IVec S131072 1 × IVec S131072x3 1 × IVec S131072 1 × IVec S131072 1 :=
  let main_v216 : FVec F S131072x3 .f32 := broadcastInDim S131072x3 ![0, 1] bcast_S131072x1_S131072x3_0_1 main_v215
  let main_v217 : FVec F S131072x3 .f32 := mulf main_arg1 main_v216
  let main_v218 : FVec F S131072x3 .f32 := addf main_v200 main_v217
  let main_v219 : FVec F S131072x3 .f32 := mulf main_v218 main_v218
  let main_cst_47 : FVec F S_ .f32 := constant S_ .f32 0x00000000#32
  let main_v220 : FVec F S131072 .f32 := (fun x v => Host.reduceAdd x v reducesTo_S131072x3_S131072_d1 h_S_) main_v219 main_cst_47
  let main_v221 : FVec F S131072 .f32 := Host.sqrt main_v220
  let main_cst_48 : FVec F S_ .f32 := constant S_ .f32 0x3F800000#32
  let main_v222 : FVec F S131072 .f32 := broadcastInDim S131072 ![] bcast_S_S131072 main_cst_48
  let main_v223 : FVec F S131072 .f32 := subf main_v221 main_v222
  let main_v224 : FVec F S131072 .f32 := fn_where_0 (F := F) main_v212 main_v223 main_v206
  let main_v225 : FVec F S131072 .f32 := Host.absf main_v224
  let main_cst_49 : FVec F S_ .f32 := constant S_ .f32 0x3851B717#32
  let main_v226 : FVec F S131072 .f32 := broadcastInDim S131072 ![] bcast_S_S131072 main_cst_49
  let main_v227 : IVec S131072 1 := cmpf .ogt main_v225 main_v226
  let main_v228 : IVec S131072 1 := andi main_v212 main_v227
  let main_v229 : IVec S131072 1 := cmpf .olt main_v214 main_arg3
  let main_v230 : IVec S131072 1 := andi main_v228 main_v229
  let main_cst_50 : FVec F S_ .f32 := constant S_ .f32 0x00000000#32
  let main_v231 : FVec F S131072 .f32 := fn_where (F := F) main_v230 main_v224 main_cst_50
  let main_v232 : FVec F S131072 .f32 := addf main_v214 main_v231
  let main_v233 : FVec F S131072x1 .f32 := broadcastInDim S131072x1 ![0] bcast_S131072_S131072x1_0 main_v231
  let main_v234 : FVec F S131072x3 .f32 := broadcastInDim S131072x3 ![0, 1] bcast_S131072x1_S131072x3_0_1 main_v233
  let main_v235 : FVec F S131072x3 .f32 := mulf main_arg1 main_v234
  fn_part12 (F := F) main_arg0 main_arg1 main_arg2 main_arg3 main_v218 main_v224 main_v230 main_v232 main_v235

def fn_part10 {F : FTy → Type} [FloatOps F] (main_arg0 : FVec F S131072x3 .f32) (main_arg1 : FVec F S131072x3 .f32) (main_arg2 : FVec F S131072 .f32) (main_arg3 : FVec F S131072 .f32) (main_v178 : FVec F S131072 .f32) (main_v182 : FVec F S131072x3 .f32) (main_v188 : FVec F S131072 .f32) (main_v194 : IVec S131072 1) (main_v195 : FVec F S131072 .f32) : IVec S131072 1 × IVec S131072x3 1 × IVec S131072 1 × IVec S131072 1 :=
  let main_v196 : FVec F S131072 .f32 := addf main_v178 main_v195
  let main_v197 : FVec F S131072x1 .f32 := broadcastInDim S131072x1 ![0] bcast_S131072_S131072x1_0 main_v195
  let main_v198 : FVec F S131072x3 .f32 := broadcastInDim S131072x3 ![0, 1] bcast_S131072x1_S131072x3_0_1 main_v197
  let main_v199 : FVec F S131072x3 .f32 := mulf main_arg1 main_v198
  let main_v200 : FVec F S131072x3 .f32 := addf main_v182 main_v199
  let main_v201 : FVec F S131072x3 .f32 := mulf main_v200 main_v200
  let main_cst_43 : FVec F S_ .f32 := constant S_ .f32 0x00000000#32
  let main_v202 : FVec F S131072 .f32 := (fun x v => Host.reduceAdd x v reducesTo_S131072x3_S131072_d1 h_S_) main_v201 main_cst_43
  let main_v203 : FVec F S131072 .f32 := Host.sqrt main_v202
  let main_cst_44 : FVec F S_ .f32 := constant S_ .f32 0x3F800000#32
  let main_v204 : FVec F S131072 .f32 := broadcastInDim S131072 ![] bcast_S_S131072 main_cst_44
  let main_v205 : FVec F S131072 .f32 := subf main_v203 main_v204
  let main_v206 : FVec F S131072 .f32 := fn_where_0 (F := F) main_v194 main_v205 main_v188
  let main_v207 : FVec F S131072 .f32 := Host.absf main_v206
  let main_cst_45 : FVec F S_ .f32 := constant S_ .f32 0x3851B717#32
  let main_v208 : FVec F S131072 .f32 := broadcastInDim S131072 ![] bcast_S_S131072 main_cst_45
  let main_v209 : IVec S131072 1 := cmpf .ogt main_v207 main_v208
  let main_v210 : IVec S131072 1 := andi main_v194 main_v209
  let main_v211 : IVec S131072 1 := cmpf .olt main_v196 main_arg3
  let main_v212 : IVec S131072 1 := andi main_v210 main_v211
  let main_cst_46 : FVec F S_ .f32 := constant S_ .f32 0x00000000#32
  let main_v213 : FVec F S131072 .f32 := fn_where (F := F) main_v212 main_v206 main_cst_46
  let main_v214 : FVec F S131072 .f32 := addf main_v196 main_v213
  let main_v215 : FVec F S131072x1 .f32 := broadcastInDim S131072x1 ![0] bcast_S131072_S131072x1_0 main_v213
  fn_part11 (F := F) main_arg0 main_arg1 main_arg2 main_arg3 main_v200 main_v206 main_v212 main_v214 main_v215

def fn_part9 {F : FTy → Type} [FloatOps F] (main_arg0 : FVec F S131072x3 .f32) (main_arg1 : FVec F S131072x3 .f32) (main_arg2 : FVec F S131072 .f32) (main_arg3 : FVec F S131072 .f32) (main_v160 : FVec F S131072 .f32) (main_v164 : FVec F S131072x3 .f32) (main_v170 : FVec F S131072 .f32) (main_v176 : IVec S131072 1) : IVec S131072 1 × IVec S131072x3 1 × IVec S131072 1 × IVec S131072 1 :=
  let main_cst_38 : FVec F S_ .f32 := constant S_ .f32 0x00000000#32
  let main_v177 : FVec F S131072 .f32 := fn_where (F := F) main_v176 main_v170 main_cst_38
  let main_v178 : FVec F S131072 .f32 := addf main_v160 main_v177
  let main_v179 : FVec F S131072x1 .f32 := broadcastInDim S131072x1 ![0] bcast_S131072_S131072x1_0 main_v177
  let main_v180 : FVec F S131072x3 .f32 := broadcastInDim S131072x3 ![0, 1] bcast_S131072x1_S131072x3_0_1 main_v179
  let main_v181 : FVec F S131072x3 .f32 := mulf main_arg1 main_v180
  let main_v182 : FVec F S131072x3 .f32 := addf main_v164 main_v181
  let main_v183 : FVec F S131072x3 .f32 := mulf main_v182 main_v182
  let main_cst_39 : FVec F S_ .f32 := constant S_ .f32 0x00000000#32
  let main_v184 : FVec F S131072 .f32 := (fun x v => Host.reduceAdd x v reducesTo_S131072x3_S131072_d1 h_S_) main_v183 main_cst_39
  let main_v185 : FVec F S131072 .f32 := Host.sqrt main_v184
  let main_cst_40 : FVec F S_ .f32 := constant S_ .f32 0x3F800000#32
  let main_v186 : FVec F S131072 .f32 := broadcastInDim S131072 ![] bcast_S_S131072 main_cst_40
  let main_v187 : FVec F S131072 .f32 := subf main_v185 main_v186
  let main_v188 : FVec F S131072 .f32 := fn_where_0 (F := F) main_v176 main_v187 main_v170
  let main_v189 : FVec F S131072 .f32 := Host.absf main_v188
  let main_cst_41 : FVec F S_ .f32 := constant S_ .f32 0x3851B717#32
  let main_v190 : FVec F S131072 .f32 := broadcastInDim S131072 ![] bcast_S_S131072 main_cst_41
  let main_v191 : IVec S131072 1 := cmpf .ogt main_v189 main_v190
  let main_v192 : IVec S131072 1 := andi main_v176 main_v191
  let main_v193 : IVec S131072 1 := cmpf .olt main_v178 main_arg3
  let main_v194 : IVec S131072 1 := andi main_v192 main_v193
  let main_cst_42 : FVec F S_ .f32 := constant S_ .f32 0x00000000#32
  let main_v195 : FVec F S131072 .f32 := fn_where (F := F) main_v194 main_v188 main_cst_42
  fn_part10 (F := F) main_arg0 main_arg1 main_arg2 main_arg3 main_v178 main_v182 main_v188 main_v194 main_v195

def fn_part8 {F : FTy → Type} [FloatOps F] (main_arg0 : FVec F S131072x3 .f32) (main_arg1 : FVec F S131072x3 .f32) (main_arg2 : FVec F S131072 .f32) (main_arg3 : FVec F S131072 .f32) (main_v142 : FVec F S131072 .f32) (main_v146 : FVec F S131072x3 .f32) (main_v152 : FVec F S131072 .f32) (main_v156 : IVec S131072 1) : IVec S131072 1 × IVec S131072x3 1 × IVec S131072 1 × IVec S131072 1 :=
  let main_v157 : IVec S131072 1 := cmpf .olt main_v142 main_arg3
  let main_v158 : IVec S131072 1 := andi main_v156 main_v157
  let main_cst_34 : FVec F S_ .f32 := constant S_ .f32 0x00000000#32
  let main_v159 : FVec F S131072 .f32 := fn_where (F := F) main_v158 main_v152 main_cst_34
  let main_v160 : FVec F S131072 .f32 := addf main_v142 main_v159
  let main_v161 : FVec F S131072x1 .f32 := broadcastInDim S131072x1 ![0] bcast_S131072_S131072x1_0 main_v159
  let main_v162 : FVec F S131072x3 .f32 := broadcastInDim S131072x3 ![0, 1] bcast_S131072x1_S131072x3_0_1 main_v161
  let main_v163 : FVec F S131072x3 .f32 := mulf main_arg1 main_v162
  let main_v164 : FVec F S131072x3 .f32 := addf main_v146 main_v163
  let main_v165 : FVec F S131072x3 .f32 := mulf main_v164 main_v164
  let main_cst_35 : FVec F S_ .f32 := constant S_ .f32 0x00000000#32
  let main_v166 : FVec F S131072 .f32 := (fun x v => Host.reduceAdd x v reducesTo_S131072x3_S131072_d1 h_S_) main_v165 main_cst_35
  let main_v167 : FVec F S131072 .f32 := Host.sqrt main_v166
  let main_cst_36 : FVec F S_ .f32 := constant S_ .f32 0x3F800000#32
  let main_v168 : FVec F S131072 .f32 := broadcastInDim S131072 ![] bcast_S_S131072 main_cst_36
  let main_v169 : FVec F S131072 .f32 := subf main_v167 main_v168
  let main_v170 : FVec F S131072 .f32 := fn_where_0 (F := F) main_v158 main_v169 main_v152
  let main_v171 : FVec F S131072 .f32 := Host.absf main_v170
  let main_cst_37 : FVec F S_ .f32 := constant S_ .f32 0x3851B717#32
  let main_v172 : FVec F S131072 .f32 := broadcastInDim S131072 ![] bcast_S_S131072 main_cst_37
  let main_v173 : IVec S131072 1 := cmpf .ogt main_v171 main_v172
  let main_v174 : IVec S131072 1 := andi main_v158 main_v173
  let main_v175 : IVec S131072 1 := cmpf .olt main_v160 main_arg3
  let main_v176 : IVec S131072 1 := andi main_v174 main_v175
  fn_part9 (F := F) main_arg0 main_arg1 main_arg2 main_arg3 main_v160 main_v164 main_v170 main_v176

def fn_part7 {F : FTy → Type} [FloatOps F] (main_arg0 : FVec F S131072x3 .f32) (main_arg1 : FVec F S131072x3 .f32) (main_arg2 : FVec F S131072 .f32) (main_arg3 : FVec F S131072 .f32) (main_v122 : IVec S131072 1) (main_v124 : FVec F S131072 .f32) (main_v128 : FVec F S131072x3 .f32) (main_v134 : FVec F S131072 .f32) (main_v135 : FVec F S131072 .f32) (main_v136 : FVec F S131072 .f32) : IVec S131072 1 × IVec S131072x3 1 × IVec S131072 1 × IVec S131072 1 :=
  let main_v137 : IVec S131072 1 := cmpf .ogt main_v135 main_v136
  let main_v138 : IVec S131072 1 := andi main_v122 main_v137
  let main_v139 : IVec S131072 1 := cmpf .olt main_v124 main_arg3
  let main_v140 : IVec S131072 1 := andi main_v138 main_v139
  let main_cst_30 : FVec F S_ .f32 := constant S_ .f32 0x00000000#32
  let main_v141 : FVec F S131072 .f32 := fn_where (F := F) main_v140 main_v134 main_cst_30
  let main_v142 : FVec F S131072 .f32 := addf main_v124 main_v141
  let main_v143 : FVec F S131072x1 .f32 := broadcastInDim S131072x1 ![0] bcast_S131072_S131072x1_0 main_v141
  let main_v144 : FVec F S131072x3 .f32 := broadcastInDim S131072x3 ![0, 1] bcast_S131072x1_S131072x3_0_1 main_v143
  let main_v145 : FVec F S131072x3 .f32 := mulf main_arg1 main_v144
  let main_v146 : FVec F S131072x3 .f32 := addf main_v128 main_v145
  let main_v147 : FVec F S131072x3 .f32 := mulf main_v146 main_v146
  let main_cst_31 : FVec F S_ .f32 := constant S_ .f32 0x00000000#32
  let main_v148 : FVec F S131072 .f32 := (fun x v => Host.reduceAdd x v reducesTo_S131072x3_S131072_d1 h_S_) main_v147 main_cst_31
  let main_v149 : FVec F S131072 .f32 := Host.sqrt main_v148
  let main_cst_32 : FVec F S_ .f32 := constant S_ .f32 0x3F800000#32
  let main_v150 : FVec F S131072 .f32 := broadcastInDim S131072 ![] bcast_S_S131072 main_cst_32
  let main_v151 : FVec F S131072 .f32 := subf main_v149 main_v150
  let main_v152 : FVec F S131072 .f32 := fn_where_0 (F := F) main_v140 main_v151 main_v134
  let main_v153 : FVec F S131072 .f32 := Host.absf main_v152
  let main_cst_33 : FVec F S_ .f32 := constant S_ .f32 0x3851B717#32
  let main_v154 : FVec F S131072 .f32 := broadcastInDim S131072 ![] bcast_S_S131072 main_cst_33
  let main_v155 : IVec S131072 1 := cmpf .ogt main_v153 main_v154
  let main_v156 : IVec S131072 1 := andi main_v140 main_v155
  fn_part8 (F := F) main_arg0 main_arg1 main_arg2 main_arg3 main_v142 main_v146 main_v152 main_v156

def fn_part6 {F : FTy → Type} [FloatOps F] (main_arg0 : FVec F S131072x3 .f32) (main_arg1 : FVec F S131072x3 .f32) (main_arg2 : FVec F S131072 .f32) (main_arg3 : FVec F S131072 .f32) (main_v104 : IVec S131072 1) (main_v106 : FVec F S131072 .f32) (main_v110 : FVec F S131072x3 .f32) (main_v116 : FVec F S131072 .f32) (main_v117 : FVec F S131072 .f32) : IVec S131072 1 × IVec S131072x3 1 × IVec S131072 1 × IVec S131072 1 :=
  let main_cst_25 : FVec F S_ .f32 := constant S_ .f32 0x3851B717#32
  let main_v118 : FVec F S131072 .f32 := broadcastInDim S131072 ![] bcast_S_S131072 main_cst_25
  let main_v119 : IVec S131072 1 := cmpf .ogt main_v117 main_v118
  let main_v120 : IVec S131072 1 := andi main_v104 main_v119
  let main_v121 : IVec S131072 1 := cmpf .olt main_v106 main_arg3
  let main_v122 : IVec S131072 1 := andi main_v120 main_v121
  let main_cst_26 : FVec F S_ .f32 := constant S_ .f32 0x00000000#32
  let main_v123 : FVec F S131072 .f32 := fn_where (F := F) main_v122 main_v116 main_cst_26
  let main_v124 : FVec F S131072 .f32 := addf main_v106 main_v123
  let main_v125 : FVec F S131072x1 .f32 := broadcastInDim S131072x1 ![0] bcast_S131072_S131072x1_0 main_v123
  let main_v126 : FVec F S131072x3 .f32 := broadcastInDim S131072x3 ![0, 1] bcast_S131072x1_S131072x3_0_1 main_v125
  let main_v127 : FVec F S131072x3 .f32 := mulf main_arg1 main_v126
  let main_v128 : FVec F S131072x3 .f32 := addf main_v110 main_v127
  let main_v129 : FVec F S131072x3 .f32 := mulf main_v128 main_v128
  let main_cst_27 : FVec F S_ .f32 := constant S_ .f32 0x00000000#32
  let main_v130 : FVec F S131072 .f32 := (fun x v => Host.reduceAdd x v reducesTo_S131072x3_S131072_d1 h_S_) main_v129 main_cst_27
  let main_v131 : FVec F S131072 .f32 := Host.sqrt main_v130
  let main_cst_28 : FVec F S_ .f32 := constant S_ .f32 0x3F800000#32
  let main_v132 : FVec F S131072 .f32 := broadcastInDim S131072 ![] bcast_S_S131072 main_cst_28
  let main_v133 : FVec F S131072 .f32 := subf main_v131 main_v132
  let main_v134 : FVec F S131072 .f32 := fn_where_0 (F := F) main_v122 main_v133 main_v116
  let main_v135 : FVec F S131072 .f32 := Host.absf main_v134
  let main_cst_29 : FVec F S_ .f32 := constant S_ .f32 0x3851B717#32
  let main_v136 : FVec F S131072 .f32 := broadcastInDim S131072 ![] bcast_S_S131072 main_cst_29
  fn_part7 (F := F) main_arg0 main_arg1 main_arg2 main_arg3 main_v122 main_v124 main_v128 main_v134 main_v135 main_v136

def fn_part5 {F : FTy → Type} [FloatOps F] (main_arg0 : FVec F S131072x3 .f32) (main_arg1 : FVec F S131072x3 .f32) (main_arg2 : FVec F S131072 .f32) (main_arg3 : FVec F S131072 .f32) (main_v80 : FVec F S131072 .f32) (main_v86 : IVec S131072 1) (main_v88 : FVec F S131072 .f32) (main_v92 : FVec F S131072x3 .f32) (main_v97 : FVec F S131072 .f32) : IVec S131072 1 × IVec S131072x3 1 × IVec S131072 1 × IVec S131072 1 :=
  let main_v98 : FVec F S131072 .f32 := fn_where_0 (F := F) main_v86 main_v97 main_v80
  let main_v99 : FVec F S131072 .f32 := Host.absf main_v98
  let main_cst_21 : FVec F S_ .f32 := constant S_ .f32 0x3851B717#32
  let main_v100 : FVec F S131072 .f32 := broadcastInDim S131072 ![] bcast_S_S131072 main_cst_21
  let main_v101 : IVec S131072 1 := cmpf .ogt main_v99 main_v100
  let main_v102 : IVec S131072 1 := andi main_v86 main_v101
  let main_v103 : IVec S131072 1 := cmpf .olt main_v88 main_arg3
  let main_v104 : IVec S131072 1 := andi main_v102 main_v103
  let main_cst_22 : FVec F S_ .f32 := constant S_ .f32 0x00000000#32
  let main_v105 : FVec F S131072 .f32 := fn_where (F := F) main_v104 main_v98 main_cst_22
  let main_v106 : FVec F S131072 .f32 := addf main_v88 main_v105
  let main_v107 : FVec F S131072x1 .f32 := broadcastInDim S131072x1 ![0] bcast_S131072_S131072x1_0 main_v105
  let main_v108 : FVec F S131072x3 .f32 := broadcastInDim S131072x3 ![0, 1] bcast_S131072x1_S131072x3_0_1 main_v107
  let main_v109 : FVec F S131072x3 .f32 := mulf main_arg1 main_v108
  let main_v110 : FVec F S131072x3 .f32 := addf main_v92 main_v109
  let main_v111 : FVec F S131072x3 .f32 := mulf main_v110 main_v110
  let main_cst_23 : FVec F S_ .f32 := constant S_ .f32 0x00000000#32
  let main_v112 : FVec F S131072 .f32 := (fun x v => Host.reduceAdd x v reducesTo_S131072x3_S131072_d1 h_S_) main_v111 main_cst_23
  let main_v113 : FVec F S131072 .f32 := Host.sqrt main_v112
  let main_cst_24 : FVec F S_ .f32 := constant S_ .f32 0x3F800000#32
  let main_v114 : FVec F S131072 .f32 := broadcastInDim S131072 ![] bcast_S_S131072 main_cst_24
  let main_v115 : FVec F S131072 .f32 := subf main_v113 main_v114
  let main_v116 : FVec F S131072 .f32 := fn_where_0 (F := F) main_v104 main_v115 main_v98
  let main_v117 : FVec F S131072 .f32 := Host.absf main_v116
  fn_part6 (F := F) main_arg0 main_arg1 main_arg2 main_arg3 main_v104 main_v106 main_v110 main_v116 main_v117

def fn_part4 {F : FTy → Type} [FloatOps F] (main_arg0 : FVec F S131072x3 .f32) (main_arg1 : FVec F S131072x3 .f32) (main_arg2 : FVec F S131072 .f32) (main_arg3 : FVec F S131072 .f32) (main_v62 : FVec F S131072 .f32) (main_v68 : IVec S131072 1) (main_v70 : FVec F S131072 .f32) (main_v74 : FVec F S131072x3 .f32) (main_v77 : FVec F S131072 .f32) (main_cst_16 : FVec F S_ .f32) : IVec S131072 1 × IVec S131072x3 1 × IVec S131072 1 × IVec S131072 1 :=
  let main_v78 : FVec F S131072 .f32 := broadcastInDim S131072 ![] bcast_S_S131072 main_cst_16
  let main_v79 : FVec F S131072 .f32 := subf main_v77 main_v78
  let main_v80 : FVec F S131072 .f32 := fn_where_0 (F := F) main_v68 main_v79 main_v62
  let main_v81 : FVec F S131072 .f32 := Host.absf main_v80
  let main_cst_17 : FVec F S_ .f32 := constant S_ .f32 0x3851B717#32
  let main_v82 : FVec F S131072 .f32 := broadcastInDim S131072 ![] bcast_S_S131072 main_cst_17
  let main_v83 : IVec S131072 1 := cmpf .ogt main_v81 main_v82
  let main_v84 : IVec S131072 1 := andi main_v68 main_v83
  let main_v85 : IVec S131072 1 := cmpf .olt main_v70 main_arg3
  let main_v86 : IVec S131072 1 := andi main_v84 main_v85
  let main_cst_18 : FVec F S_ .f32 := constant S_ .f32 0x00000000#32
  let main_v87 : FVec F S131072 .f32 := fn_where (F := F) main_v86 main_v80 main_cst_18
  let main_v88 : FVec F S131072 .f32 := addf main_v70 main_v87
  let main_v89 : FVec F S131072x1 .f32 := broadcastInDim S131072x1 ![0] bcast_S131072_S131072x1_0 main_v87
  let main_v90 : FVec F S131072x3 .f32 := broadcastInDim S131072x3 ![0, 1] bcast_S131072x1_S131072x3_0_1 main_v89
  let main_v91 : FVec F S131072x3 .f32 := mulf main_arg1 main_v90
  let main_v92 : FVec F S131072x3 .f32 := addf main_v74 main_v91
  let main_v93 : FVec F S131072x3 .f32 := mulf main_v92 main_v92
  let main_cst_19 : FVec F S_ .f32 := constant S_ .f32 0x00000000#32
  let main_v94 : FVec F S131072 .f32 := (fun x v => Host.reduceAdd x v reducesTo_S131072x3_S131072_d1 h_S_) main_v93 main_cst_19
  let main_v95 : FVec F S131072 .f32 := Host.sqrt main_v94
  let main_cst_20 : FVec F S_ .f32 := constant S_ .f32 0x3F800000#32
  let main_v96 : FVec F S131072 .f32 := broadcastInDim S131072 ![] bcast_S_S131072 main_cst_20
  let main_v97 : FVec F S131072 .f32 := subf main_v95 main_v96
  fn_part5 (F := F) main_arg0 main_arg1 main_arg2 main_arg3 main_v80 main_v86 main_v88 main_v92 main_v97

def fn_part3 {F : FTy → Type} [FloatOps F] (main_arg0 : FVec F S131072x3 .f32) (main_arg1 : FVec F S131072x3 .f32) (main_arg2 : FVec F S131072 .f32) (main_arg3 : FVec F S131072 .f32) (main_v44 : FVec F S131072 .f32) (main_v50 : IVec S131072 1) (main_v52 : FVec F S131072 .f32) (main_v56 : FVec F S131072x3 .f32) (main_v58 : FVec F S131072 .f32) : IVec S131072 1 × IVec S131072x3 1 × IVec S131072 1 × IVec S131072 1 :=
  let main_v59 : FVec F S131072 .f32 := Host.sqrt main_v58
  let main_cst_12 : FVec F S_ .f32 := constant S_ .f32 0x3F800000#32
  let main_v60 : FVec F S131072 .f32 := broadcastInDim S131072 ![] bcast_S_S131072 main_cst_12
  let main_v61 : FVec F S131072 .f32 := subf main_v59 main_v60
  let main_v62 : FVec F S131072 .f32 := fn_where_0 (F := F) main_v50 main_v61 main_v44
  let main_v63 : FVec F S131072 .f32 := Host.absf main_v62
  let main_cst_13 : FVec F S_ .f32 := constant S_ .f32 0x3851B717#32
  let main_v64 : FVec F S131072 .f32 := broadcastInDim S131072 ![] bcast_S_S131072 main_cst_13
  let main_v65 : IVec S131072 1 := cmpf .ogt main_v63 main_v64
  let main_v66 : IVec S131072 1 := andi main_v50 main_v65
  let main_v67 : IVec S131072 1 := cmpf .olt main_v52 main_arg3
  let main_v68 : IVec S131072 1 := andi main_v66 main_v67
  let main_cst_14 : FVec F S_ .f32 := constant S_ .f32 0x00000000#32
  let main_v69 : FVec F S131072 .f32 := fn_where (F := F) main_v68 main_v62 main_cst_14
  let main_v70 : FVec F S131072 .f32 := addf main_v52 main_v69
  let main_v71 : FVec F S131072x1 .f32 := broadcastInDim S131072x1 ![0] bcast_S131072_S131072x1_0 main_v69
  let main_v72 : FVec F S131072x3 .f32 := broadcastInDim S131072x3 ![0, 1] bcast_S131072x1_S131072x3_0_1 main_v71
  let main_v73 : FVec F S131072x3 .f32 := mulf main_arg1 main_v72
  let main_v74 : FVec F S131072x3 .f32 := addf main_v56 main_v73
  let main_v75 : FVec F S131072x3 .f32 := mulf main_v74 main_v74
  let main_cst_15 : FVec F S_ .f32 := constant S_ .f32 0x00000000#32
  let main_v76 : FVec F S131072 .f32 := (fun x v => Host.reduceAdd x v reducesTo_S131072x3_S131072_d1 h_S_) main_v75 main_cst_15
  let main_v77 : FVec F S131072 .f32 := Host.sqrt main_v76
  let main_cst_16 : FVec F S_ .f32 := constant S_ .f32 0x3F800000#32
  fn_part4 (F := F) main_arg0 main_arg1 main_arg2 main_arg3 main_v62 main_v68 main_v70 main_v74 main_v77 main_cst_16

def fn_part2 {F : FTy → Type} [FloatOps F] (main_arg0 : FVec F S131072x3 .f32) (main_arg1 : FVec F S131072x3 .f32) (main_arg2 : FVec F S131072 .f32) (main_arg3 : FVec F S131072 .f32) (main_v26 : FVec F S131072 .f32) (main_v32 : IVec S131072 1) (main_v34 : FVec F S131072 .f32) (main_v38 : FVec F S131072x3 .f32) (main_v39 : FVec F S131072x3 .f32) : IVec S131072 1 × IVec S131072x3 1 × IVec S131072 1 × IVec S131072 1 :=
  let main_cst_7 : FVec F S_ .f32 := constant S_ .f32 0x00000000#32
  let main_v40 : FVec F S131072 .f32 := (fun x v => Host.reduceAdd x v reducesTo_S131072x3_S131072_d1 h_S_) main_v39 main_cst_7
  let main_v41 : FVec F S131072 .f32 := Host.sqrt main_v40
  let main_cst_8 : FVec F S_ .f32 := constant S_ .f32 0x3F800000#32
  let main_v42 : FVec F S131072 .f32 := broadcastInDim S131072 ![] bcast_S_S131072 main_cst_8
  let main_v43 : FVec F S131072 .f32 := subf main_v41 main_v42
  let main_v44 : FVec F S131072 .f32 := fn_where_0 (F := F) main_v32 main_v43 main_v26
  let main_v45 : FVec F S131072 .f32 := Host.absf main_v44
  let main_cst_9 : FVec F S_ .f32 := constant S_ .f32 0x3851B717#32
  let main_v46 : FVec F S131072 .f32 := broadcastInDim S131072 ![] bcast_S_S131072 main_cst_9
  let main_v47 : IVec S131072 1 := cmpf .ogt main_v45 main_v46
  let main_v48 : IVec S131072 1 := andi main_v32 main_v47
  let main_v49 : IVec S131072 1 := cmpf .olt main_v34 main_arg3
  let main_v50 : IVec S131072 1 := andi main_v48 main_v49
  let main_cst_10 : FVec F S_ .f32 := constant S_ .f32 0x00000000#32
  let main_v51 : FVec F S131072 .f32 := fn_where (F := F) main_v50 main_v44 main_cst_10
  let main_v52 : FVec F S131072 .f32 := addf main_v34 main_v51
  let main_v53 : FVec F S131072x1 .f32 := broadcastInDim S131072x1 ![0] bcast_S131072_S131072x1_0 main_v51
  let main_v54 : FVec F S131072x3 .f32 := broadcastInDim S131072x3 ![0, 1] bcast_S131072x1_S131072x3_0_1 main_v53
  let main_v55 : FVec F S131072x3 .f32 := mulf main_arg1 main_v54
  let main_v56 : FVec F S131072x3 .f32 := addf main_v38 main_v55
  let main_v57 : FVec F S131072x3 .f32 := mulf main_v56 main_v56
  let main_cst_11 : FVec F S_ .f32 := constant S_ .f32 0x00000000#32
  let main_v58 : FVec F S131072 .f32 := (fun x v => Host.reduceAdd x v reducesTo_S131072x3_S131072_d1 h_S_) main_v57 main_cst_11
  fn_part3 (F := F) main_arg0 main_arg1 main_arg2 main_arg3 main_v44 main_v50 main_v52 main_v56 main_v58

def fn_part1 {F : FTy → Type} [FloatOps F] (main_arg0 : FVec F S131072x3 .f32) (main_arg1 : FVec F S131072x3 .f32) (main_arg2 : FVec F S131072 .f32) (main_arg3 : FVec F S131072 .f32) (main_v3 : FVec F S131072x3 .f32) (main_v8 : FVec F S131072 .f32) (main_v14 : IVec S131072 1) (main_v16 : FVec F S131072 .f32) (main_v19 : FVec F S131072x3 .f32) : IVec S131072 1 × IVec S131072x3 1 × IVec S131072 1 × IVec S131072 1 :=
  let main_v20 : FVec F S131072x3 .f32 := addf main_v3 main_v19
  let main_v21 : FVec F S131072x3 .f32 := mulf main_v20 main_v20
  let main_cst_3 : FVec F S_ .f32 := constant S_ .f32 0x00000000#32
  let main_v22 : FVec F S131072 .f32 := (fun x v => Host.reduceAdd x v reducesTo_S131072x3_S131072_d1 h_S_) main_v21 main_cst_3
  let main_v23 : FVec F S131072 .f32 := Host.sqrt main_v22
  let main_cst_4 : FVec F S_ .f32 := constant S_ .f32 0x3F800000#32
  let main_v24 : FVec F S131072 .f32 := broadcastInDim S131072 ![] bcast_S_S131072 main_cst_4
  let main_v25 : FVec F S131072 .f32 := subf main_v23 main_v24
  let main_v26 : FVec F S131072 .f32 := fn_where_0 (F := F) main_v14 main_v25 main_v8
  let main_v27 : FVec F S131072 .f32 := Host.absf main_v26
  let main_cst_5 : FVec F S_ .f32 := constant S_ .f32 0x3851B717#32
  let main_v28 : FVec F S131072 .f32 := broadcastInDim S131072 ![] bcast_S_S131072 main_cst_5
  let main_v29 : IVec S131072 1 := cmpf .ogt main_v27 main_v28
  let main_v30 : IVec S131072 1 := andi main_v14 main_v29
  let main_v31 : IVec S131072 1 := cmpf .olt main_v16 main_arg3
  let main_v32 : IVec S131072 1 := andi main_v30 main_v31
  let main_cst_6 : FVec F S_ .f32 := constant S_ .f32 0x00000000#32
  let main_v33 : FVec F S131072 .f32 := fn_where (F := F) main_v32 main_v26 main_cst_6
  let main_v34 : FVec F S131072 .f32 := addf main_v16 main_v33
  let main_v35 : FVec F S131072x1 .f32 := broadcastInDim S131072x1 ![0] bcast_S131072_S131072x1_0 main_v33
  let main_v36 : FVec F S131072x3 .f32 := broadcastInDim S131072x3 ![0, 1] bcast_S131072x1_S131072x3_0_1 main_v35
  let main_v37 : FVec F S131072x3 .f32 := mulf main_arg1 main_v36
  let main_v38 : FVec F S131072x3 .f32 := addf main_v20 main_v37
  let main_v39 : FVec F S131072x3 .f32 := mulf main_v38 main_v38
  fn_part2 (F := F) main_arg0 main_arg1 main_arg2 main_arg3 main_v26 main_v32 main_v34 main_v38 main_v39

def fn {F : FTy → Type} [FloatOps F] (main_arg0 : FVec F S131072x3 .f32) (main_arg1 : FVec F S131072x3 .f32) (main_arg2 : FVec F S131072 .f32) (main_arg3 : FVec F S131072 .f32) (main_arg4 : IVec S131072 1) : IVec S131072 1 × IVec S131072x3 1 × IVec S131072 1 × IVec S131072 1 :=
  let main_v0 : FVec F S131072x1 .f32 := broadcastInDim S131072x1 ![0] bcast_S131072_S131072x1_0 main_arg2
  let main_v1 : FVec F S131072x3 .f32 := broadcastInDim S131072x3 ![0, 1] bcast_S131072x1_S131072x3_0_1 main_v0
  let main_v2 : FVec F S131072x3 .f32 := mulf main_arg1 main_v1
  let main_v3 : FVec F S131072x3 .f32 := addf main_arg0 main_v2
  let main_v4 : FVec F S131072x3 .f32 := mulf main_v3 main_v3
  let main_cst : FVec F S_ .f32 := constant S_ .f32 0x00000000#32
  let main_v5 : FVec F S131072 .f32 := (fun x v => Host.reduceAdd x v reducesTo_S131072x3_S131072_d1 h_S_) main_v4 main_cst
  let main_v6 : FVec F S131072 .f32 := Host.sqrt main_v5
  let main_cst_0 : FVec F S_ .f32 := constant S_ .f32 0x3F800000#32
  let main_v7 : FVec F S131072 .f32 := broadcastInDim S131072 ![] bcast_S_S131072 main_cst_0
  let main_v8 : FVec F S131072 .f32 := subf main_v6 main_v7
  let main_v9 : FVec F S131072 .f32 := Host.absf main_v8
  let main_cst_1 : FVec F S_ .f32 := constant S_ .f32 0x3851B717#32
  let main_v10 : FVec F S131072 .f32 := broadcastInDim S131072 ![] bcast_S_S131072 main_cst_1
  let main_v11 : IVec S131072 1 := cmpf .ogt main_v9 main_v10
  let main_v12 : IVec S131072 1 := andi main_arg4 main_v11
  let main_v13 : IVec S131072 1 := cmpf .olt main_arg2 main_arg3
  let main_v14 : IVec S131072 1 := andi main_v12 main_v13
  let main_cst_2 : FVec F S_ .f32 := constant S_ .f32 0x00000000#32
  let main_v15 : FVec F S131072 .f32 := fn_where (F := F) main_v14 main_v8 main_cst_2
  let main_v16 : FVec F S131072 .f32 := addf main_arg2 main_v15
  let main_v17 : FVec F S131072x1 .f32 := broadcastInDim S131072x1 ![0] bcast_S131072_S131072x1_0 main_v15
  let main_v18 : FVec F S131072x3 .f32 := broadcastInDim S131072x3 ![0, 1] bcast_S131072x1_S131072x3_0_1 main_v17
  let main_v19 : FVec F S131072x3 .f32 := mulf main_arg1 main_v18
  fn_part1 (F := F) main_arg0 main_arg1 main_arg2 main_arg3 main_v3 main_v8 main_v14 main_v16 main_v19
-- ==== Pre_rays_outside.lean ====
abbrev S131072x3 : Shape := ⟨2, ![131072, 3]⟩
abbrev S131072 : Shape := ⟨1, ![131072]⟩
abbrev S_ : Shape := ⟨0, ![]⟩

class Facts : Prop where
  reducesTo_S131072x3_S131072_d1 : S131072x3.ReducesTo [1] S131072
  h_S_ : 0 < S_.numel
  bcast_S_S131072 : S_.BroadcastsInDim S131072 (![] : Fin 0 → Fin S131072.rank)

variable [Facts]

def fn_part1 {F : FTy → Type} [FloatOps F] (main_arg4 : IVec S131072 1) (main_v14 : IVec S131072 1) (main_v16 : IVec S131072 1) : IVec S131072 1 :=
  let main_v17 : IVec S131072 1 := andi main_v14 main_v16
  let main_v18 : IVec S131072 1 := andi main_v17 main_arg4
  main_v18

def fn {F : FTy → Type} [FloatOps F] (main_arg0 : FVec F S131072x3 .f32) (main_arg1 : FVec F S131072x3 .f32) (main_arg2 : FVec F S131072 .f32) (main_arg3 : FVec F S131072 .f32) (main_arg4 : IVec S131072 1) : IVec S131072 1 :=
  let main_v0 : FVec F S131072x3 .f32 := mulf main_arg0 main_arg0
  let main_cst : FVec F S_ .f32 := constant S_ .f32 0x00000000#32
  let main_v1 : FVec F S131072 .f32 := (fun x v => Host.reduceAdd x v reducesTo_S131072x3_S131072_d1 h_S_) main_v0 main_cst
  let main_v2 : FVec F S131072x3 .f32 := mulf main_arg1 main_arg1
  let main_cst_0 : FVec F S_ .f32 := constant S_ .f32 0x00000000#32
  let main_v3 : FVec F S131072 .f32 := (fun x v => Host.reduceAdd x v reducesTo_S131072x3_S131072_d1 h_S_) main_v2 main_cst_0
  let main_cst_1 : FVec F S_ .f32 := constant S_ .f32 0x3F800000#32
  let main_v4 : FVec F S131072 .f32 := broadcastInDim S131072 ![] bcast_S_S131072 main_cst_1
  let main_v5 : IVec S131072 1 := cmpf .oge main_v1 main_v4
  let main_cst_2 : FVec F S_ .f32 := constant S_ .f32 0x7F800000#32
  let main_v6 : FVec F S131072 .f32 := broadcastInDim S131072 ![] bcast_S_S131072 main_cst_2
  let main_v7 : IVec S131072 1 := cmpf .olt main_v1 main_v6
  let main_v8 : IVec S131072 1 := andi main_v5 main_v7
  let main_cst_3 : FVec F S_ .f32 := constant S_ .f32 0x7F800000#32
  let main_v9 : FVec F S131072 .f32 := broadcastInDim S131072 ![] bcast_S_S131072 main_cst_3
  let main_v10 : IVec S131072 1 := cmpf .olt main_v3 main_v9
  let main_v11 : IVec S131072 1 := andi main_v8 main_v10
  let main_cst_4 : FVec F S_ .f32 := constant S_ .f32 0x00000000#32
  let main_v12 : FVec F S131072 .f32 := broadcastInDim S131072 ![] bcast_S_S131072 main_cst_4
  let main_v13 : IVec S131072 1 := cmpf .oeq main_arg2 main_v12
  let main_v14 : IVec S131072 1 := andi main_v11 main_v13
  let main_cst_5 : FVec F S_ .f32 := constant S_ .f32 0x40C00000#32
  let main_v15 : FVec F S131072 .f32 := broadcastInDim S131072 ![] bcast_S_S131072 main_cst_5
  let main_v16 : IVec S131072 1 := cmpf .oeq main_arg3 main_v15
  fn_part1 (F := F) main_arg4 main_v14 main_v16
-- ==== Kernel.lean ====
abbrev S131072x3 : Shape := ⟨2, ![131072, 3]⟩
abbrev S131072 : Shape := ⟨1, ![131072]⟩
abbrev S3x131072 : Shape := ⟨2, ![3, 131072]⟩
abbrev S3x128x1024 : Shape := ⟨3, ![3, 128, 1024]⟩
abbrev S128x1024 : Shape := ⟨2, ![128, 1024]⟩
abbrev S_ : Shape := ⟨0, ![]⟩
abbrev S3x16x1024 : Shape := ⟨3, ![3, 16, 1024]⟩
abbrev S16x1024 : Shape := ⟨2, ![16, 1024]⟩
abbrev S8x128 : Shape := ⟨2, ![8, 128]⟩
abbrev S1x16x1024 : Shape := ⟨3, ![1, 16, 1024]⟩

abbrev nBuf : Space → Nat
  | .hbm => 22
  | .vmem => 13
  | .smem => 0
  | _ => 0

abbrev bufTy : (tb : Table) → Fin (tcTables nBuf tb) → BufTy
  | .hbm, ⟨0, _⟩ => ⟨S131072x3, .f32⟩
  | .hbm, ⟨1, _⟩ => ⟨S131072x3, .f32⟩
  | .hbm, ⟨2, _⟩ => ⟨S131072, .f32⟩
  | .hbm, ⟨3, _⟩ => ⟨S131072, .f32⟩
  | .hbm, ⟨4, _⟩ => ⟨S131072, .i1⟩
  | .hbm, ⟨5, _⟩ => ⟨S3x131072, .f32⟩
  | .hbm, ⟨6, _⟩ => ⟨S3x128x1024, .f32⟩
  | .hbm, ⟨7, _⟩ => ⟨S3x131072, .f32⟩
  | .hbm, ⟨8, _⟩ => ⟨S3x128x1024, .f32⟩
  | .hbm, ⟨9, _⟩ => ⟨S128x1024, .i32⟩
  | .hbm, ⟨10, _⟩ => ⟨S3x128x1024, .f32⟩
  | .hbm, ⟨11, _⟩ => ⟨S128x1024, .f32⟩
  | .hbm, ⟨12, _⟩ => ⟨S128x1024, .f32⟩
  | .hbm, ⟨13, _⟩ => ⟨S_, .i32⟩
  | .hbm, ⟨14, _⟩ => ⟨S128x1024, .i32⟩
  | .hbm, ⟨15, _⟩ => ⟨S128x1024, .i1⟩
  | .hbm, ⟨16, _⟩ => ⟨S128x1024, .i1⟩
  | .hbm, ⟨17, _⟩ => ⟨S131072, .i1⟩
  | .hbm, ⟨18, _⟩ => ⟨S3x131072, .f32⟩
  | .hbm, ⟨19, _⟩ => ⟨S131072x3, .f32⟩
  | .hbm, ⟨20, _⟩ => ⟨S131072, .f32⟩
  | .hbm, ⟨21, _⟩ => ⟨S131072, .f32⟩
  | .local _ .vmem, ⟨0, _⟩ => ⟨S3x16x1024, .f32⟩
  | .local _ .vmem, ⟨1, _⟩ => ⟨S3x16x1024, .f32⟩
  | .local _ .vmem, ⟨2, _⟩ => ⟨S3x16x1024, .f32⟩
  | .local _ .vmem, ⟨3, _⟩ => ⟨S3x16x1024, .f32⟩
  | .local _ .vmem, ⟨4, _⟩ => ⟨S16x1024, .i32⟩
  | .local _ .vmem, ⟨5, _⟩ => ⟨S16x1024, .i32⟩
  | .local _ .vmem, ⟨6, _⟩ => ⟨S3x16x1024, .f32⟩
  | .local _ .vmem, ⟨7, _⟩ => ⟨S3x16x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S8x128, .f32⟩
  | _, _ => ⟨S131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4_0 : Ref sig .tc := ⟨.hbm, 9, rfl⟩
abbrev main_call0_v4_1 : Ref sig .tc := ⟨.hbm, 10, rfl⟩
abbrev main_call0_v4_2 : Ref sig .tc := ⟨.hbm, 11, rfl⟩
abbrev main_call0_v4_3 : Ref sig .tc := ⟨.hbm, 12, rfl⟩
abbrev main_call0_c : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_v0_0 : Ref sig .tc := ⟨.hbm, 17, rfl⟩
abbrev main_call0_v9 : Ref sig .tc := ⟨.hbm, 18, rfl⟩
abbrev main_v0_1 : Ref sig .tc := ⟨.hbm, 19, rfl⟩
abbrev main_v0_2 : Ref sig .tc := ⟨.hbm, 20, rfl⟩
abbrev main_v0_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "inv127" => some ((127⁻¹ : ℝ) : EReal)
  | _ => none
-- ==== ReferenceIdeal.lean ====
abbrev S131072x3 : Shape := ⟨2, ![131072, 3]⟩
abbrev S131072 : Shape := ⟨1, ![131072]⟩
abbrev S131072x1 : Shape := ⟨2, ![131072, 1]⟩
abbrev S_ : Shape := ⟨0, ![]⟩
abbrev S127 : Shape := ⟨1, ![127]⟩
abbrev S1 : Shape := ⟨1, ![1]⟩
abbrev S128 : Shape := ⟨1, ![128]⟩
abbrev S1x128 : Shape := ⟨2, ![1, 128]⟩
abbrev S131072x128 : Shape := ⟨2, ![131072, 128]⟩
abbrev S131072x1x3 : Shape := ⟨3, ![131072, 1, 3]⟩
abbrev S131072x128x1 : Shape := ⟨3, ![131072, 128, 1]⟩
abbrev S131072x128x3 : Shape := ⟨3, ![131072, 128, 3]⟩
abbrev S131072x1x1 : Shape := ⟨3, ![131072, 1, 1]⟩
abbrev S1x1x1 : Shape := ⟨3, ![1, 1, 1]⟩

abbrev nBuf : Space → Nat
  | .hbm => 1445
  | .vmem => 0
  | .smem => 0
  | _ => 0

abbrev hbmTy0_0 (i : Nat) : BufTy := match i % 128 with
  | 0 => ⟨S131072x3, .f32⟩
  | 1 => ⟨S131072x3, .f32⟩
  | 2 => ⟨S131072, .f32⟩
  | 3 => ⟨S131072, .f32⟩
  | 4 => ⟨S131072, .i1⟩
  | 5 => ⟨S131072x1, .f32⟩
  | 6 => ⟨S131072x3, .f32⟩
  | 7 => ⟨S131072x3, .f32⟩
  | 8 => ⟨S131072x3, .f32⟩
  | 9 => ⟨S131072x3, .f32⟩
  | 10 => ⟨S_, .f32⟩
  | 11 => ⟨S131072, .f32⟩
  | 12 => ⟨S131072, .f32⟩
  | 13 => ⟨S_, .f32⟩
  | 14 => ⟨S131072, .f32⟩
  | 15 => ⟨S131072, .f32⟩
  | 16 => ⟨S131072, .f32⟩
  | 17 => ⟨S_, .f32⟩
  | 18 => ⟨S131072, .f32⟩
  | 19 => ⟨S131072, .i1⟩
  | 20 => ⟨S131072, .i1⟩
  | 21 => ⟨S131072, .i1⟩
  | 22 => ⟨S131072, .i1⟩
  | 23 => ⟨S_, .f32⟩
  | 24 => ⟨S_, .f32⟩
  | 25 => ⟨S131072, .f32⟩
  | 26 => ⟨S131072, .f32⟩
  | 27 => ⟨S131072, .f32⟩
  | 28 => ⟨S131072x1, .f32⟩
  | 29 => ⟨S131072x3, .f32⟩
  | 30 => ⟨S131072x3, .f32⟩
  | 31 => ⟨S131072x3, .f32⟩
  | 32 => ⟨S131072x3, .f32⟩
  | 33 => ⟨S_, .f32⟩
  | 34 => ⟨S131072, .f32⟩
  | 35 => ⟨S131072, .f32⟩
  | 36 => ⟨S_, .f32⟩
  | 37 => ⟨S131072, .f32⟩
  | 38 => ⟨S131072, .f32⟩
  | 39 => ⟨S131072, .f32⟩
  | 40 => ⟨S131072, .f32⟩
  | 41 => ⟨S_, .f32⟩
  | 42 => ⟨S131072, .f32⟩
  | 43 => ⟨S131072, .i1⟩
  | 44 => ⟨S131072, .i1⟩
  | 45 => ⟨S131072, .i1⟩
  | 46 => ⟨S131072, .i1⟩
  | 47 => ⟨S_, .f32⟩
  | 48 => ⟨S_, .f32⟩
  | 49 => ⟨S131072, .f32⟩
  | 50 => ⟨S131072, .f32⟩
  | 51 => ⟨S131072, .f32⟩
  | 52 => ⟨S131072x1, .f32⟩
  | 53 => ⟨S131072x3, .f32⟩
  | 54 => ⟨S131072x3, .f32⟩
  | 55 => ⟨S131072x3, .f32⟩
  | 56 => ⟨S131072x3, .f32⟩
  | 57 => ⟨S_, .f32⟩
  | 58 => ⟨S131072, .f32⟩
  | 59 => ⟨S131072, .f32⟩
  | 60 => ⟨S_, .f32⟩
  | 61 => ⟨S131072, .f32⟩
  | 62 => ⟨S131072, .f32⟩
  | 63 => ⟨S131072, .f32⟩
  | 64 => ⟨S131072, .f32⟩
  | 65 => ⟨S_, .f32⟩
  | 66 => ⟨S131072, .f32⟩
  | 67 => ⟨S131072, .i1⟩
  | 68 => ⟨S131072, .i1⟩
  | 69 => ⟨S131072, .i1⟩
  | 70 => ⟨S131072, .i1⟩
  | 71 => ⟨S_, .f32⟩
  | 72 => ⟨S_, .f32⟩
  | 73 => ⟨S131072, .f32⟩
  | 74 => ⟨S131072, .f32⟩
  | 75 => ⟨S131072, .f32⟩
  | 76 => ⟨S131072x1, .f32⟩
  | 77 => ⟨S131072x3, .f32⟩
  | 78 => ⟨S131072x3, .f32⟩
  | 79 => ⟨S131072x3, .f32⟩
  | 80 => ⟨S131072x3, .f32⟩
  | 81 => ⟨S_, .f32⟩
  | 82 => ⟨S131072, .f32⟩
  | 83 => ⟨S131072, .f32⟩
  | 84 => ⟨S_, .f32⟩
  | 85 => ⟨S131072, .f32⟩
  | 86 => ⟨S131072, .f32⟩
  | 87 => ⟨S131072, .f32⟩
  | 88 => ⟨S131072, .f32⟩
  | 89 => ⟨S_, .f32⟩
  | 90 => ⟨S131072, .f32⟩
  | 91 => ⟨S131072, .i1⟩
  | 92 => ⟨S131072, .i1⟩
  | 93 => ⟨S131072, .i1⟩
  | 94 => ⟨S131072, .i1⟩
  | 95 => ⟨S_, .f32⟩
  | 96 => ⟨S_, .f32⟩
  | 97 => ⟨S131072, .f32⟩
  | 98 => ⟨S131072, .f32⟩
  | 99 => ⟨S131072, .f32⟩
  | 100 => ⟨S131072x1, .f32⟩
  | 101 => ⟨S131072x3, .f32⟩
  | 102 => ⟨S131072x3, .f32⟩
  | 103 => ⟨S131072x3, .f32⟩
  | 104 => ⟨S131072x3, .f32⟩
  | 105 => ⟨S_, .f32⟩
  | 106 => ⟨S131072, .f32⟩
  | 107 => ⟨S131072, .f32⟩
  | 108 => ⟨S_, .f32⟩
  | 109 => ⟨S131072, .f32⟩
  | 110 => ⟨S131072, .f32⟩
  | 111 => ⟨S131072, .f32⟩
  | 112 => ⟨S131072, .f32⟩
  | 113 => ⟨S_, .f32⟩
  | 114 => ⟨S131072, .f32⟩
  | 115 => ⟨S131072, .i1⟩
  | 116 => ⟨S131072, .i1⟩
  | 117 => ⟨S131072, .i1⟩
  | 118 => ⟨S131072, .i1⟩
  | 119 => ⟨S_, .f32⟩
  | 120 => ⟨S_, .f32⟩
  | 121 => ⟨S131072, .f32⟩
  | 122 => ⟨S131072, .f32⟩
  | 123 => ⟨S131072, .f32⟩
  | 124 => ⟨S131072x1, .f32⟩
  | 125 => ⟨S131072x3, .f32⟩
  | 126 => ⟨S131072x3, .f32⟩
  | 127 => ⟨S131072x3, .f32⟩
  | _ => ⟨S131072x3, .f32⟩

abbrev hbmTy0_1 (i : Nat) : BufTy := match i % 128 with
  | 0 => ⟨S131072x3, .f32⟩
  | 1 => ⟨S_, .f32⟩
  | 2 => ⟨S131072, .f32⟩
  | 3 => ⟨S131072, .f32⟩
  | 4 => ⟨S_, .f32⟩
  | 5 => ⟨S131072, .f32⟩
  | 6 => ⟨S131072, .f32⟩
  | 7 => ⟨S131072, .f32⟩
  | 8 => ⟨S131072, .f32⟩
  | 9 => ⟨S_, .f32⟩
  | 10 => ⟨S131072, .f32⟩
  | 11 => ⟨S131072, .i1⟩
  | 12 => ⟨S131072, .i1⟩
  | 13 => ⟨S131072, .i1⟩
  | 14 => ⟨S131072, .i1⟩
  | 15 => ⟨S_, .f32⟩
  | 16 => ⟨S_, .f32⟩
  | 17 => ⟨S131072, .f32⟩
  | 18 => ⟨S131072, .f32⟩
  | 19 => ⟨S131072, .f32⟩
  | 20 => ⟨S131072x1, .f32⟩
  | 21 => ⟨S131072x3, .f32⟩
  | 22 => ⟨S131072x3, .f32⟩
  | 23 => ⟨S131072x3, .f32⟩
  | 24 => ⟨S131072x3, .f32⟩
  | 25 => ⟨S_, .f32⟩
  | 26 => ⟨S131072, .f32⟩
  | 27 => ⟨S131072, .f32⟩
  | 28 => ⟨S_, .f32⟩
  | 29 => ⟨S131072, .f32⟩
  | 30 => ⟨S131072, .f32⟩
  | 31 => ⟨S131072, .f32⟩
  | 32 => ⟨S131072, .f32⟩
  | 33 => ⟨S_, .f32⟩
  | 34 => ⟨S131072, .f32⟩
  | 35 => ⟨S131072, .i1⟩
  | 36 => ⟨S131072, .i1⟩
  | 37 => ⟨S131072, .i1⟩
  | 38 => ⟨S131072, .i1⟩
  | 39 => ⟨S_, .f32⟩
  | 40 => ⟨S_, .f32⟩
  | 41 => ⟨S131072, .f32⟩
  | 42 => ⟨S131072, .f32⟩
  | 43 => ⟨S131072, .f32⟩
  | 44 => ⟨S131072x1, .f32⟩
  | 45 => ⟨S131072x3, .f32⟩
  | 46 => ⟨S131072x3, .f32⟩
  | 47 => ⟨S131072x3, .f32⟩
  | 48 => ⟨S131072x3, .f32⟩
  | 49 => ⟨S_, .f32⟩
  | 50 => ⟨S131072, .f32⟩
  | 51 => ⟨S131072, .f32⟩
  | 52 => ⟨S_, .f32⟩
  | 53 => ⟨S131072, .f32⟩
  | 54 => ⟨S131072, .f32⟩
  | 55 => ⟨S131072, .f32⟩
  | 56 => ⟨S131072, .f32⟩
  | 57 => ⟨S_, .f32⟩
  | 58 => ⟨S131072, .f32⟩
  | 59 => ⟨S131072, .i1⟩
  | 60 => ⟨S131072, .i1⟩
  | 61 => ⟨S131072, .i1⟩
  | 62 => ⟨S131072, .i1⟩
  | 63 => ⟨S_, .f32⟩
  | 64 => ⟨S_, .f32⟩
  | 65 => ⟨S131072, .f32⟩
  | 66 => ⟨S131072, .f32⟩
  | 67 => ⟨S131072, .f32⟩
  | 68 => ⟨S131072x1, .f32⟩
  | 69 => ⟨S131072x3, .f32⟩
  | 70 => ⟨S131072x3, .f32⟩
  | 71 => ⟨S131072x3, .f32⟩
  | 72 => ⟨S131072x3, .f32⟩
  | 73 => ⟨S_, .f32⟩
  | 74 => ⟨S131072, .f32⟩
  | 75 => ⟨S131072, .f32⟩
  | 76 => ⟨S_, .f32⟩
  | 77 => ⟨S131072, .f32⟩
  | 78 => ⟨S131072, .f32⟩
  | 79 => ⟨S131072, .f32⟩
  | 80 => ⟨S131072, .f32⟩
  | 81 => ⟨S_, .f32⟩
  | 82 => ⟨S131072, .f32⟩
  | 83 => ⟨S131072, .i1⟩
  | 84 => ⟨S131072, .i1⟩
  | 85 => ⟨S131072, .i1⟩
  | 86 => ⟨S131072, .i1⟩
  | 87 => ⟨S_, .f32⟩
  | 88 => ⟨S_, .f32⟩
  | 89 => ⟨S131072, .f32⟩
  | 90 => ⟨S131072, .f32⟩
  | 91 => ⟨S131072, .f32⟩
  | 92 => ⟨S131072x1, .f32⟩
  | 93 => ⟨S131072x3, .f32⟩
  | 94 => ⟨S131072x3, .f32⟩
  | 95 => ⟨S131072x3, .f32⟩
  | 96 => ⟨S131072x3, .f32⟩
  | 97 => ⟨S_, .f32⟩
  | 98 => ⟨S131072, .f32⟩
  | 99 => ⟨S131072, .f32⟩
  | 100 => ⟨S_, .f32⟩
  | 101 => ⟨S131072, .f32⟩
  | 102 => ⟨S131072, .f32⟩
  | 103 => ⟨S131072, .f32⟩
  | 104 => ⟨S131072, .f32⟩
  | 105 => ⟨S_, .f32⟩
  | 106 => ⟨S131072, .f32⟩
  | 107 => ⟨S131072, .i1⟩
  | 108 => ⟨S131072, .i1⟩
  | 109 => ⟨S131072, .i1⟩
  | 110 => ⟨S131072, .i1⟩
  | 111 => ⟨S_, .f32⟩
  | 112 => ⟨S_, .f32⟩
  | 113 => ⟨S131072, .f32⟩
  | 114 => ⟨S131072, .f32⟩
  | 115 => ⟨S131072, .f32⟩
  | 116 => ⟨S131072x1, .f32⟩
  | 117 => ⟨S131072x3, .f32⟩
  | 118 => ⟨S131072x3, .f32⟩
  | 119 => ⟨S131072x3, .f32⟩
  | 120 => ⟨S131072x3, .f32⟩
  | 121 => ⟨S_, .f32⟩
  | 122 => ⟨S131072, .f32⟩
  | 123 => ⟨S131072, .f32⟩
  | 124 => ⟨S_, .f32⟩
  | 125 => ⟨S131072, .f32⟩
  | 126 => ⟨S131072, .f32⟩
  | 127 => ⟨S131072, .f32⟩
  | _ => ⟨S131072x3, .f32⟩

abbrev hbmTy0_2 (i : Nat) : BufTy := match i % 128 with
  | 0 => ⟨S131072, .f32⟩
  | 1 => ⟨S_, .f32⟩
  | 2 => ⟨S131072, .f32⟩
  | 3 => ⟨S131072, .i1⟩
  | 4 => ⟨S131072, .i1⟩
  | 5 => ⟨S131072, .i1⟩
  | 6 => ⟨S131072, .i1⟩
  | 7 => ⟨S_, .f32⟩
  | 8 => ⟨S_, .f32⟩
  | 9 => ⟨S131072, .f32⟩
  | 10 => ⟨S131072, .f32⟩
  | 11 => ⟨S131072, .f32⟩
  | 12 => ⟨S131072x1, .f32⟩
  | 13 => ⟨S131072x3, .f32⟩
  | 14 => ⟨S131072x3, .f32⟩
  | 15 => ⟨S131072x3, .f32⟩
  | 16 => ⟨S131072x3, .f32⟩
  | 17 => ⟨S_, .f32⟩
  | 18 => ⟨S131072, .f32⟩
  | 19 => ⟨S131072, .f32⟩
  | 20 => ⟨S_, .f32⟩
  | 21 => ⟨S131072, .f32⟩
  | 22 => ⟨S131072, .f32⟩
  | 23 => ⟨S131072, .f32⟩
  | 24 => ⟨S131072, .f32⟩
  | 25 => ⟨S_, .f32⟩
  | 26 => ⟨S131072, .f32⟩
  | 27 => ⟨S131072, .i1⟩
  | 28 => ⟨S131072, .i1⟩
  | 29 => ⟨S131072, .i1⟩
  | 30 => ⟨S131072, .i1⟩
  | 31 => ⟨S_, .f32⟩
  | 32 => ⟨S_, .f32⟩
  | 33 => ⟨S131072, .f32⟩
  | 34 => ⟨S131072, .f32⟩
  | 35 => ⟨S131072, .f32⟩
  | 36 => ⟨S131072x1, .f32⟩
  | 37 => ⟨S131072x3, .f32⟩
  | 38 => ⟨S131072x3, .f32⟩
  | 39 => ⟨S131072x3, .f32⟩
  | 40 => ⟨S131072x3, .f32⟩
  | 41 => ⟨S_, .f32⟩
  | 42 => ⟨S131072, .f32⟩
  | 43 => ⟨S131072, .f32⟩
  | 44 => ⟨S_, .f32⟩
  | 45 => ⟨S131072, .f32⟩
  | 46 => ⟨S131072, .f32⟩
  | 47 => ⟨S131072, .f32⟩
  | 48 => ⟨S131072, .f32⟩
  | 49 => ⟨S_, .f32⟩
  | 50 => ⟨S131072, .f32⟩
  | 51 => ⟨S131072, .i1⟩
  | 52 => ⟨S131072, .i1⟩
  | 53 => ⟨S131072, .i1⟩
  | 54 => ⟨S131072, .i1⟩
  | 55 => ⟨S_, .f32⟩
  | 56 => ⟨S_, .f32⟩
  | 57 => ⟨S131072, .f32⟩
  | 58 => ⟨S131072, .f32⟩
  | 59 => ⟨S131072, .f32⟩
  | 60 => ⟨S131072x1, .f32⟩
  | 61 => ⟨S131072x3, .f32⟩
  | 62 => ⟨S131072x3, .f32⟩
  | 63 => ⟨S131072x3, .f32⟩
  | 64 => ⟨S131072x3, .f32⟩
  | 65 => ⟨S_, .f32⟩
  | 66 => ⟨S131072, .f32⟩
  | 67 => ⟨S131072, .f32⟩
  | 68 => ⟨S_, .f32⟩
  | 69 => ⟨S131072, .f32⟩
  | 70 => ⟨S131072, .f32⟩
  | 71 => ⟨S131072, .f32⟩
  | 72 => ⟨S131072, .f32⟩
  | 73 => ⟨S_, .f32⟩
  | 74 => ⟨S131072, .f32⟩
  | 75 => ⟨S131072, .i1⟩
  | 76 => ⟨S131072, .i1⟩
  | 77 => ⟨S131072, .i1⟩
  | 78 => ⟨S131072, .i1⟩
  | 79 => ⟨S_, .f32⟩
  | 80 => ⟨S_, .f32⟩
  | 81 => ⟨S131072, .f32⟩
  | 82 => ⟨S131072, .f32⟩
  | 83 => ⟨S131072, .f32⟩
  | 84 => ⟨S131072x1, .f32⟩
  | 85 => ⟨S131072x3, .f32⟩
  | 86 => ⟨S131072x3, .f32⟩
  | 87 => ⟨S131072x3, .f32⟩
  | 88 => ⟨S131072x3, .f32⟩
  | 89 => ⟨S_, .f32⟩
  | 90 => ⟨S131072, .f32⟩
  | 91 => ⟨S131072, .f32⟩
  | 92 => ⟨S_, .f32⟩
  | 93 => ⟨S131072, .f32⟩
  | 94 => ⟨S131072, .f32⟩
  | 95 => ⟨S131072, .f32⟩
  | 96 => ⟨S131072, .f32⟩
  | 97 => ⟨S_, .f32⟩
  | 98 => ⟨S131072, .f32⟩
  | 99 => ⟨S131072, .i1⟩
  | 100 => ⟨S131072, .i1⟩
  | 101 => ⟨S131072, .i1⟩
  | 102 => ⟨S131072, .i1⟩
  | 103 => ⟨S_, .f32⟩
  | 104 => ⟨S_, .f32⟩
  | 105 => ⟨S131072, .f32⟩
  | 106 => ⟨S131072, .f32⟩
  | 107 => ⟨S131072, .f32⟩
  | 108 => ⟨S131072x1, .f32⟩
  | 109 => ⟨S131072x3, .f32⟩
  | 110 => ⟨S131072x3, .f32⟩
  | 111 => ⟨S131072x3, .f32⟩
  | 112 => ⟨S131072x3, .f32⟩
  | 113 => ⟨S_, .f32⟩
  | 114 => ⟨S131072, .f32⟩
  | 115 => ⟨S131072, .f32⟩
  | 116 => ⟨S_, .f32⟩
  | 117 => ⟨S131072, .f32⟩
  | 118 => ⟨S131072, .f32⟩
  | 119 => ⟨S131072, .f32⟩
  | 120 => ⟨S131072, .f32⟩
  | 121 => ⟨S_, .f32⟩
  | 122 => ⟨S131072, .f32⟩
  | 123 => ⟨S131072, .i1⟩
  | 124 => ⟨S131072, .i1⟩
  | 125 => ⟨S131072, .i1⟩
  | 126 => ⟨S131072, .i1⟩
  | 127 => ⟨S_, .f32⟩
  | _ => ⟨S131072x3, .f32⟩

abbrev hbmTy0_3 (i : Nat) : BufTy := match i % 128 with
  | 0 => ⟨S_, .f32⟩
  | 1 => ⟨S131072, .f32⟩
  | 2 => ⟨S131072, .f32⟩
  | 3 => ⟨S131072, .f32⟩
  | 4 => ⟨S131072x1, .f32⟩
  | 5 => ⟨S131072x3, .f32⟩
  | 6 => ⟨S131072x3, .f32⟩
  | 7 => ⟨S131072x3, .f32⟩
  | 8 => ⟨S131072x3, .f32⟩
  | 9 => ⟨S_, .f32⟩
  | 10 => ⟨S131072, .f32⟩
  | 11 => ⟨S131072, .f32⟩
  | 12 => ⟨S_, .f32⟩
  | 13 => ⟨S131072, .f32⟩
  | 14 => ⟨S131072, .f32⟩
  | 15 => ⟨S131072, .f32⟩
  | 16 => ⟨S131072, .f32⟩
  | 17 => ⟨S_, .f32⟩
  | 18 => ⟨S131072, .f32⟩
  | 19 => ⟨S131072, .i1⟩
  | 20 => ⟨S131072, .i1⟩
  | 21 => ⟨S131072, .i1⟩
  | 22 => ⟨S131072, .i1⟩
  | 23 => ⟨S_, .f32⟩
  | 24 => ⟨S131072, .f32⟩
  | 25 => ⟨S131072, .i1⟩
  | 26 => ⟨S131072, .f32⟩
  | 27 => ⟨S131072, .f32⟩
  | 28 => ⟨S_, .f32⟩
  | 29 => ⟨S131072, .f32⟩
  | 30 => ⟨S131072, .f32⟩
  | 31 => ⟨S131072, .f32⟩
  | 32 => ⟨S131072, .f32⟩
  | 33 => ⟨S131072, .f32⟩
  | 34 => ⟨S_, .f32⟩
  | 35 => ⟨S131072, .f32⟩
  | 36 => ⟨S131072, .f32⟩
  | 37 => ⟨S131072, .f32⟩
  | 38 => ⟨S131072, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S127, .f32⟩
  | 47 => ⟨S_, .f32⟩
  | 48 => ⟨S127, .f32⟩
  | 49 => ⟨S127, .f32⟩
  | 50 => ⟨S1, .f32⟩
  | 51 => ⟨S_, .f32⟩
  | 52 => ⟨S127, .f32⟩
  | 53 => ⟨S127, .f32⟩
  | 54 => ⟨S127, .f32⟩
  | 55 => ⟨S127, .f32⟩
  | 56 => ⟨S1, .f32⟩
  | 57 => ⟨S127, .f32⟩
  | 58 => ⟨S127, .f32⟩
  | 59 => ⟨S127, .f32⟩
  | 60 => ⟨S1, .f32⟩
  | 61 => ⟨S128, .f32⟩
  | 62 => ⟨S1x128, .f32⟩
  | 63 => ⟨S131072x1, .f32⟩
  | 64 => ⟨S131072, .f32⟩
  | 65 => ⟨S131072x1, .f32⟩
  | 66 => ⟨S131072x128, .f32⟩
  | 67 => ⟨S131072x128, .f32⟩
  | 68 => ⟨S131072x128, .f32⟩
  | 69 => ⟨S131072x128, .f32⟩
  | 70 => ⟨S131072x128, .f32⟩
  | 71 => ⟨S131072x1x3, .f32⟩
  | 72 => ⟨S131072x1x3, .f32⟩
  | 73 => ⟨S131072x128x1, .f32⟩
  | 74 => ⟨S131072x128x3, .f32⟩
  | 75 => ⟨S131072x128x3, .f32⟩
  | 76 => ⟨S131072x128x3, .f32⟩
  | 77 => ⟨S131072x128x3, .f32⟩
  | 78 => ⟨S131072x128x3, .f32⟩
  | 79 => ⟨S131072x128x3, .f32⟩
  | 80 => ⟨S_, .f32⟩
  | 81 => ⟨S131072x128, .f32⟩
  | 82 => ⟨S131072x128, .f32⟩
  | 83 => ⟨S_, .f32⟩
  | 84 => ⟨S131072x128, .f32⟩
  | 85 => ⟨S131072x128, .f32⟩
  | 86 => ⟨S131072x128, .f32⟩
  | 87 => ⟨S128, .f32⟩
  | 88 => ⟨S_, .f32⟩
  | 89 => ⟨S128, .f32⟩
  | 90 => ⟨S128, .f32⟩
  | 91 => ⟨S_, .f32⟩
  | 92 => ⟨S128, .f32⟩
  | 93 => ⟨S128, .f32⟩
  | 94 => ⟨S1x128, .f32⟩
  | 95 => ⟨S131072x128, .f32⟩
  | 96 => ⟨S131072x128, .f32⟩
  | 97 => ⟨S_, .f32⟩
  | 98 => ⟨S131072, .f32⟩
  | 99 => ⟨S131072x1, .f32⟩
  | 100 => ⟨S131072x128, .f32⟩
  | 101 => ⟨S131072x128, .i1⟩
  | 102 => ⟨S128, .i32⟩
  | 103 => ⟨S1x128, .i32⟩
  | 104 => ⟨S_, .i32⟩
  | 105 => ⟨S_, .i32⟩
  | 106 => ⟨S131072x128, .i32⟩
  | 107 => ⟨S131072x128, .i32⟩
  | 108 => ⟨S131072x128, .i32⟩
  | 109 => ⟨S_, .i32⟩
  | 110 => ⟨S131072, .i32⟩
  | 111 => ⟨S_, .f32⟩
  | 112 => ⟨S131072, .f32⟩
  | 113 => ⟨S131072, .i1⟩
  | 114 => ⟨S_, .i32⟩
  | 115 => ⟨S131072, .i32⟩
  | 116 => ⟨S131072, .i1⟩
  | 117 => ⟨S131072, .i1⟩
  | 118 => ⟨S131072, .i1⟩
  | 119 => ⟨S131072, .i1⟩
  | 120 => ⟨S131072, .f32⟩
  | 121 => ⟨S_, .f32⟩
  | 122 => ⟨S131072, .f32⟩
  | 123 => ⟨S131072, .i1⟩
  | 124 => ⟨S131072, .i1⟩
  | 125 => ⟨S131072, .i1⟩
  | 126 => ⟨S131072, .i1⟩
  | 127 => ⟨S_, .i32⟩
  | _ => ⟨S131072x3, .f32⟩

abbrev hbmTy0_4 (i : Nat) : BufTy := match i % 128 with
  | 0 => ⟨S_, .i32⟩
  | 1 => ⟨S_, .i32⟩
  | 2 => ⟨S131072, .i32⟩
  | 3 => ⟨S131072, .i32⟩
  | 4 => ⟨S_, .i32⟩
  | 5 => ⟨S131072, .i32⟩
  | 6 => ⟨S131072, .i32⟩
  | 7 => ⟨S_, .i32⟩
  | 8 => ⟨S131072, .i32⟩
  | 9 => ⟨S131072, .i32⟩
  | 10 => ⟨S131072x1, .i32⟩
  | 11 => ⟨S_, .i32⟩
  | 12 => ⟨S131072x1, .i32⟩
  | 13 => ⟨S131072x1, .i1⟩
  | 14 => ⟨S_, .i32⟩
  | 15 => ⟨S131072x1, .i32⟩
  | 16 => ⟨S131072x1, .i32⟩
  | 17 => ⟨S131072x1, .i32⟩
  | 18 => ⟨S131072x1x1, .i32⟩
  | 19 => ⟨S1, .i32⟩
  | 20 => ⟨S_, .i32⟩
  | 21 => ⟨S131072x1x1, .i32⟩
  | 22 => ⟨S131072x1x1, .i1⟩
  | 23 => ⟨S1x1x1, .i32⟩
  | 24 => ⟨S131072x1x1, .i32⟩
  | 25 => ⟨S131072x1x1, .i1⟩
  | 26 => ⟨S131072x1x1, .i1⟩
  | 27 => ⟨S_, .i1⟩
  | 28 => ⟨S131072x1, .i1⟩
  | 29 => ⟨S131072x1, .f32⟩
  | 30 => ⟨S_, .f32⟩
  | 31 => ⟨S131072x1, .f32⟩
  | 32 => ⟨S131072x1, .f32⟩
  | 33 => ⟨S131072, .f32⟩
  | 34 => ⟨S131072x1, .i32⟩
  | 35 => ⟨S_, .i32⟩
  | 36 => ⟨S131072x1, .i32⟩
  | 37 => ⟨S131072x1, .i1⟩
  | 38 => ⟨S_, .i32⟩
  | 39 => ⟨S131072x1, .i32⟩
  | 40 => ⟨S131072x1, .i32⟩
  | 41 => ⟨S131072x1, .i32⟩
  | 42 => ⟨S131072x1x1, .i32⟩
  | 43 => ⟨S1, .i32⟩
  | 44 => ⟨S_, .i32⟩
  | 45 => ⟨S131072x1x1, .i32⟩
  | 46 => ⟨S131072x1x1, .i1⟩
  | 47 => ⟨S1x1x1, .i32⟩
  | 48 => ⟨S131072x1x1, .i32⟩
  | 49 => ⟨S131072x1x1, .i1⟩
  | 50 => ⟨S131072x1x1, .i1⟩
  | 51 => ⟨S_, .i1⟩
  | 52 => ⟨S131072x1, .i1⟩
  | 53 => ⟨S131072x1, .f32⟩
  | 54 => ⟨S_, .f32⟩
  | 55 => ⟨S131072x1, .f32⟩
  | 56 => ⟨S131072x1, .f32⟩
  | 57 => ⟨S131072, .f32⟩
  | 58 => ⟨S131072, .f32⟩
  | 59 => ⟨S_, .f32⟩
  | 60 => ⟨S131072, .f32⟩
  | 61 => ⟨S131072, .f32⟩
  | 62 => ⟨S131072x1, .f32⟩
  | 63 => ⟨S131072x3, .f32⟩
  | 64 => ⟨S131072x3, .f32⟩
  | 65 => ⟨S131072x3, .f32⟩
  | 66 => ⟨S131072x3, .f32⟩
  | 67 => ⟨S_, .f32⟩
  | 68 => ⟨S131072, .f32⟩
  | 69 => ⟨S131072, .f32⟩
  | 70 => ⟨S_, .f32⟩
  | 71 => ⟨S131072, .f32⟩
  | 72 => ⟨S131072, .f32⟩
  | 73 => ⟨S_, .f32⟩
  | 74 => ⟨S131072, .f32⟩
  | 75 => ⟨S131072, .i1⟩
  | 76 => ⟨S131072, .f32⟩
  | 77 => ⟨S131072, .i1⟩
  | 78 => ⟨S131072, .f32⟩
  | 79 => ⟨S131072, .f32⟩
  | 80 => ⟨S_, .f32⟩
  | 81 => ⟨S131072, .f32⟩
  | 82 => ⟨S131072, .f32⟩
  | 83 => ⟨S131072x1, .f32⟩
  | 84 => ⟨S131072x3, .f32⟩
  | 85 => ⟨S131072x3, .f32⟩
  | 86 => ⟨S131072x3, .f32⟩
  | 87 => ⟨S131072x3, .f32⟩
  | 88 => ⟨S_, .f32⟩
  | 89 => ⟨S131072, .f32⟩
  | 90 => ⟨S131072, .f32⟩
  | 91 => ⟨S_, .f32⟩
  | 92 => ⟨S131072, .f32⟩
  | 93 => ⟨S131072, .f32⟩
  | 94 => ⟨S_, .f32⟩
  | 95 => ⟨S131072, .f32⟩
  | 96 => ⟨S131072, .i1⟩
  | 97 => ⟨S131072, .f32⟩
  | 98 => ⟨S131072, .i1⟩
  | 99 => ⟨S131072, .f32⟩
  | 100 => ⟨S131072, .f32⟩
  | 101 => ⟨S_, .f32⟩
  | 102 => ⟨S131072, .f32⟩
  | 103 => ⟨S131072, .f32⟩
  | 104 => ⟨S131072x1, .f32⟩
  | 105 => ⟨S131072x3, .f32⟩
  | 106 => ⟨S131072x3, .f32⟩
  | 107 => ⟨S131072x3, .f32⟩
  | 108 => ⟨S131072x3, .f32⟩
  | 109 => ⟨S_, .f32⟩
  | 110 => ⟨S131072, .f32⟩
  | 111 => ⟨S131072, .f32⟩
  | 112 => ⟨S_, .f32⟩
  | 113 => ⟨S131072, .f32⟩
  | 114 => ⟨S131072, .f32⟩
  | 115 => ⟨S_, .f32⟩
  | 116 => ⟨S131072, .f32⟩
  | 117 => ⟨S131072, .i1⟩
  | 118 => ⟨S131072, .f32⟩
  | 119 => ⟨S131072, .i1⟩
  | 120 => ⟨S131072, .f32⟩
  | 121 => ⟨S131072, .f32⟩
  | 122 => ⟨S_, .f32⟩
  | 123 => ⟨S131072, .f32⟩
  | 124 => ⟨S131072, .f32⟩
  | 125 => ⟨S131072x1, .f32⟩
  | 126 => ⟨S131072x3, .f32⟩
  | 127 => ⟨S131072x3, .f32⟩
  | _ => ⟨S131072x3, .f32⟩

abbrev hbmTy0_5 (i : Nat) : BufTy := match i % 128 with
  | 0 => ⟨S131072x3, .f32⟩
  | 1 => ⟨S131072x3, .f32⟩
  | 2 => ⟨S_, .f32⟩
  | 3 => ⟨S131072, .f32⟩
  | 4 => ⟨S131072, .f32⟩
  | 5 => ⟨S_, .f32⟩
  | 6 => ⟨S131072, .f32⟩
  | 7 => ⟨S131072, .f32⟩
  | 8 => ⟨S_, .f32⟩
  | 9 => ⟨S131072, .f32⟩
  | 10 => ⟨S131072, .i1⟩
  | 11 => ⟨S131072, .f32⟩
  | 12 => ⟨S131072, .i1⟩
  | 13 => ⟨S131072, .f32⟩
  | 14 => ⟨S131072, .f32⟩
  | 15 => ⟨S_, .f32⟩
  | 16 => ⟨S131072, .f32⟩
  | 17 => ⟨S131072, .f32⟩
  | 18 => ⟨S131072x1, .f32⟩
  | 19 => ⟨S131072x3, .f32⟩
  | 20 => ⟨S131072x3, .f32⟩
  | 21 => ⟨S131072x3, .f32⟩
  | 22 => ⟨S131072x3, .f32⟩
  | 23 => ⟨S_, .f32⟩
  | 24 => ⟨S131072, .f32⟩
  | 25 => ⟨S131072, .f32⟩
  | 26 => ⟨S_, .f32⟩
  | 27 => ⟨S131072, .f32⟩
  | 28 => ⟨S131072, .f32⟩
  | 29 => ⟨S_, .f32⟩
  | 30 => ⟨S131072, .f32⟩
  | 31 => ⟨S131072, .i1⟩
  | 32 => ⟨S131072, .f32⟩
  | 33 => ⟨S131072, .i1⟩
  | 34 => ⟨S131072, .f32⟩
  | 35 => ⟨S131072, .f32⟩
  | 36 => ⟨S_, .f32⟩
  | 37 => ⟨S131072, .f32⟩
  | 38 => ⟨S131072, .f32⟩
  | 39 => ⟨S131072x1, .f32⟩
  | 40 => ⟨S131072x3, .f32⟩
  | 41 => ⟨S131072x3, .f32⟩
  | 42 => ⟨S131072x3, .f32⟩
  | 43 => ⟨S131072x3, .f32⟩
  | 44 => ⟨S_, .f32⟩
  | 45 => ⟨S131072, .f32⟩
  | 46 => ⟨S131072, .f32⟩
  | 47 => ⟨S_, .f32⟩
  | 48 => ⟨S131072, .f32⟩
  | 49 => ⟨S131072, .f32⟩
  | 50 => ⟨S_, .f32⟩
  | 51 => ⟨S131072, .f32⟩
  | 52 => ⟨S131072, .i1⟩
  | 53 => ⟨S131072, .f32⟩
  | 54 => ⟨S131072, .i1⟩
  | 55 => ⟨S131072, .f32⟩
  | 56 => ⟨S131072, .f32⟩
  | 57 => ⟨S_, .f32⟩
  | 58 => ⟨S131072, .f32⟩
  | 59 => ⟨S131072, .f32⟩
  | 60 => ⟨S131072x1, .f32⟩
  | 61 => ⟨S131072x3, .f32⟩
  | 62 => ⟨S131072x3, .f32⟩
  | 63 => ⟨S131072x3, .f32⟩
  | 64 => ⟨S131072x3, .f32⟩
  | 65 => ⟨S_, .f32⟩
  | 66 => ⟨S131072, .f32⟩
  | 67 => ⟨S131072, .f32⟩
  | 68 => ⟨S_, .f32⟩
  | 69 => ⟨S131072, .f32⟩
  | 70 => ⟨S131072, .f32⟩
  | 71 => ⟨S_, .f32⟩
  | 72 => ⟨S131072, .f32⟩
  | 73 => ⟨S131072, .i1⟩
  | 74 => ⟨S131072, .f32⟩
  | 75 => ⟨S131072, .i1⟩
  | 76 => ⟨S131072, .f32⟩
  | 77 => ⟨S131072, .f32⟩
  | 78 => ⟨S_, .f32⟩
  | 79 => ⟨S131072, .f32⟩
  | 80 => ⟨S131072, .f32⟩
  | 81 => ⟨S131072x1, .f32⟩
  | 82 => ⟨S131072x3, .f32⟩
  | 83 => ⟨S131072x3, .f32⟩
  | 84 => ⟨S131072x3, .f32⟩
  | 85 => ⟨S131072x3, .f32⟩
  | 86 => ⟨S_, .f32⟩
  | 87 => ⟨S131072, .f32⟩
  | 88 => ⟨S131072, .f32⟩
  | 89 => ⟨S_, .f32⟩
  | 90 => ⟨S131072, .f32⟩
  | 91 => ⟨S131072, .f32⟩
  | 92 => ⟨S_, .f32⟩
  | 93 => ⟨S131072, .f32⟩
  | 94 => ⟨S131072, .i1⟩
  | 95 => ⟨S131072, .f32⟩
  | 96 => ⟨S131072, .i1⟩
  | 97 => ⟨S131072, .f32⟩
  | 98 => ⟨S131072, .f32⟩
  | 99 => ⟨S_, .f32⟩
  | 100 => ⟨S131072, .f32⟩
  | 101 => ⟨S131072, .f32⟩
  | 102 => ⟨S131072x1, .f32⟩
  | 103 => ⟨S131072x3, .f32⟩
  | 104 => ⟨S131072x3, .f32⟩
  | 105 => ⟨S131072x3, .f32⟩
  | 106 => ⟨S131072x3, .f32⟩
  | 107 => ⟨S_, .f32⟩
  | 108 => ⟨S131072, .f32⟩
  | 109 => ⟨S131072, .f32⟩
  | 110 => ⟨S_, .f32⟩
  | 111 => ⟨S131072, .f32⟩
  | 112 => ⟨S131072, .f32⟩
  | 113 => ⟨S_, .f32⟩
  | 114 => ⟨S131072, .f32⟩
  | 115 => ⟨S131072, .i1⟩
  | 116 => ⟨S131072, .f32⟩
  | 117 => ⟨S131072, .i1⟩
  | 118 => ⟨S131072, .f32⟩
  | 119 => ⟨S131072, .f32⟩
  | 120 => ⟨S_, .f32⟩
  | 121 => ⟨S131072, .f32⟩
  | 122 => ⟨S131072, .f32⟩
  | 123 => ⟨S131072x1, .f32⟩
  | 124 => ⟨S131072x3, .f32⟩
  | 125 => ⟨S131072x3, .f32⟩
  | 126 => ⟨S131072x3, .f32⟩
  | 127 => ⟨S131072x3, .f32⟩
  | _ => ⟨S131072x3, .f32⟩

abbrev hbmTy0_6 (i : Nat) : BufTy := match i % 128 with
  | 0 => ⟨S_, .f32⟩
  | 1 => ⟨S131072, .f32⟩
  | 2 => ⟨S131072, .f32⟩
  | 3 => ⟨S_, .f32⟩
  | 4 => ⟨S131072, .f32⟩
  | 5 => ⟨S131072, .f32⟩
  | 6 => ⟨S_, .f32⟩
  | 7 => ⟨S131072, .f32⟩
  | 8 => ⟨S131072, .i1⟩
  | 9 => ⟨S131072, .f32⟩
  | 10 => ⟨S131072, .i1⟩
  | 11 => ⟨S131072, .f32⟩
  | 12 => ⟨S131072, .f32⟩
  | 13 => ⟨S_, .f32⟩
  | 14 => ⟨S131072, .f32⟩
  | 15 => ⟨S131072, .f32⟩
  | 16 => ⟨S131072x1, .f32⟩
  | 17 => ⟨S131072x3, .f32⟩
  | 18 => ⟨S131072x3, .f32⟩
  | 19 => ⟨S131072x3, .f32⟩
  | 20 => ⟨S131072x3, .f32⟩
  | 21 => ⟨S_, .f32⟩
  | 22 => ⟨S131072, .f32⟩
  | 23 => ⟨S131072, .f32⟩
  | 24 => ⟨S_, .f32⟩
  | 25 => ⟨S131072, .f32⟩
  | 26 => ⟨S131072, .f32⟩
  | 27 => ⟨S_, .f32⟩
  | 28 => ⟨S131072, .f32⟩
  | 29 => ⟨S131072, .i1⟩
  | 30 => ⟨S131072, .f32⟩
  | 31 => ⟨S131072, .i1⟩
  | 32 => ⟨S131072, .f32⟩
  | 33 => ⟨S131072, .f32⟩
  | 34 => ⟨S_, .f32⟩
  | 35 => ⟨S131072, .f32⟩
  | 36 => ⟨S131072, .f32⟩
  | 37 => ⟨S131072x1, .f32⟩
  | 38 => ⟨S131072x3, .f32⟩
  | 39 => ⟨S131072x3, .f32⟩
  | 40 => ⟨S131072x3, .f32⟩
  | 41 => ⟨S131072x3, .f32⟩
  | 42 => ⟨S_, .f32⟩
  | 43 => ⟨S131072, .f32⟩
  | 44 => ⟨S131072, .f32⟩
  | 45 => ⟨S_, .f32⟩
  | 46 => ⟨S131072, .f32⟩
  | 47 => ⟨S131072, .f32⟩
  | 48 => ⟨S_, .f32⟩
  | 49 => ⟨S131072, .f32⟩
  | 50 => ⟨S131072, .i1⟩
  | 51 => ⟨S131072, .f32⟩
  | 52 => ⟨S131072, .i1⟩
  | 53 => ⟨S131072, .f32⟩
  | 54 => ⟨S131072, .f32⟩
  | 55 => ⟨S_, .f32⟩
  | 56 => ⟨S131072, .f32⟩
  | 57 => ⟨S131072, .f32⟩
  | 58 => ⟨S131072x1, .f32⟩
  | 59 => ⟨S131072x3, .f32⟩
  | 60 => ⟨S131072x3, .f32⟩
  | 61 => ⟨S131072x3, .f32⟩
  | 62 => ⟨S131072x3, .f32⟩
  | 63 => ⟨S_, .f32⟩
  | 64 => ⟨S131072, .f32⟩
  | 65 => ⟨S131072, .f32⟩
  | 66 => ⟨S_, .f32⟩
  | 67 => ⟨S131072, .f32⟩
  | 68 => ⟨S131072, .f32⟩
  | 69 => ⟨S_, .f32⟩
  | 70 => ⟨S131072, .f32⟩
  | 71 => ⟨S131072, .i1⟩
  | 72 => ⟨S131072, .f32⟩
  | 73 => ⟨S131072, .i1⟩
  | 74 => ⟨S131072, .f32⟩
  | 75 => ⟨S131072, .f32⟩
  | 76 => ⟨S_, .f32⟩
  | 77 => ⟨S131072, .f32⟩
  | 78 => ⟨S131072, .f32⟩
  | 79 => ⟨S131072x1, .f32⟩
  | 80 => ⟨S131072x3, .f32⟩
  | 81 => ⟨S131072x3, .f32⟩
  | 82 => ⟨S131072x3, .f32⟩
  | 83 => ⟨S131072x3, .f32⟩
  | 84 => ⟨S_, .f32⟩
  | 85 => ⟨S131072, .f32⟩
  | 86 => ⟨S131072, .f32⟩
  | 87 => ⟨S_, .f32⟩
  | 88 => ⟨S131072, .f32⟩
  | 89 => ⟨S131072, .f32⟩
  | 90 => ⟨S_, .f32⟩
  | 91 => ⟨S131072, .f32⟩
  | 92 => ⟨S131072, .i1⟩
  | 93 => ⟨S131072, .f32⟩
  | 94 => ⟨S131072, .i1⟩
  | 95 => ⟨S131072, .f32⟩
  | 96 => ⟨S131072, .f32⟩
  | 97 => ⟨S_, .f32⟩
  | 98 => ⟨S131072, .f32⟩
  | 99 => ⟨S131072, .f32⟩
  | 100 => ⟨S131072x1, .f32⟩
  | 101 => ⟨S131072x3, .f32⟩
  | 102 => ⟨S131072x3, .f32⟩
  | 103 => ⟨S131072x3, .f32⟩
  | 104 => ⟨S131072x3, .f32⟩
  | 105 => ⟨S_, .f32⟩
  | 106 => ⟨S131072, .f32⟩
  | 107 => ⟨S131072, .f32⟩
  | 108 => ⟨S_, .f32⟩
  | 109 => ⟨S131072, .f32⟩
  | 110 => ⟨S131072, .f32⟩
  | 111 => ⟨S_, .f32⟩
  | 112 => ⟨S131072, .f32⟩
  | 113 => ⟨S131072, .i1⟩
  | 114 => ⟨S131072, .f32⟩
  | 115 => ⟨S131072, .i1⟩
  | 116 => ⟨S131072, .f32⟩
  | 117 => ⟨S131072, .f32⟩
  | 118 => ⟨S_, .f32⟩
  | 119 => ⟨S131072, .f32⟩
  | 120 => ⟨S131072, .f32⟩
  | 121 => ⟨S131072x1, .f32⟩
  | 122 => ⟨S131072x3, .f32⟩
  | 123 => ⟨S131072x3, .f32⟩
  | 124 => ⟨S131072x3, .f32⟩
  | 125 => ⟨S131072x3, .f32⟩
  | 126 => ⟨S_, .f32⟩
  | 127 => ⟨S131072, .f32⟩
  | _ => ⟨S131072x3, .f32⟩

abbrev hbmTy0_7 (i : Nat) : BufTy := match i % 128 with
  | 0 => ⟨S131072, .f32⟩
  | 1 => ⟨S_, .f32⟩
  | 2 => ⟨S131072, .f32⟩
  | 3 => ⟨S131072, .f32⟩
  | 4 => ⟨S_, .f32⟩
  | 5 => ⟨S131072, .f32⟩
  | 6 => ⟨S131072, .i1⟩
  | 7 => ⟨S131072, .f32⟩
  | 8 => ⟨S131072, .i1⟩
  | 9 => ⟨S131072, .f32⟩
  | 10 => ⟨S131072, .f32⟩
  | 11 => ⟨S_, .f32⟩
  | 12 => ⟨S131072, .f32⟩
  | 13 => ⟨S131072, .f32⟩
  | 14 => ⟨S131072x1, .f32⟩
  | 15 => ⟨S131072x3, .f32⟩
  | 16 => ⟨S131072x3, .f32⟩
  | 17 => ⟨S131072x3, .f32⟩
  | 18 => ⟨S131072x3, .f32⟩
  | 19 => ⟨S_, .f32⟩
  | 20 => ⟨S131072, .f32⟩
  | 21 => ⟨S131072, .f32⟩
  | 22 => ⟨S_, .f32⟩
  | 23 => ⟨S131072, .f32⟩
  | 24 => ⟨S131072, .f32⟩
  | 25 => ⟨S_, .f32⟩
  | 26 => ⟨S131072, .f32⟩
  | 27 => ⟨S131072, .i1⟩
  | 28 => ⟨S131072, .f32⟩
  | 29 => ⟨S131072, .i1⟩
  | 30 => ⟨S131072, .f32⟩
  | 31 => ⟨S131072, .f32⟩
  | 32 => ⟨S_, .f32⟩
  | 33 => ⟨S131072, .f32⟩
  | 34 => ⟨S131072, .f32⟩
  | 35 => ⟨S131072x1, .f32⟩
  | 36 => ⟨S131072x3, .f32⟩
  | 37 => ⟨S131072x3, .f32⟩
  | 38 => ⟨S131072x3, .f32⟩
  | 39 => ⟨S131072x3, .f32⟩
  | 40 => ⟨S_, .f32⟩
  | 41 => ⟨S131072, .f32⟩
  | 42 => ⟨S131072, .f32⟩
  | 43 => ⟨S_, .f32⟩
  | 44 => ⟨S131072, .f32⟩
  | 45 => ⟨S131072, .f32⟩
  | 46 => ⟨S_, .f32⟩
  | 47 => ⟨S131072, .f32⟩
  | 48 => ⟨S131072, .i1⟩
  | 49 => ⟨S131072, .f32⟩
  | 50 => ⟨S131072, .i1⟩
  | 51 => ⟨S131072, .f32⟩
  | 52 => ⟨S131072, .f32⟩
  | 53 => ⟨S_, .f32⟩
  | 54 => ⟨S131072, .f32⟩
  | 55 => ⟨S131072, .f32⟩
  | 56 => ⟨S131072x1, .f32⟩
  | 57 => ⟨S131072x3, .f32⟩
  | 58 => ⟨S131072x3, .f32⟩
  | 59 => ⟨S131072x3, .f32⟩
  | 60 => ⟨S131072x3, .f32⟩
  | 61 => ⟨S_, .f32⟩
  | 62 => ⟨S131072, .f32⟩
  | 63 => ⟨S131072, .f32⟩
  | 64 => ⟨S_, .f32⟩
  | 65 => ⟨S131072, .f32⟩
  | 66 => ⟨S131072, .f32⟩
  | 67 => ⟨S_, .f32⟩
  | 68 => ⟨S131072, .f32⟩
  | 69 => ⟨S131072, .i1⟩
  | 70 => ⟨S131072, .f32⟩
  | 71 => ⟨S131072, .i1⟩
  | 72 => ⟨S131072, .f32⟩
  | 73 => ⟨S131072, .f32⟩
  | 74 => ⟨S_, .f32⟩
  | 75 => ⟨S131072, .f32⟩
  | 76 => ⟨S131072, .f32⟩
  | 77 => ⟨S131072x1, .f32⟩
  | 78 => ⟨S131072x3, .f32⟩
  | 79 => ⟨S131072x3, .f32⟩
  | 80 => ⟨S131072x3, .f32⟩
  | 81 => ⟨S131072x3, .f32⟩
  | 82 => ⟨S_, .f32⟩
  | 83 => ⟨S131072, .f32⟩
  | 84 => ⟨S131072, .f32⟩
  | 85 => ⟨S_, .f32⟩
  | 86 => ⟨S131072, .f32⟩
  | 87 => ⟨S131072, .f32⟩
  | 88 => ⟨S_, .f32⟩
  | 89 => ⟨S131072, .f32⟩
  | 90 => ⟨S131072, .i1⟩
  | 91 => ⟨S131072, .f32⟩
  | 92 => ⟨S131072, .i1⟩
  | 93 => ⟨S131072, .f32⟩
  | 94 => ⟨S131072, .f32⟩
  | 95 => ⟨S_, .f32⟩
  | 96 => ⟨S131072, .f32⟩
  | 97 => ⟨S131072, .f32⟩
  | 98 => ⟨S131072x1, .f32⟩
  | 99 => ⟨S131072x3, .f32⟩
  | 100 => ⟨S131072x3, .f32⟩
  | 101 => ⟨S131072x3, .f32⟩
  | 102 => ⟨S131072x3, .f32⟩
  | 103 => ⟨S_, .f32⟩
  | 104 => ⟨S131072, .f32⟩
  | 105 => ⟨S131072, .f32⟩
  | 106 => ⟨S_, .f32⟩
  | 107 => ⟨S131072, .f32⟩
  | 108 => ⟨S131072, .f32⟩
  | 109 => ⟨S_, .f32⟩
  | 110 => ⟨S131072, .f32⟩
  | 111 => ⟨S131072, .i1⟩
  | 112 => ⟨S131072, .f32⟩
  | 113 => ⟨S131072, .i1⟩
  | 114 => ⟨S131072, .f32⟩
  | 115 => ⟨S131072, .f32⟩
  | 116 => ⟨S_, .f32⟩
  | 117 => ⟨S131072, .f32⟩
  | 118 => ⟨S131072, .f32⟩
  | 119 => ⟨S131072x1, .f32⟩
  | 120 => ⟨S131072x3, .f32⟩
  | 121 => ⟨S131072x3, .f32⟩
  | 122 => ⟨S131072x3, .f32⟩
  | 123 => ⟨S131072x3, .f32⟩
  | 124 => ⟨S_, .f32⟩
  | 125 => ⟨S131072, .f32⟩
  | 126 => ⟨S131072, .f32⟩
  | 127 => ⟨S_, .f32⟩
  | _ => ⟨S131072x3, .f32⟩

abbrev hbmTy0_8 (i : Nat) : BufTy := match i % 128 with
  | 0 => ⟨S131072, .f32⟩
  | 1 => ⟨S131072, .f32⟩
  | 2 => ⟨S_, .f32⟩
  | 3 => ⟨S131072, .f32⟩
  | 4 => ⟨S131072, .i1⟩
  | 5 => ⟨S131072, .f32⟩
  | 6 => ⟨S131072, .i1⟩
  | 7 => ⟨S131072, .f32⟩
  | 8 => ⟨S131072, .f32⟩
  | 9 => ⟨S_, .f32⟩
  | 10 => ⟨S131072, .f32⟩
  | 11 => ⟨S131072, .f32⟩
  | 12 => ⟨S131072x1, .f32⟩
  | 13 => ⟨S131072x3, .f32⟩
  | 14 => ⟨S131072x3, .f32⟩
  | 15 => ⟨S131072x3, .f32⟩
  | 16 => ⟨S131072x3, .f32⟩
  | 17 => ⟨S_, .f32⟩
  | 18 => ⟨S131072, .f32⟩
  | 19 => ⟨S131072, .f32⟩
  | 20 => ⟨S_, .f32⟩
  | 21 => ⟨S131072, .f32⟩
  | 22 => ⟨S131072, .f32⟩
  | 23 => ⟨S_, .f32⟩
  | 24 => ⟨S131072, .f32⟩
  | 25 => ⟨S131072, .i1⟩
  | 26 => ⟨S131072, .f32⟩
  | 27 => ⟨S131072, .i1⟩
  | 28 => ⟨S131072, .f32⟩
  | 29 => ⟨S131072, .f32⟩
  | 30 => ⟨S_, .f32⟩
  | 31 => ⟨S131072, .f32⟩
  | 32 => ⟨S131072, .f32⟩
  | 33 => ⟨S131072x1, .f32⟩
  | 34 => ⟨S131072x3, .f32⟩
  | 35 => ⟨S131072x3, .f32⟩
  | 36 => ⟨S131072x3, .f32⟩
  | 37 => ⟨S131072x3, .f32⟩
  | 38 => ⟨S_, .f32⟩
  | 39 => ⟨S131072, .f32⟩
  | 40 => ⟨S131072, .f32⟩
  | 41 => ⟨S_, .f32⟩
  | 42 => ⟨S131072, .f32⟩
  | 43 => ⟨S131072, .f32⟩
  | 44 => ⟨S_, .f32⟩
  | 45 => ⟨S131072, .f32⟩
  | 46 => ⟨S131072, .i1⟩
  | 47 => ⟨S131072, .f32⟩
  | 48 => ⟨S131072, .i1⟩
  | 49 => ⟨S131072, .f32⟩
  | 50 => ⟨S131072, .f32⟩
  | 51 => ⟨S_, .f32⟩
  | 52 => ⟨S131072, .f32⟩
  | 53 => ⟨S131072, .f32⟩
  | 54 => ⟨S131072x1, .f32⟩
  | 55 => ⟨S131072x3, .f32⟩
  | 56 => ⟨S131072x3, .f32⟩
  | 57 => ⟨S131072x3, .f32⟩
  | 58 => ⟨S131072x3, .f32⟩
  | 59 => ⟨S_, .f32⟩
  | 60 => ⟨S131072, .f32⟩
  | 61 => ⟨S131072, .f32⟩
  | 62 => ⟨S_, .f32⟩
  | 63 => ⟨S131072, .f32⟩
  | 64 => ⟨S131072, .f32⟩
  | 65 => ⟨S_, .f32⟩
  | 66 => ⟨S131072, .f32⟩
  | 67 => ⟨S131072, .i1⟩
  | 68 => ⟨S131072, .f32⟩
  | 69 => ⟨S131072, .i1⟩
  | 70 => ⟨S131072, .f32⟩
  | 71 => ⟨S131072, .f32⟩
  | 72 => ⟨S_, .f32⟩
  | 73 => ⟨S131072, .f32⟩
  | 74 => ⟨S131072, .f32⟩
  | 75 => ⟨S131072x1, .f32⟩
  | 76 => ⟨S131072x3, .f32⟩
  | 77 => ⟨S131072x3, .f32⟩
  | 78 => ⟨S131072x3, .f32⟩
  | 79 => ⟨S131072x3, .f32⟩
  | 80 => ⟨S_, .f32⟩
  | 81 => ⟨S131072, .f32⟩
  | 82 => ⟨S131072, .f32⟩
  | 83 => ⟨S_, .f32⟩
  | 84 => ⟨S131072, .f32⟩
  | 85 => ⟨S131072, .f32⟩
  | 86 => ⟨S_, .f32⟩
  | 87 => ⟨S131072, .f32⟩
  | 88 => ⟨S131072, .i1⟩
  | 89 => ⟨S131072, .f32⟩
  | 90 => ⟨S131072, .i1⟩
  | 91 => ⟨S131072, .f32⟩
  | 92 => ⟨S131072, .f32⟩
  | 93 => ⟨S_, .f32⟩
  | 94 => ⟨S131072, .f32⟩
  | 95 => ⟨S131072, .f32⟩
  | 96 => ⟨S131072x1, .f32⟩
  | 97 => ⟨S131072x3, .f32⟩
  | 98 => ⟨S131072x3, .f32⟩
  | 99 => ⟨S131072x3, .f32⟩
  | 100 => ⟨S131072x3, .f32⟩
  | 101 => ⟨S_, .f32⟩
  | 102 => ⟨S131072, .f32⟩
  | 103 => ⟨S131072, .f32⟩
  | 104 => ⟨S_, .f32⟩
  | 105 => ⟨S131072, .f32⟩
  | 106 => ⟨S131072, .f32⟩
  | 107 => ⟨S_, .f32⟩
  | 108 => ⟨S131072, .f32⟩
  | 109 => ⟨S131072, .i1⟩
  | 110 => ⟨S131072, .f32⟩
  | 111 => ⟨S131072, .i1⟩
  | 112 => ⟨S131072, .f32⟩
  | 113 => ⟨S131072, .f32⟩
  | 114 => ⟨S_, .f32⟩
  | 115 => ⟨S131072, .f32⟩
  | 116 => ⟨S131072, .f32⟩
  | 117 => ⟨S131072x1, .f32⟩
  | 118 => ⟨S131072x3, .f32⟩
  | 119 => ⟨S131072x3, .f32⟩
  | 120 => ⟨S131072x3, .f32⟩
  | 121 => ⟨S131072x3, .f32⟩
  | 122 => ⟨S_, .f32⟩
  | 123 => ⟨S131072, .f32⟩
  | 124 => ⟨S131072, .f32⟩
  | 125 => ⟨S_, .f32⟩
  | 126 => ⟨S131072, .f32⟩
  | 127 => ⟨S131072, .f32⟩
  | _ => ⟨S131072x3, .f32⟩

abbrev hbmTy0_9 (i : Nat) : BufTy := match i % 128 with
  | 0 => ⟨S_, .f32⟩
  | 1 => ⟨S131072, .f32⟩
  | 2 => ⟨S131072, .i1⟩
  | 3 => ⟨S131072, .f32⟩
  | 4 => ⟨S131072, .i1⟩
  | 5 => ⟨S131072, .f32⟩
  | 6 => ⟨S131072, .f32⟩
  | 7 => ⟨S_, .f32⟩
  | 8 => ⟨S131072, .f32⟩
  | 9 => ⟨S131072, .f32⟩
  | 10 => ⟨S131072x1, .f32⟩
  | 11 => ⟨S131072x3, .f32⟩
  | 12 => ⟨S131072x3, .f32⟩
  | 13 => ⟨S131072x3, .f32⟩
  | 14 => ⟨S131072x3, .f32⟩
  | 15 => ⟨S_, .f32⟩
  | 16 => ⟨S131072, .f32⟩
  | 17 => ⟨S131072, .f32⟩
  | 18 => ⟨S_, .f32⟩
  | 19 => ⟨S131072, .f32⟩
  | 20 => ⟨S131072, .f32⟩
  | 21 => ⟨S_, .f32⟩
  | 22 => ⟨S131072, .f32⟩
  | 23 => ⟨S131072, .i1⟩
  | 24 => ⟨S131072, .f32⟩
  | 25 => ⟨S131072, .i1⟩
  | 26 => ⟨S131072, .f32⟩
  | 27 => ⟨S131072, .f32⟩
  | 28 => ⟨S_, .f32⟩
  | 29 => ⟨S131072, .f32⟩
  | 30 => ⟨S131072, .f32⟩
  | 31 => ⟨S131072x1, .f32⟩
  | 32 => ⟨S131072x3, .f32⟩
  | 33 => ⟨S131072x3, .f32⟩
  | 34 => ⟨S131072x3, .f32⟩
  | 35 => ⟨S131072x3, .f32⟩
  | 36 => ⟨S_, .f32⟩
  | 37 => ⟨S131072, .f32⟩
  | 38 => ⟨S131072, .f32⟩
  | 39 => ⟨S_, .f32⟩
  | 40 => ⟨S131072, .f32⟩
  | 41 => ⟨S131072, .f32⟩
  | 42 => ⟨S_, .f32⟩
  | 43 => ⟨S131072, .f32⟩
  | 44 => ⟨S131072, .i1⟩
  | 45 => ⟨S131072, .f32⟩
  | 46 => ⟨S131072, .i1⟩
  | 47 => ⟨S131072, .f32⟩
  | 48 => ⟨S131072, .f32⟩
  | 49 => ⟨S_, .f32⟩
  | 50 => ⟨S131072, .f32⟩
  | 51 => ⟨S131072, .f32⟩
  | 52 => ⟨S131072x1, .f32⟩
  | 53 => ⟨S131072x3, .f32⟩
  | 54 => ⟨S131072x3, .f32⟩
  | 55 => ⟨S131072x3, .f32⟩
  | 56 => ⟨S131072x3, .f32⟩
  | 57 => ⟨S_, .f32⟩
  | 58 => ⟨S131072, .f32⟩
  | 59 => ⟨S131072, .f32⟩
  | 60 => ⟨S_, .f32⟩
  | 61 => ⟨S131072, .f32⟩
  | 62 => ⟨S131072, .f32⟩
  | 63 => ⟨S_, .f32⟩
  | 64 => ⟨S131072, .f32⟩
  | 65 => ⟨S131072, .i1⟩
  | 66 => ⟨S131072, .f32⟩
  | 67 => ⟨S131072, .i1⟩
  | 68 => ⟨S131072, .f32⟩
  | 69 => ⟨S131072, .f32⟩
  | 70 => ⟨S_, .f32⟩
  | 71 => ⟨S131072, .f32⟩
  | 72 => ⟨S131072, .f32⟩
  | 73 => ⟨S131072x1, .f32⟩
  | 74 => ⟨S131072x3, .f32⟩
  | 75 => ⟨S131072x3, .f32⟩
  | 76 => ⟨S131072x3, .f32⟩
  | 77 => ⟨S131072x3, .f32⟩
  | 78 => ⟨S_, .f32⟩
  | 79 => ⟨S131072, .f32⟩
  | 80 => ⟨S131072, .f32⟩
  | 81 => ⟨S_, .f32⟩
  | 82 => ⟨S131072, .f32⟩
  | 83 => ⟨S131072, .f32⟩
  | 84 => ⟨S_, .f32⟩
  | 85 => ⟨S131072, .f32⟩
  | 86 => ⟨S131072, .i1⟩
  | 87 => ⟨S131072, .f32⟩
  | 88 => ⟨S131072, .i1⟩
  | 89 => ⟨S131072, .f32⟩
  | 90 => ⟨S131072, .f32⟩
  | 91 => ⟨S_, .f32⟩
  | 92 => ⟨S131072, .f32⟩
  | 93 => ⟨S131072, .f32⟩
  | 94 => ⟨S131072x1, .f32⟩
  | 95 => ⟨S131072x3, .f32⟩
  | 96 => ⟨S131072x3, .f32⟩
  | 97 => ⟨S131072x3, .f32⟩
  | 98 => ⟨S131072x3, .f32⟩
  | 99 => ⟨S_, .f32⟩
  | 100 => ⟨S131072, .f32⟩
  | 101 => ⟨S131072, .f32⟩
  | 102 => ⟨S_, .f32⟩
  | 103 => ⟨S131072, .f32⟩
  | 104 => ⟨S131072, .f32⟩
  | 105 => ⟨S_, .f32⟩
  | 106 => ⟨S131072, .f32⟩
  | 107 => ⟨S131072, .i1⟩
  | 108 => ⟨S131072, .f32⟩
  | 109 => ⟨S131072, .i1⟩
  | 110 => ⟨S131072, .f32⟩
  | 111 => ⟨S131072, .f32⟩
  | 112 => ⟨S_, .f32⟩
  | 113 => ⟨S131072, .f32⟩
  | 114 => ⟨S131072, .f32⟩
  | 115 => ⟨S131072x1, .f32⟩
  | 116 => ⟨S131072x3, .f32⟩
  | 117 => ⟨S131072x3, .f32⟩
  | 118 => ⟨S131072x3, .f32⟩
  | 119 => ⟨S131072x3, .f32⟩
  | 120 => ⟨S_, .f32⟩
  | 121 => ⟨S131072, .f32⟩
  | 122 => ⟨S131072, .f32⟩
  | 123 => ⟨S_, .f32⟩
  | 124 => ⟨S131072, .f32⟩
  | 125 => ⟨S131072, .f32⟩
  | 126 => ⟨S_, .f32⟩
  | 127 => ⟨S131072, .f32⟩
  | _ => ⟨S131072x3, .f32⟩

abbrev hbmTy0_10 (i : Nat) : BufTy := match i % 128 with
  | 0 => ⟨S131072, .i1⟩
  | 1 => ⟨S131072, .f32⟩
  | 2 => ⟨S131072, .i1⟩
  | 3 => ⟨S131072, .f32⟩
  | 4 => ⟨S131072, .f32⟩
  | 5 => ⟨S_, .f32⟩
  | 6 => ⟨S131072, .f32⟩
  | 7 => ⟨S131072, .f32⟩
  | 8 => ⟨S131072x1, .f32⟩
  | 9 => ⟨S131072x3, .f32⟩
  | 10 => ⟨S131072x3, .f32⟩
  | 11 => ⟨S131072x3, .f32⟩
  | 12 => ⟨S131072x3, .f32⟩
  | 13 => ⟨S_, .f32⟩
  | 14 => ⟨S131072, .f32⟩
  | 15 => ⟨S131072, .f32⟩
  | 16 => ⟨S_, .f32⟩
  | 17 => ⟨S131072, .f32⟩
  | 18 => ⟨S131072, .f32⟩
  | 19 => ⟨S_, .f32⟩
  | 20 => ⟨S131072, .f32⟩
  | 21 => ⟨S131072, .i1⟩
  | 22 => ⟨S131072, .f32⟩
  | 23 => ⟨S131072, .i1⟩
  | 24 => ⟨S131072, .f32⟩
  | 25 => ⟨S131072, .f32⟩
  | 26 => ⟨S_, .f32⟩
  | 27 => ⟨S131072, .f32⟩
  | 28 => ⟨S131072, .f32⟩
  | 29 => ⟨S131072x1, .f32⟩
  | 30 => ⟨S131072x3, .f32⟩
  | 31 => ⟨S131072x3, .f32⟩
  | 32 => ⟨S131072x3, .f32⟩
  | 33 => ⟨S131072x3, .f32⟩
  | 34 => ⟨S_, .f32⟩
  | 35 => ⟨S131072, .f32⟩
  | 36 => ⟨S131072, .f32⟩
  | 37 => ⟨S_, .f32⟩
  | 38 => ⟨S131072, .f32⟩
  | 39 => ⟨S131072, .f32⟩
  | 40 => ⟨S_, .f32⟩
  | 41 => ⟨S131072, .f32⟩
  | 42 => ⟨S131072, .i1⟩
  | 43 => ⟨S131072, .f32⟩
  | 44 => ⟨S131072, .i1⟩
  | 45 => ⟨S131072, .f32⟩
  | 46 => ⟨S131072, .f32⟩
  | 47 => ⟨S_, .f32⟩
  | 48 => ⟨S131072, .f32⟩
  | 49 => ⟨S131072, .f32⟩
  | 50 => ⟨S131072x1, .f32⟩
  | 51 => ⟨S131072x3, .f32⟩
  | 52 => ⟨S131072x3, .f32⟩
  | 53 => ⟨S131072x3, .f32⟩
  | 54 => ⟨S131072x3, .f32⟩
  | 55 => ⟨S_, .f32⟩
  | 56 => ⟨S131072, .f32⟩
  | 57 => ⟨S131072, .f32⟩
  | 58 => ⟨S_, .f32⟩
  | 59 => ⟨S131072, .f32⟩
  | 60 => ⟨S131072, .f32⟩
  | 61 => ⟨S_, .f32⟩
  | 62 => ⟨S131072, .f32⟩
  | 63 => ⟨S131072, .i1⟩
  | 64 => ⟨S131072, .f32⟩
  | 65 => ⟨S131072, .i1⟩
  | 66 => ⟨S131072, .f32⟩
  | 67 => ⟨S131072, .f32⟩
  | 68 => ⟨S_, .f32⟩
  | 69 => ⟨S131072, .f32⟩
  | 70 => ⟨S131072, .f32⟩
  | 71 => ⟨S131072x1, .f32⟩
  | 72 => ⟨S131072x3, .f32⟩
  | 73 => ⟨S131072x3, .f32⟩
  | 74 => ⟨S131072x3, .f32⟩
  | 75 => ⟨S131072x3, .f32⟩
  | 76 => ⟨S_, .f32⟩
  | 77 => ⟨S131072, .f32⟩
  | 78 => ⟨S131072, .f32⟩
  | 79 => ⟨S_, .f32⟩
  | 80 => ⟨S131072, .f32⟩
  | 81 => ⟨S131072, .f32⟩
  | 82 => ⟨S_, .f32⟩
  | 83 => ⟨S131072, .f32⟩
  | 84 => ⟨S131072, .i1⟩
  | 85 => ⟨S131072, .f32⟩
  | 86 => ⟨S131072, .i1⟩
  | 87 => ⟨S131072, .f32⟩
  | 88 => ⟨S131072, .f32⟩
  | 89 => ⟨S_, .f32⟩
  | 90 => ⟨S131072, .f32⟩
  | 91 => ⟨S131072, .f32⟩
  | 92 => ⟨S131072x1, .f32⟩
  | 93 => ⟨S131072x3, .f32⟩
  | 94 => ⟨S131072x3, .f32⟩
  | 95 => ⟨S131072x3, .f32⟩
  | 96 => ⟨S131072x3, .f32⟩
  | 97 => ⟨S_, .f32⟩
  | 98 => ⟨S131072, .f32⟩
  | 99 => ⟨S131072, .f32⟩
  | 100 => ⟨S_, .f32⟩
  | 101 => ⟨S131072, .f32⟩
  | 102 => ⟨S131072, .f32⟩
  | 103 => ⟨S_, .f32⟩
  | 104 => ⟨S131072, .f32⟩
  | 105 => ⟨S131072, .i1⟩
  | 106 => ⟨S131072, .f32⟩
  | 107 => ⟨S131072, .i1⟩
  | 108 => ⟨S131072, .f32⟩
  | 109 => ⟨S131072, .f32⟩
  | 110 => ⟨S_, .f32⟩
  | 111 => ⟨S131072, .f32⟩
  | 112 => ⟨S131072, .f32⟩
  | 113 => ⟨S131072x1, .f32⟩
  | 114 => ⟨S131072x3, .f32⟩
  | 115 => ⟨S131072x3, .f32⟩
  | 116 => ⟨S131072x3, .f32⟩
  | 117 => ⟨S131072x3, .f32⟩
  | 118 => ⟨S_, .f32⟩
  | 119 => ⟨S131072, .f32⟩
  | 120 => ⟨S131072, .f32⟩
  | 121 => ⟨S_, .f32⟩
  | 122 => ⟨S131072, .f32⟩
  | 123 => ⟨S131072, .f32⟩
  | 124 => ⟨S_, .f32⟩
  | 125 => ⟨S131072, .f32⟩
  | 126 => ⟨S131072, .i1⟩
  | 127 => ⟨S131072, .f32⟩
  | _ => ⟨S131072x3, .f32⟩

abbrev hbmTy0_11 (i : Nat) : BufTy := match i % 128 with
  | 0 => ⟨S131072, .i1⟩
  | 1 => ⟨S131072, .f32⟩
  | 2 => ⟨S131072, .f32⟩
  | 3 => ⟨S_, .f32⟩
  | 4 => ⟨S131072, .f32⟩
  | 5 => ⟨S131072, .f32⟩
  | 6 => ⟨S131072x1, .f32⟩
  | 7 => ⟨S131072x3, .f32⟩
  | 8 => ⟨S131072x3, .f32⟩
  | 9 => ⟨S131072x3, .f32⟩
  | 10 => ⟨S131072x3, .f32⟩
  | 11 => ⟨S_, .f32⟩
  | 12 => ⟨S131072, .f32⟩
  | 13 => ⟨S131072, .f32⟩
  | 14 => ⟨S_, .f32⟩
  | 15 => ⟨S131072, .f32⟩
  | 16 => ⟨S131072, .f32⟩
  | 17 => ⟨S131072x1, .i1⟩
  | 18 => ⟨S_, .f32⟩
  | 19 => ⟨S_, .f32⟩
  | 20 => ⟨S131072x3, .i1⟩
  | 21 => ⟨S131072x3, .f32⟩
  | 22 => ⟨S131072x3, .f32⟩
  | 23 => ⟨S_, .f32⟩
  | 24 => ⟨S_, .f32⟩
  | 25 => ⟨S131072, .f32⟩
  | 26 => ⟨S131072, .f32⟩
  | 27 => ⟨S_, .f32⟩
  | 28 => ⟨S_, .f32⟩
  | 29 => ⟨S131072, .f32⟩
  | 30 => ⟨S131072, .f32⟩
  | 31 => ⟨S131072, .i1⟩
  | 32 => ⟨S131072x1, .i1⟩
  | 33 => ⟨S131072x3, .i1⟩
  | 34 => ⟨S131072x3, .f32⟩
  | 35 => ⟨S131072, .f32⟩
  | 36 => ⟨S131072, .f32⟩
  | _ => ⟨S131072x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S131072x3, .f32⟩

abbrev bufTy : (tb : Table) → Fin (tcTables nBuf tb) → BufTy
  | .hbm, ⟨i, _⟩ => hbmTy i
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_call2_v0 : Ref sig .tc := ⟨.hbm, 48, rfl⟩
abbrev main_call2_v1 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_call4_v0 : Ref sig .tc := ⟨.hbm, 72, rfl⟩
abbrev main_call4_v1 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_call6_v0 : Ref sig .tc := ⟨.hbm, 96, rfl⟩
abbrev main_call6_v1 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_cst_16 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_17 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_18 : Ref sig .tc := ⟨.hbm, 119, rfl⟩
abbrev main_call8_v0 : Ref sig .tc := ⟨.hbm, 120, rfl⟩
abbrev main_call8_v1 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_19 : Ref sig .tc := ⟨.hbm, 129, rfl⟩
abbrev main_v94 : Ref sig .tc := ⟨.hbm, 130, rfl⟩
abbrev main_v95 : Ref sig .tc := ⟨.hbm, 131, rfl⟩
abbrev main_cst_20 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_21 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_22 : Ref sig .tc := ⟨.hbm, 143, rfl⟩
abbrev main_call10_v0 : Ref sig .tc := ⟨.hbm, 144, rfl⟩
abbrev main_call10_v1 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_23 : Ref sig .tc := ⟨.hbm, 153, rfl⟩
abbrev main_v112 : Ref sig .tc := ⟨.hbm, 154, rfl⟩
abbrev main_v113 : Ref sig .tc := ⟨.hbm, 155, rfl⟩
abbrev main_cst_24 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_25 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_26 : Ref sig .tc := ⟨.hbm, 167, rfl⟩
abbrev main_call12_v0 : Ref sig .tc := ⟨.hbm, 168, rfl⟩
abbrev main_call12_v1 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_27 : Ref sig .tc := ⟨.hbm, 177, rfl⟩
abbrev main_v130 : Ref sig .tc := ⟨.hbm, 178, rfl⟩
abbrev main_v131 : Ref sig .tc := ⟨.hbm, 179, rfl⟩
abbrev main_cst_28 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_29 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_30 : Ref sig .tc := ⟨.hbm, 191, rfl⟩
abbrev main_call14_v0 : Ref sig .tc := ⟨.hbm, 192, rfl⟩
abbrev main_call14_v1 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_cst_31 : Ref sig .tc := ⟨.hbm, 201, rfl⟩
abbrev main_v148 : Ref sig .tc := ⟨.hbm, 202, rfl⟩
abbrev main_v149 : Ref sig .tc := ⟨.hbm, 203, rfl⟩
abbrev main_cst_32 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_cst_33 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_34 : Ref sig .tc := ⟨.hbm, 215, rfl⟩
abbrev main_call16_v0 : Ref sig .tc := ⟨.hbm, 216, rfl⟩
abbrev main_call16_v1 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_cst_35 : Ref sig .tc := ⟨.hbm, 225, rfl⟩
abbrev main_v166 : Ref sig .tc := ⟨.hbm, 226, rfl⟩
abbrev main_v167 : Ref sig .tc := ⟨.hbm, 227, rfl⟩
abbrev main_cst_36 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_cst_37 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_cst_38 : Ref sig .tc := ⟨.hbm, 239, rfl⟩
abbrev main_call18_v0 : Ref sig .tc := ⟨.hbm, 240, rfl⟩
abbrev main_call18_v1 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_cst_39 : Ref sig .tc := ⟨.hbm, 249, rfl⟩
abbrev main_v184 : Ref sig .tc := ⟨.hbm, 250, rfl⟩
abbrev main_v185 : Ref sig .tc := ⟨.hbm, 251, rfl⟩
abbrev main_cst_40 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_cst_41 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_cst_42 : Ref sig .tc := ⟨.hbm, 263, rfl⟩
abbrev main_call20_v0 : Ref sig .tc := ⟨.hbm, 264, rfl⟩
abbrev main_call20_v1 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_cst_43 : Ref sig .tc := ⟨.hbm, 273, rfl⟩
abbrev main_v202 : Ref sig .tc := ⟨.hbm, 274, rfl⟩
abbrev main_v203 : Ref sig .tc := ⟨.hbm, 275, rfl⟩
abbrev main_cst_44 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_cst_45 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_cst_46 : Ref sig .tc := ⟨.hbm, 287, rfl⟩
abbrev main_call22_v0 : Ref sig .tc := ⟨.hbm, 288, rfl⟩
abbrev main_call22_v1 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_cst_47 : Ref sig .tc := ⟨.hbm, 297, rfl⟩
abbrev main_v220 : Ref sig .tc := ⟨.hbm, 298, rfl⟩
abbrev main_v221 : Ref sig .tc := ⟨.hbm, 299, rfl⟩
abbrev main_cst_48 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_cst_49 : Ref sig .tc := ⟨.hbm, 305, rfl⟩
abbrev main_v226 : Ref sig .tc := ⟨.hbm, 306, rfl⟩
abbrev main_v227 : Ref sig .tc := ⟨.hbm, 307, rfl⟩
abbrev main_v228 : Ref sig .tc := ⟨.hbm, 308, rfl⟩
abbrev main_v229 : Ref sig .tc := ⟨.hbm, 309, rfl⟩
abbrev main_v230 : Ref sig .tc := ⟨.hbm, 310, rfl⟩
abbrev main_cst_50 : Ref sig .tc := ⟨.hbm, 311, rfl⟩
abbrev main_call24_v0 : Ref sig .tc := ⟨.hbm, 312, rfl⟩
abbrev main_call24_v1 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_cst_51 : Ref sig .tc := ⟨.hbm, 321, rfl⟩
abbrev main_v238 : Ref sig .tc := ⟨.hbm, 322, rfl⟩
abbrev main_v239 : Ref sig .tc := ⟨.hbm, 323, rfl⟩
abbrev main_cst_52 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_cst_53 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_cst_54 : Ref sig .tc := ⟨.hbm, 335, rfl⟩
abbrev main_call26_v0 : Ref sig .tc := ⟨.hbm, 336, rfl⟩
abbrev main_call26_v1 : Ref sig .tc := ⟨.hbm, 337, rfl⟩
abbrev main_v249 : Ref sig .tc := ⟨.hbm, 338, rfl⟩
abbrev main_v250 : Ref sig .tc := ⟨.hbm, 339, rfl⟩
abbrev main_v251 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_v255 : Ref sig .tc := ⟨.hbm, 344, rfl⟩
abbrev main_cst_55 : Ref sig .tc := ⟨.hbm, 345, rfl⟩
abbrev main_v256 : Ref sig .tc := ⟨.hbm, 346, rfl⟩
abbrev main_v257 : Ref sig .tc := ⟨.hbm, 347, rfl⟩
abbrev main_cst_56 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_v261 : Ref sig .tc := ⟨.hbm, 352, rfl⟩
abbrev main_cst_57 : Ref sig .tc := ⟨.hbm, 353, rfl⟩
abbrev main_v262 : Ref sig .tc := ⟨.hbm, 354, rfl⟩
abbrev main_v263 : Ref sig .tc := ⟨.hbm, 355, rfl⟩
abbrev main_v264 : Ref sig .tc := ⟨.hbm, 356, rfl⟩
abbrev main_v265 : Ref sig .tc := ⟨.hbm, 357, rfl⟩
abbrev main_v266 : Ref sig .tc := ⟨.hbm, 358, rfl⟩
abbrev main_cst_58 : Ref sig .tc := ⟨.hbm, 359, rfl⟩
abbrev main_call28_v0 : Ref sig .tc := ⟨.hbm, 360, rfl⟩
abbrev main_call28_v1 : Ref sig .tc := ⟨.hbm, 361, rfl⟩
abbrev main_v267 : Ref sig .tc := ⟨.hbm, 362, rfl⟩
abbrev main_v268 : Ref sig .tc := ⟨.hbm, 363, rfl⟩
abbrev main_v269 : Ref sig .tc := ⟨.hbm, 364, rfl⟩
abbrev main_v270 : Ref sig .tc := ⟨.hbm, 365, rfl⟩
abbrev main_v271 : Ref sig .tc := ⟨.hbm, 366, rfl⟩
abbrev main_v272 : Ref sig .tc := ⟨.hbm, 367, rfl⟩
abbrev main_v273 : Ref sig .tc := ⟨.hbm, 368, rfl⟩
abbrev main_cst_59 : Ref sig .tc := ⟨.hbm, 369, rfl⟩
abbrev main_v274 : Ref sig .tc := ⟨.hbm, 370, rfl⟩
abbrev main_v275 : Ref sig .tc := ⟨.hbm, 371, rfl⟩
abbrev main_cst_60 : Ref sig .tc := ⟨.hbm, 372, rfl⟩
abbrev main_v276 : Ref sig .tc := ⟨.hbm, 373, rfl⟩
abbrev main_v277 : Ref sig .tc := ⟨.hbm, 374, rfl⟩
abbrev main_v278 : Ref sig .tc := ⟨.hbm, 375, rfl⟩
abbrev main_v279 : Ref sig .tc := ⟨.hbm, 376, rfl⟩
abbrev main_cst_61 : Ref sig .tc := ⟨.hbm, 377, rfl⟩
abbrev main_v280 : Ref sig .tc := ⟨.hbm, 378, rfl⟩
abbrev main_v281 : Ref sig .tc := ⟨.hbm, 379, rfl⟩
abbrev main_v282 : Ref sig .tc := ⟨.hbm, 380, rfl⟩
abbrev main_v283 : Ref sig .tc := ⟨.hbm, 381, rfl⟩
abbrev main_v284 : Ref sig .tc := ⟨.hbm, 382, rfl⟩
abbrev main_cst_62 : Ref sig .tc := ⟨.hbm, 383, rfl⟩
abbrev main_call30_v0 : Ref sig .tc := ⟨.hbm, 384, rfl⟩
abbrev main_call30_v1 : Ref sig .tc := ⟨.hbm, 385, rfl⟩
abbrev main_v285 : Ref sig .tc := ⟨.hbm, 386, rfl⟩
abbrev main_v286 : Ref sig .tc := ⟨.hbm, 387, rfl⟩
abbrev main_v287 : Ref sig .tc := ⟨.hbm, 388, rfl⟩
abbrev main_v288 : Ref sig .tc := ⟨.hbm, 389, rfl⟩
abbrev main_v289 : Ref sig .tc := ⟨.hbm, 390, rfl⟩
abbrev main_v290 : Ref sig .tc := ⟨.hbm, 391, rfl⟩
abbrev main_v291 : Ref sig .tc := ⟨.hbm, 392, rfl⟩
abbrev main_cst_63 : Ref sig .tc := ⟨.hbm, 393, rfl⟩
abbrev main_v292 : Ref sig .tc := ⟨.hbm, 394, rfl⟩
abbrev main_v293 : Ref sig .tc := ⟨.hbm, 395, rfl⟩
abbrev main_cst_64 : Ref sig .tc := ⟨.hbm, 396, rfl⟩
abbrev main_v294 : Ref sig .tc := ⟨.hbm, 397, rfl⟩
abbrev main_v295 : Ref sig .tc := ⟨.hbm, 398, rfl⟩
abbrev main_v296 : Ref sig .tc := ⟨.hbm, 399, rfl⟩
abbrev main_v297 : Ref sig .tc := ⟨.hbm, 400, rfl⟩
abbrev main_cst_65 : Ref sig .tc := ⟨.hbm, 401, rfl⟩
abbrev main_v298 : Ref sig .tc := ⟨.hbm, 402, rfl⟩
abbrev main_v299 : Ref sig .tc := ⟨.hbm, 403, rfl⟩
abbrev main_v300 : Ref sig .tc := ⟨.hbm, 404, rfl⟩
abbrev main_v301 : Ref sig .tc := ⟨.hbm, 405, rfl⟩
abbrev main_v302 : Ref sig .tc := ⟨.hbm, 406, rfl⟩
abbrev main_cst_66 : Ref sig .tc := ⟨.hbm, 407, rfl⟩
abbrev main_v303 : Ref sig .tc := ⟨.hbm, 408, rfl⟩
abbrev main_v304 : Ref sig .tc := ⟨.hbm, 409, rfl⟩
abbrev main_v305 : Ref sig .tc := ⟨.hbm, 410, rfl⟩
abbrev main_v306 : Ref sig .tc := ⟨.hbm, 411, rfl⟩
abbrev main_cst_67 : Ref sig .tc := ⟨.hbm, 412, rfl⟩
abbrev main_v307 : Ref sig .tc := ⟨.hbm, 413, rfl⟩
abbrev main_v308 : Ref sig .tc := ⟨.hbm, 414, rfl⟩
abbrev main_v309 : Ref sig .tc := ⟨.hbm, 415, rfl⟩
abbrev main_v310 : Ref sig .tc := ⟨.hbm, 416, rfl⟩
abbrev main_v311 : Ref sig .tc := ⟨.hbm, 417, rfl⟩
abbrev main_cst_68 : Ref sig .tc := ⟨.hbm, 418, rfl⟩
abbrev main_v312 : Ref sig .tc := ⟨.hbm, 419, rfl⟩
abbrev main_v313 : Ref sig .tc := ⟨.hbm, 420, rfl⟩
abbrev main_v314 : Ref sig .tc := ⟨.hbm, 421, rfl⟩
abbrev main_v315 : Ref sig .tc := ⟨.hbm, 422, rfl⟩
abbrev main_cst_69 : Ref sig .tc := ⟨.hbm, 423, rfl⟩
abbrev main_cst_70 : Ref sig .tc := ⟨.hbm, 424, rfl⟩
abbrev main_call32_v0 : Ref sig .tc := ⟨.hbm, 425, rfl⟩
abbrev main_call32_v1 : Ref sig .tc := ⟨.hbm, 426, rfl⟩
abbrev main_call32_v2 : Ref sig .tc := ⟨.hbm, 427, rfl⟩
abbrev main_call32_cst : Ref sig .tc := ⟨.hbm, 428, rfl⟩
abbrev main_call32_v3 : Ref sig .tc := ⟨.hbm, 429, rfl⟩
abbrev main_call32_v4 : Ref sig .tc := ⟨.hbm, 430, rfl⟩
abbrev main_call32_cst_0 : Ref sig .tc := ⟨.hbm, 431, rfl⟩
abbrev main_call32_v5 : Ref sig .tc := ⟨.hbm, 432, rfl⟩
abbrev main_call32_v6 : Ref sig .tc := ⟨.hbm, 433, rfl⟩
abbrev main_call32_v7 : Ref sig .tc := ⟨.hbm, 434, rfl⟩
abbrev main_call32_cst_1 : Ref sig .tc := ⟨.hbm, 435, rfl⟩
abbrev main_call32_v8 : Ref sig .tc := ⟨.hbm, 436, rfl⟩
abbrev main_call32_v9 : Ref sig .tc := ⟨.hbm, 437, rfl⟩
abbrev main_call32_v10 : Ref sig .tc := ⟨.hbm, 438, rfl⟩
abbrev main_call32_v11 : Ref sig .tc := ⟨.hbm, 439, rfl⟩
abbrev main_call32_v12 : Ref sig .tc := ⟨.hbm, 440, rfl⟩
abbrev main_call32_v13 : Ref sig .tc := ⟨.hbm, 441, rfl⟩
abbrev main_call32_v14 : Ref sig .tc := ⟨.hbm, 442, rfl⟩
abbrev main_call32_v15 : Ref sig .tc := ⟨.hbm, 443, rfl⟩
abbrev main_call32_v16 : Ref sig .tc := ⟨.hbm, 444, rfl⟩
abbrev main_v316 : Ref sig .tc := ⟨.hbm, 445, rfl⟩
abbrev main_v317 : Ref sig .tc := ⟨.hbm, 446, rfl⟩
abbrev main_v318 : Ref sig .tc := ⟨.hbm, 447, rfl⟩
abbrev main_v319 : Ref sig .tc := ⟨.hbm, 448, rfl⟩
abbrev main_v320 : Ref sig .tc := ⟨.hbm, 449, rfl⟩
abbrev main_v321 : Ref sig .tc := ⟨.hbm, 450, rfl⟩
abbrev main_v322 : Ref sig .tc := ⟨.hbm, 451, rfl⟩
abbrev main_v323 : Ref sig .tc := ⟨.hbm, 452, rfl⟩
abbrev main_v324 : Ref sig .tc := ⟨.hbm, 453, rfl⟩
abbrev main_v325 : Ref sig .tc := ⟨.hbm, 454, rfl⟩
abbrev main_v326 : Ref sig .tc := ⟨.hbm, 455, rfl⟩
abbrev main_v327 : Ref sig .tc := ⟨.hbm, 456, rfl⟩
abbrev main_v328 : Ref sig .tc := ⟨.hbm, 457, rfl⟩
abbrev main_v329 : Ref sig .tc := ⟨.hbm, 458, rfl⟩
abbrev main_v330 : Ref sig .tc := ⟨.hbm, 459, rfl⟩
abbrev main_v331 : Ref sig .tc := ⟨.hbm, 460, rfl⟩
abbrev main_v332 : Ref sig .tc := ⟨.hbm, 461, rfl⟩
abbrev main_v333 : Ref sig .tc := ⟨.hbm, 462, rfl⟩
abbrev main_v334 : Ref sig .tc := ⟨.hbm, 463, rfl⟩
abbrev main_cst_71 : Ref sig .tc := ⟨.hbm, 464, rfl⟩
abbrev main_v335 : Ref sig .tc := ⟨.hbm, 465, rfl⟩
abbrev main_v336 : Ref sig .tc := ⟨.hbm, 466, rfl⟩
abbrev main_cst_72 : Ref sig .tc := ⟨.hbm, 467, rfl⟩
abbrev main_v337 : Ref sig .tc := ⟨.hbm, 468, rfl⟩
abbrev main_v338 : Ref sig .tc := ⟨.hbm, 469, rfl⟩
abbrev main_v339 : Ref sig .tc := ⟨.hbm, 470, rfl⟩
abbrev main_v340 : Ref sig .tc := ⟨.hbm, 471, rfl⟩
abbrev main_cst_73 : Ref sig .tc := ⟨.hbm, 472, rfl⟩
abbrev main_v341 : Ref sig .tc := ⟨.hbm, 473, rfl⟩
abbrev main_v342 : Ref sig .tc := ⟨.hbm, 474, rfl⟩
abbrev main_cst_74 : Ref sig .tc := ⟨.hbm, 475, rfl⟩
abbrev main_v343 : Ref sig .tc := ⟨.hbm, 476, rfl⟩
abbrev main_v344 : Ref sig .tc := ⟨.hbm, 477, rfl⟩
abbrev main_v345 : Ref sig .tc := ⟨.hbm, 478, rfl⟩
abbrev main_v346 : Ref sig .tc := ⟨.hbm, 479, rfl⟩
abbrev main_v347 : Ref sig .tc := ⟨.hbm, 480, rfl⟩
abbrev main_cst_75 : Ref sig .tc := ⟨.hbm, 481, rfl⟩
abbrev main_v348 : Ref sig .tc := ⟨.hbm, 482, rfl⟩
abbrev main_v349 : Ref sig .tc := ⟨.hbm, 483, rfl⟩
abbrev main_v350 : Ref sig .tc := ⟨.hbm, 484, rfl⟩
abbrev main_v351 : Ref sig .tc := ⟨.hbm, 485, rfl⟩
abbrev main_v352 : Ref sig .tc := ⟨.hbm, 486, rfl⟩
abbrev main_v353 : Ref sig .tc := ⟨.hbm, 487, rfl⟩
abbrev main_c : Ref sig .tc := ⟨.hbm, 488, rfl⟩
abbrev main_call33_v0 : Ref sig .tc := ⟨.hbm, 489, rfl⟩
abbrev main_call33_v1 : Ref sig .tc := ⟨.hbm, 490, rfl⟩
abbrev main_call33_v2 : Ref sig .tc := ⟨.hbm, 491, rfl⟩
abbrev main_v354 : Ref sig .tc := ⟨.hbm, 492, rfl⟩
abbrev main_c_76 : Ref sig .tc := ⟨.hbm, 493, rfl⟩
abbrev main_v355 : Ref sig .tc := ⟨.hbm, 494, rfl⟩
abbrev main_cst_77 : Ref sig .tc := ⟨.hbm, 495, rfl⟩
abbrev main_v356 : Ref sig .tc := ⟨.hbm, 496, rfl⟩
abbrev main_v357 : Ref sig .tc := ⟨.hbm, 497, rfl⟩
abbrev main_c_78 : Ref sig .tc := ⟨.hbm, 498, rfl⟩
abbrev main_v358 : Ref sig .tc := ⟨.hbm, 499, rfl⟩
abbrev main_v359 : Ref sig .tc := ⟨.hbm, 500, rfl⟩
abbrev main_v360 : Ref sig .tc := ⟨.hbm, 501, rfl⟩
abbrev main_v361 : Ref sig .tc := ⟨.hbm, 502, rfl⟩
abbrev main_v362 : Ref sig .tc := ⟨.hbm, 503, rfl⟩
abbrev main_v363 : Ref sig .tc := ⟨.hbm, 504, rfl⟩
abbrev main_cst_79 : Ref sig .tc := ⟨.hbm, 505, rfl⟩
abbrev main_v364 : Ref sig .tc := ⟨.hbm, 506, rfl⟩
abbrev main_v365 : Ref sig .tc := ⟨.hbm, 507, rfl⟩
abbrev main_v366 : Ref sig .tc := ⟨.hbm, 508, rfl⟩
abbrev main_v367 : Ref sig .tc := ⟨.hbm, 509, rfl⟩
abbrev main_v368 : Ref sig .tc := ⟨.hbm, 510, rfl⟩
abbrev main_c_80 : Ref sig .tc := ⟨.hbm, 511, rfl⟩
abbrev main_c_81 : Ref sig .tc := ⟨.hbm, 512, rfl⟩
abbrev main_call34_v0 : Ref sig .tc := ⟨.hbm, 513, rfl⟩
abbrev main_call34_v1 : Ref sig .tc := ⟨.hbm, 514, rfl⟩
abbrev main_call34_v2 : Ref sig .tc := ⟨.hbm, 515, rfl⟩
abbrev main_call34_v3 : Ref sig .tc := ⟨.hbm, 516, rfl⟩
abbrev main_call34_v4 : Ref sig .tc := ⟨.hbm, 517, rfl⟩
abbrev main_v369 : Ref sig .tc := ⟨.hbm, 518, rfl⟩
abbrev main_c_82 : Ref sig .tc := ⟨.hbm, 519, rfl⟩
abbrev main_v370 : Ref sig .tc := ⟨.hbm, 520, rfl⟩
abbrev main_v371 : Ref sig .tc := ⟨.hbm, 521, rfl⟩
abbrev main_v372 : Ref sig .tc := ⟨.hbm, 522, rfl⟩
abbrev main_call35_c : Ref sig .tc := ⟨.hbm, 523, rfl⟩
abbrev main_call35_v0 : Ref sig .tc := ⟨.hbm, 524, rfl⟩
abbrev main_call35_v1 : Ref sig .tc := ⟨.hbm, 525, rfl⟩
abbrev main_call35_c_0 : Ref sig .tc := ⟨.hbm, 526, rfl⟩
abbrev main_call35_v2 : Ref sig .tc := ⟨.hbm, 527, rfl⟩
abbrev main_call35_v3 : Ref sig .tc := ⟨.hbm, 528, rfl⟩
abbrev main_call35_v4 : Ref sig .tc := ⟨.hbm, 529, rfl⟩
abbrev main_call35_v5 : Ref sig .tc := ⟨.hbm, 530, rfl⟩
abbrev main_call35_c_1 : Ref sig .tc := ⟨.hbm, 531, rfl⟩
abbrev main_call35_c_2 : Ref sig .tc := ⟨.hbm, 532, rfl⟩
abbrev main_call35_v6 : Ref sig .tc := ⟨.hbm, 533, rfl⟩
abbrev main_call35_v7 : Ref sig .tc := ⟨.hbm, 534, rfl⟩
abbrev main_call35_v8 : Ref sig .tc := ⟨.hbm, 535, rfl⟩
abbrev main_call35_v9 : Ref sig .tc := ⟨.hbm, 536, rfl⟩
abbrev main_call35_v10 : Ref sig .tc := ⟨.hbm, 537, rfl⟩
abbrev main_call35_v11 : Ref sig .tc := ⟨.hbm, 538, rfl⟩
abbrev main_call35_c_3 : Ref sig .tc := ⟨.hbm, 539, rfl⟩
abbrev main_call35_v12 : Ref sig .tc := ⟨.hbm, 540, rfl⟩
abbrev main_call35_v13 : Ref sig .tc := ⟨.hbm, 541, rfl⟩
abbrev main_call35_cst : Ref sig .tc := ⟨.hbm, 542, rfl⟩
abbrev main_call35_v14 : Ref sig .tc := ⟨.hbm, 543, rfl⟩
abbrev main_v373 : Ref sig .tc := ⟨.hbm, 544, rfl⟩
abbrev main_v374 : Ref sig .tc := ⟨.hbm, 545, rfl⟩
abbrev main_v375 : Ref sig .tc := ⟨.hbm, 546, rfl⟩
abbrev main_call36_c : Ref sig .tc := ⟨.hbm, 547, rfl⟩
abbrev main_call36_v0 : Ref sig .tc := ⟨.hbm, 548, rfl⟩
abbrev main_call36_v1 : Ref sig .tc := ⟨.hbm, 549, rfl⟩
abbrev main_call36_c_0 : Ref sig .tc := ⟨.hbm, 550, rfl⟩
abbrev main_call36_v2 : Ref sig .tc := ⟨.hbm, 551, rfl⟩
abbrev main_call36_v3 : Ref sig .tc := ⟨.hbm, 552, rfl⟩
abbrev main_call36_v4 : Ref sig .tc := ⟨.hbm, 553, rfl⟩
abbrev main_call36_v5 : Ref sig .tc := ⟨.hbm, 554, rfl⟩
abbrev main_call36_c_1 : Ref sig .tc := ⟨.hbm, 555, rfl⟩
abbrev main_call36_c_2 : Ref sig .tc := ⟨.hbm, 556, rfl⟩
abbrev main_call36_v6 : Ref sig .tc := ⟨.hbm, 557, rfl⟩
abbrev main_call36_v7 : Ref sig .tc := ⟨.hbm, 558, rfl⟩
abbrev main_call36_v8 : Ref sig .tc := ⟨.hbm, 559, rfl⟩
abbrev main_call36_v9 : Ref sig .tc := ⟨.hbm, 560, rfl⟩
abbrev main_call36_v10 : Ref sig .tc := ⟨.hbm, 561, rfl⟩
abbrev main_call36_v11 : Ref sig .tc := ⟨.hbm, 562, rfl⟩
abbrev main_call36_c_3 : Ref sig .tc := ⟨.hbm, 563, rfl⟩
abbrev main_call36_v12 : Ref sig .tc := ⟨.hbm, 564, rfl⟩
abbrev main_call36_v13 : Ref sig .tc := ⟨.hbm, 565, rfl⟩
abbrev main_call36_cst : Ref sig .tc := ⟨.hbm, 566, rfl⟩
abbrev main_call36_v14 : Ref sig .tc := ⟨.hbm, 567, rfl⟩
abbrev main_v376 : Ref sig .tc := ⟨.hbm, 568, rfl⟩
abbrev main_v377 : Ref sig .tc := ⟨.hbm, 569, rfl⟩
abbrev main_v378 : Ref sig .tc := ⟨.hbm, 570, rfl⟩
abbrev main_cst_83 : Ref sig .tc := ⟨.hbm, 571, rfl⟩
abbrev main_v379 : Ref sig .tc := ⟨.hbm, 572, rfl⟩
abbrev main_v380 : Ref sig .tc := ⟨.hbm, 573, rfl⟩
abbrev main_v381 : Ref sig .tc := ⟨.hbm, 574, rfl⟩
abbrev main_v382 : Ref sig .tc := ⟨.hbm, 575, rfl⟩
abbrev main_v383 : Ref sig .tc := ⟨.hbm, 576, rfl⟩
abbrev main_v384 : Ref sig .tc := ⟨.hbm, 577, rfl⟩
abbrev main_v385 : Ref sig .tc := ⟨.hbm, 578, rfl⟩
abbrev main_cst_84 : Ref sig .tc := ⟨.hbm, 579, rfl⟩
abbrev main_v386 : Ref sig .tc := ⟨.hbm, 580, rfl⟩
abbrev main_v387 : Ref sig .tc := ⟨.hbm, 581, rfl⟩
abbrev main_cst_85 : Ref sig .tc := ⟨.hbm, 582, rfl⟩
abbrev main_v388 : Ref sig .tc := ⟨.hbm, 583, rfl⟩
abbrev main_v389 : Ref sig .tc := ⟨.hbm, 584, rfl⟩
abbrev main_cst_86 : Ref sig .tc := ⟨.hbm, 585, rfl⟩
abbrev main_v390 : Ref sig .tc := ⟨.hbm, 586, rfl⟩
abbrev main_v391 : Ref sig .tc := ⟨.hbm, 587, rfl⟩
abbrev main_v392 : Ref sig .tc := ⟨.hbm, 588, rfl⟩
abbrev main_v393 : Ref sig .tc := ⟨.hbm, 589, rfl⟩
abbrev main_v394 : Ref sig .tc := ⟨.hbm, 590, rfl⟩
abbrev main_v395 : Ref sig .tc := ⟨.hbm, 591, rfl⟩
abbrev main_cst_87 : Ref sig .tc := ⟨.hbm, 592, rfl⟩
abbrev main_v396 : Ref sig .tc := ⟨.hbm, 593, rfl⟩
abbrev main_v397 : Ref sig .tc := ⟨.hbm, 594, rfl⟩
abbrev main_v398 : Ref sig .tc := ⟨.hbm, 595, rfl⟩
abbrev main_v399 : Ref sig .tc := ⟨.hbm, 596, rfl⟩
abbrev main_v400 : Ref sig .tc := ⟨.hbm, 597, rfl⟩
abbrev main_v401 : Ref sig .tc := ⟨.hbm, 598, rfl⟩
abbrev main_v402 : Ref sig .tc := ⟨.hbm, 599, rfl⟩
abbrev main_cst_88 : Ref sig .tc := ⟨.hbm, 600, rfl⟩
abbrev main_v403 : Ref sig .tc := ⟨.hbm, 601, rfl⟩
abbrev main_v404 : Ref sig .tc := ⟨.hbm, 602, rfl⟩
abbrev main_cst_89 : Ref sig .tc := ⟨.hbm, 603, rfl⟩
abbrev main_v405 : Ref sig .tc := ⟨.hbm, 604, rfl⟩
abbrev main_v406 : Ref sig .tc := ⟨.hbm, 605, rfl⟩
abbrev main_cst_90 : Ref sig .tc := ⟨.hbm, 606, rfl⟩
abbrev main_v407 : Ref sig .tc := ⟨.hbm, 607, rfl⟩
abbrev main_v408 : Ref sig .tc := ⟨.hbm, 608, rfl⟩
abbrev main_v409 : Ref sig .tc := ⟨.hbm, 609, rfl⟩
abbrev main_v410 : Ref sig .tc := ⟨.hbm, 610, rfl⟩
abbrev main_v411 : Ref sig .tc := ⟨.hbm, 611, rfl⟩
abbrev main_v412 : Ref sig .tc := ⟨.hbm, 612, rfl⟩
abbrev main_cst_91 : Ref sig .tc := ⟨.hbm, 613, rfl⟩
abbrev main_v413 : Ref sig .tc := ⟨.hbm, 614, rfl⟩
abbrev main_v414 : Ref sig .tc := ⟨.hbm, 615, rfl⟩
abbrev main_v415 : Ref sig .tc := ⟨.hbm, 616, rfl⟩
abbrev main_v416 : Ref sig .tc := ⟨.hbm, 617, rfl⟩
abbrev main_v417 : Ref sig .tc := ⟨.hbm, 618, rfl⟩
abbrev main_v418 : Ref sig .tc := ⟨.hbm, 619, rfl⟩
abbrev main_v419 : Ref sig .tc := ⟨.hbm, 620, rfl⟩
abbrev main_cst_92 : Ref sig .tc := ⟨.hbm, 621, rfl⟩
abbrev main_v420 : Ref sig .tc := ⟨.hbm, 622, rfl⟩
abbrev main_v421 : Ref sig .tc := ⟨.hbm, 623, rfl⟩
abbrev main_cst_93 : Ref sig .tc := ⟨.hbm, 624, rfl⟩
abbrev main_v422 : Ref sig .tc := ⟨.hbm, 625, rfl⟩
abbrev main_v423 : Ref sig .tc := ⟨.hbm, 626, rfl⟩
abbrev main_cst_94 : Ref sig .tc := ⟨.hbm, 627, rfl⟩
abbrev main_v424 : Ref sig .tc := ⟨.hbm, 628, rfl⟩
abbrev main_v425 : Ref sig .tc := ⟨.hbm, 629, rfl⟩
abbrev main_v426 : Ref sig .tc := ⟨.hbm, 630, rfl⟩
abbrev main_v427 : Ref sig .tc := ⟨.hbm, 631, rfl⟩
abbrev main_v428 : Ref sig .tc := ⟨.hbm, 632, rfl⟩
abbrev main_v429 : Ref sig .tc := ⟨.hbm, 633, rfl⟩
abbrev main_cst_95 : Ref sig .tc := ⟨.hbm, 634, rfl⟩
abbrev main_v430 : Ref sig .tc := ⟨.hbm, 635, rfl⟩
abbrev main_v431 : Ref sig .tc := ⟨.hbm, 636, rfl⟩
abbrev main_v432 : Ref sig .tc := ⟨.hbm, 637, rfl⟩
abbrev main_v433 : Ref sig .tc := ⟨.hbm, 638, rfl⟩
abbrev main_v434 : Ref sig .tc := ⟨.hbm, 639, rfl⟩
abbrev main_v435 : Ref sig .tc := ⟨.hbm, 640, rfl⟩
abbrev main_v436 : Ref sig .tc := ⟨.hbm, 641, rfl⟩
abbrev main_cst_96 : Ref sig .tc := ⟨.hbm, 642, rfl⟩
abbrev main_v437 : Ref sig .tc := ⟨.hbm, 643, rfl⟩
abbrev main_v438 : Ref sig .tc := ⟨.hbm, 644, rfl⟩
abbrev main_cst_97 : Ref sig .tc := ⟨.hbm, 645, rfl⟩
abbrev main_v439 : Ref sig .tc := ⟨.hbm, 646, rfl⟩
abbrev main_v440 : Ref sig .tc := ⟨.hbm, 647, rfl⟩
abbrev main_cst_98 : Ref sig .tc := ⟨.hbm, 648, rfl⟩
abbrev main_v441 : Ref sig .tc := ⟨.hbm, 649, rfl⟩
abbrev main_v442 : Ref sig .tc := ⟨.hbm, 650, rfl⟩
abbrev main_v443 : Ref sig .tc := ⟨.hbm, 651, rfl⟩
abbrev main_v444 : Ref sig .tc := ⟨.hbm, 652, rfl⟩
abbrev main_v445 : Ref sig .tc := ⟨.hbm, 653, rfl⟩
abbrev main_v446 : Ref sig .tc := ⟨.hbm, 654, rfl⟩
abbrev main_cst_99 : Ref sig .tc := ⟨.hbm, 655, rfl⟩
abbrev main_v447 : Ref sig .tc := ⟨.hbm, 656, rfl⟩
abbrev main_v448 : Ref sig .tc := ⟨.hbm, 657, rfl⟩
abbrev main_v449 : Ref sig .tc := ⟨.hbm, 658, rfl⟩
abbrev main_v450 : Ref sig .tc := ⟨.hbm, 659, rfl⟩
abbrev main_v451 : Ref sig .tc := ⟨.hbm, 660, rfl⟩
abbrev main_v452 : Ref sig .tc := ⟨.hbm, 661, rfl⟩
abbrev main_v453 : Ref sig .tc := ⟨.hbm, 662, rfl⟩
abbrev main_cst_100 : Ref sig .tc := ⟨.hbm, 663, rfl⟩
abbrev main_v454 : Ref sig .tc := ⟨.hbm, 664, rfl⟩
abbrev main_v455 : Ref sig .tc := ⟨.hbm, 665, rfl⟩
abbrev main_cst_101 : Ref sig .tc := ⟨.hbm, 666, rfl⟩
abbrev main_v456 : Ref sig .tc := ⟨.hbm, 667, rfl⟩
abbrev main_v457 : Ref sig .tc := ⟨.hbm, 668, rfl⟩
abbrev main_cst_102 : Ref sig .tc := ⟨.hbm, 669, rfl⟩
abbrev main_v458 : Ref sig .tc := ⟨.hbm, 670, rfl⟩
abbrev main_v459 : Ref sig .tc := ⟨.hbm, 671, rfl⟩
abbrev main_v460 : Ref sig .tc := ⟨.hbm, 672, rfl⟩
abbrev main_v461 : Ref sig .tc := ⟨.hbm, 673, rfl⟩
abbrev main_v462 : Ref sig .tc := ⟨.hbm, 674, rfl⟩
abbrev main_v463 : Ref sig .tc := ⟨.hbm, 675, rfl⟩
abbrev main_cst_103 : Ref sig .tc := ⟨.hbm, 676, rfl⟩
abbrev main_v464 : Ref sig .tc := ⟨.hbm, 677, rfl⟩
abbrev main_v465 : Ref sig .tc := ⟨.hbm, 678, rfl⟩
abbrev main_v466 : Ref sig .tc := ⟨.hbm, 679, rfl⟩
abbrev main_v467 : Ref sig .tc := ⟨.hbm, 680, rfl⟩
abbrev main_v468 : Ref sig .tc := ⟨.hbm, 681, rfl⟩
abbrev main_v469 : Ref sig .tc := ⟨.hbm, 682, rfl⟩
abbrev main_v470 : Ref sig .tc := ⟨.hbm, 683, rfl⟩
abbrev main_cst_104 : Ref sig .tc := ⟨.hbm, 684, rfl⟩
abbrev main_v471 : Ref sig .tc := ⟨.hbm, 685, rfl⟩
abbrev main_v472 : Ref sig .tc := ⟨.hbm, 686, rfl⟩
abbrev main_cst_105 : Ref sig .tc := ⟨.hbm, 687, rfl⟩
abbrev main_v473 : Ref sig .tc := ⟨.hbm, 688, rfl⟩
abbrev main_v474 : Ref sig .tc := ⟨.hbm, 689, rfl⟩
abbrev main_cst_106 : Ref sig .tc := ⟨.hbm, 690, rfl⟩
abbrev main_v475 : Ref sig .tc := ⟨.hbm, 691, rfl⟩
abbrev main_v476 : Ref sig .tc := ⟨.hbm, 692, rfl⟩
abbrev main_v477 : Ref sig .tc := ⟨.hbm, 693, rfl⟩
abbrev main_v478 : Ref sig .tc := ⟨.hbm, 694, rfl⟩
abbrev main_v479 : Ref sig .tc := ⟨.hbm, 695, rfl⟩
abbrev main_v480 : Ref sig .tc := ⟨.hbm, 696, rfl⟩
abbrev main_cst_107 : Ref sig .tc := ⟨.hbm, 697, rfl⟩
abbrev main_v481 : Ref sig .tc := ⟨.hbm, 698, rfl⟩
abbrev main_v482 : Ref sig .tc := ⟨.hbm, 699, rfl⟩
abbrev main_v483 : Ref sig .tc := ⟨.hbm, 700, rfl⟩
abbrev main_v484 : Ref sig .tc := ⟨.hbm, 701, rfl⟩
abbrev main_v485 : Ref sig .tc := ⟨.hbm, 702, rfl⟩
abbrev main_v486 : Ref sig .tc := ⟨.hbm, 703, rfl⟩
abbrev main_v487 : Ref sig .tc := ⟨.hbm, 704, rfl⟩
abbrev main_cst_108 : Ref sig .tc := ⟨.hbm, 705, rfl⟩
abbrev main_v488 : Ref sig .tc := ⟨.hbm, 706, rfl⟩
abbrev main_v489 : Ref sig .tc := ⟨.hbm, 707, rfl⟩
abbrev main_cst_109 : Ref sig .tc := ⟨.hbm, 708, rfl⟩
abbrev main_v490 : Ref sig .tc := ⟨.hbm, 709, rfl⟩
abbrev main_v491 : Ref sig .tc := ⟨.hbm, 710, rfl⟩
abbrev main_cst_110 : Ref sig .tc := ⟨.hbm, 711, rfl⟩
abbrev main_v492 : Ref sig .tc := ⟨.hbm, 712, rfl⟩
abbrev main_v493 : Ref sig .tc := ⟨.hbm, 713, rfl⟩
abbrev main_v494 : Ref sig .tc := ⟨.hbm, 714, rfl⟩
abbrev main_v495 : Ref sig .tc := ⟨.hbm, 715, rfl⟩
abbrev main_v496 : Ref sig .tc := ⟨.hbm, 716, rfl⟩
abbrev main_v497 : Ref sig .tc := ⟨.hbm, 717, rfl⟩
abbrev main_cst_111 : Ref sig .tc := ⟨.hbm, 718, rfl⟩
abbrev main_v498 : Ref sig .tc := ⟨.hbm, 719, rfl⟩
abbrev main_v499 : Ref sig .tc := ⟨.hbm, 720, rfl⟩
abbrev main_v500 : Ref sig .tc := ⟨.hbm, 721, rfl⟩
abbrev main_v501 : Ref sig .tc := ⟨.hbm, 722, rfl⟩
abbrev main_v502 : Ref sig .tc := ⟨.hbm, 723, rfl⟩
abbrev main_v503 : Ref sig .tc := ⟨.hbm, 724, rfl⟩
abbrev main_v504 : Ref sig .tc := ⟨.hbm, 725, rfl⟩
abbrev main_cst_112 : Ref sig .tc := ⟨.hbm, 726, rfl⟩
abbrev main_v505 : Ref sig .tc := ⟨.hbm, 727, rfl⟩
abbrev main_v506 : Ref sig .tc := ⟨.hbm, 728, rfl⟩
abbrev main_cst_113 : Ref sig .tc := ⟨.hbm, 729, rfl⟩
abbrev main_v507 : Ref sig .tc := ⟨.hbm, 730, rfl⟩
abbrev main_v508 : Ref sig .tc := ⟨.hbm, 731, rfl⟩
abbrev main_cst_114 : Ref sig .tc := ⟨.hbm, 732, rfl⟩
abbrev main_v509 : Ref sig .tc := ⟨.hbm, 733, rfl⟩
abbrev main_v510 : Ref sig .tc := ⟨.hbm, 734, rfl⟩
abbrev main_v511 : Ref sig .tc := ⟨.hbm, 735, rfl⟩
abbrev main_v512 : Ref sig .tc := ⟨.hbm, 736, rfl⟩
abbrev main_v513 : Ref sig .tc := ⟨.hbm, 737, rfl⟩
abbrev main_v514 : Ref sig .tc := ⟨.hbm, 738, rfl⟩
abbrev main_cst_115 : Ref sig .tc := ⟨.hbm, 739, rfl⟩
abbrev main_v515 : Ref sig .tc := ⟨.hbm, 740, rfl⟩
abbrev main_v516 : Ref sig .tc := ⟨.hbm, 741, rfl⟩
abbrev main_v517 : Ref sig .tc := ⟨.hbm, 742, rfl⟩
abbrev main_v518 : Ref sig .tc := ⟨.hbm, 743, rfl⟩
abbrev main_v519 : Ref sig .tc := ⟨.hbm, 744, rfl⟩
abbrev main_v520 : Ref sig .tc := ⟨.hbm, 745, rfl⟩
abbrev main_v521 : Ref sig .tc := ⟨.hbm, 746, rfl⟩
abbrev main_cst_116 : Ref sig .tc := ⟨.hbm, 747, rfl⟩
abbrev main_v522 : Ref sig .tc := ⟨.hbm, 748, rfl⟩
abbrev main_v523 : Ref sig .tc := ⟨.hbm, 749, rfl⟩
abbrev main_cst_117 : Ref sig .tc := ⟨.hbm, 750, rfl⟩
abbrev main_v524 : Ref sig .tc := ⟨.hbm, 751, rfl⟩
abbrev main_v525 : Ref sig .tc := ⟨.hbm, 752, rfl⟩
abbrev main_cst_118 : Ref sig .tc := ⟨.hbm, 753, rfl⟩
abbrev main_v526 : Ref sig .tc := ⟨.hbm, 754, rfl⟩
abbrev main_v527 : Ref sig .tc := ⟨.hbm, 755, rfl⟩
abbrev main_v528 : Ref sig .tc := ⟨.hbm, 756, rfl⟩
abbrev main_v529 : Ref sig .tc := ⟨.hbm, 757, rfl⟩
abbrev main_v530 : Ref sig .tc := ⟨.hbm, 758, rfl⟩
abbrev main_v531 : Ref sig .tc := ⟨.hbm, 759, rfl⟩
abbrev main_cst_119 : Ref sig .tc := ⟨.hbm, 760, rfl⟩
abbrev main_v532 : Ref sig .tc := ⟨.hbm, 761, rfl⟩
abbrev main_v533 : Ref sig .tc := ⟨.hbm, 762, rfl⟩
abbrev main_v534 : Ref sig .tc := ⟨.hbm, 763, rfl⟩
abbrev main_v535 : Ref sig .tc := ⟨.hbm, 764, rfl⟩
abbrev main_v536 : Ref sig .tc := ⟨.hbm, 765, rfl⟩
abbrev main_v537 : Ref sig .tc := ⟨.hbm, 766, rfl⟩
abbrev main_v538 : Ref sig .tc := ⟨.hbm, 767, rfl⟩
abbrev main_cst_120 : Ref sig .tc := ⟨.hbm, 768, rfl⟩
abbrev main_v539 : Ref sig .tc := ⟨.hbm, 769, rfl⟩
abbrev main_v540 : Ref sig .tc := ⟨.hbm, 770, rfl⟩
abbrev main_cst_121 : Ref sig .tc := ⟨.hbm, 771, rfl⟩
abbrev main_v541 : Ref sig .tc := ⟨.hbm, 772, rfl⟩
abbrev main_v542 : Ref sig .tc := ⟨.hbm, 773, rfl⟩
abbrev main_cst_122 : Ref sig .tc := ⟨.hbm, 774, rfl⟩
abbrev main_v543 : Ref sig .tc := ⟨.hbm, 775, rfl⟩
abbrev main_v544 : Ref sig .tc := ⟨.hbm, 776, rfl⟩
abbrev main_v545 : Ref sig .tc := ⟨.hbm, 777, rfl⟩
abbrev main_v546 : Ref sig .tc := ⟨.hbm, 778, rfl⟩
abbrev main_v547 : Ref sig .tc := ⟨.hbm, 779, rfl⟩
abbrev main_v548 : Ref sig .tc := ⟨.hbm, 780, rfl⟩
abbrev main_cst_123 : Ref sig .tc := ⟨.hbm, 781, rfl⟩
abbrev main_v549 : Ref sig .tc := ⟨.hbm, 782, rfl⟩
abbrev main_v550 : Ref sig .tc := ⟨.hbm, 783, rfl⟩
abbrev main_v551 : Ref sig .tc := ⟨.hbm, 784, rfl⟩
abbrev main_v552 : Ref sig .tc := ⟨.hbm, 785, rfl⟩
abbrev main_v553 : Ref sig .tc := ⟨.hbm, 786, rfl⟩
abbrev main_v554 : Ref sig .tc := ⟨.hbm, 787, rfl⟩
abbrev main_v555 : Ref sig .tc := ⟨.hbm, 788, rfl⟩
abbrev main_cst_124 : Ref sig .tc := ⟨.hbm, 789, rfl⟩
abbrev main_v556 : Ref sig .tc := ⟨.hbm, 790, rfl⟩
abbrev main_v557 : Ref sig .tc := ⟨.hbm, 791, rfl⟩
abbrev main_cst_125 : Ref sig .tc := ⟨.hbm, 792, rfl⟩
abbrev main_v558 : Ref sig .tc := ⟨.hbm, 793, rfl⟩
abbrev main_v559 : Ref sig .tc := ⟨.hbm, 794, rfl⟩
abbrev main_cst_126 : Ref sig .tc := ⟨.hbm, 795, rfl⟩
abbrev main_v560 : Ref sig .tc := ⟨.hbm, 796, rfl⟩
abbrev main_v561 : Ref sig .tc := ⟨.hbm, 797, rfl⟩
abbrev main_v562 : Ref sig .tc := ⟨.hbm, 798, rfl⟩
abbrev main_v563 : Ref sig .tc := ⟨.hbm, 799, rfl⟩
abbrev main_v564 : Ref sig .tc := ⟨.hbm, 800, rfl⟩
abbrev main_v565 : Ref sig .tc := ⟨.hbm, 801, rfl⟩
abbrev main_cst_127 : Ref sig .tc := ⟨.hbm, 802, rfl⟩
abbrev main_v566 : Ref sig .tc := ⟨.hbm, 803, rfl⟩
abbrev main_v567 : Ref sig .tc := ⟨.hbm, 804, rfl⟩
abbrev main_v568 : Ref sig .tc := ⟨.hbm, 805, rfl⟩
abbrev main_v569 : Ref sig .tc := ⟨.hbm, 806, rfl⟩
abbrev main_v570 : Ref sig .tc := ⟨.hbm, 807, rfl⟩
abbrev main_v571 : Ref sig .tc := ⟨.hbm, 808, rfl⟩
abbrev main_v572 : Ref sig .tc := ⟨.hbm, 809, rfl⟩
abbrev main_cst_128 : Ref sig .tc := ⟨.hbm, 810, rfl⟩
abbrev main_v573 : Ref sig .tc := ⟨.hbm, 811, rfl⟩
abbrev main_v574 : Ref sig .tc := ⟨.hbm, 812, rfl⟩
abbrev main_cst_129 : Ref sig .tc := ⟨.hbm, 813, rfl⟩
abbrev main_v575 : Ref sig .tc := ⟨.hbm, 814, rfl⟩
abbrev main_v576 : Ref sig .tc := ⟨.hbm, 815, rfl⟩
abbrev main_cst_130 : Ref sig .tc := ⟨.hbm, 816, rfl⟩
abbrev main_v577 : Ref sig .tc := ⟨.hbm, 817, rfl⟩
abbrev main_v578 : Ref sig .tc := ⟨.hbm, 818, rfl⟩
abbrev main_v579 : Ref sig .tc := ⟨.hbm, 819, rfl⟩
abbrev main_v580 : Ref sig .tc := ⟨.hbm, 820, rfl⟩
abbrev main_v581 : Ref sig .tc := ⟨.hbm, 821, rfl⟩
abbrev main_v582 : Ref sig .tc := ⟨.hbm, 822, rfl⟩
abbrev main_cst_131 : Ref sig .tc := ⟨.hbm, 823, rfl⟩
abbrev main_v583 : Ref sig .tc := ⟨.hbm, 824, rfl⟩
abbrev main_v584 : Ref sig .tc := ⟨.hbm, 825, rfl⟩
abbrev main_v585 : Ref sig .tc := ⟨.hbm, 826, rfl⟩
abbrev main_v586 : Ref sig .tc := ⟨.hbm, 827, rfl⟩
abbrev main_v587 : Ref sig .tc := ⟨.hbm, 828, rfl⟩
abbrev main_v588 : Ref sig .tc := ⟨.hbm, 829, rfl⟩
abbrev main_v589 : Ref sig .tc := ⟨.hbm, 830, rfl⟩
abbrev main_cst_132 : Ref sig .tc := ⟨.hbm, 831, rfl⟩
abbrev main_v590 : Ref sig .tc := ⟨.hbm, 832, rfl⟩
abbrev main_v591 : Ref sig .tc := ⟨.hbm, 833, rfl⟩
abbrev main_cst_133 : Ref sig .tc := ⟨.hbm, 834, rfl⟩
abbrev main_v592 : Ref sig .tc := ⟨.hbm, 835, rfl⟩
abbrev main_v593 : Ref sig .tc := ⟨.hbm, 836, rfl⟩
abbrev main_cst_134 : Ref sig .tc := ⟨.hbm, 837, rfl⟩
abbrev main_v594 : Ref sig .tc := ⟨.hbm, 838, rfl⟩
abbrev main_v595 : Ref sig .tc := ⟨.hbm, 839, rfl⟩
abbrev main_v596 : Ref sig .tc := ⟨.hbm, 840, rfl⟩
abbrev main_v597 : Ref sig .tc := ⟨.hbm, 841, rfl⟩
abbrev main_v598 : Ref sig .tc := ⟨.hbm, 842, rfl⟩
abbrev main_v599 : Ref sig .tc := ⟨.hbm, 843, rfl⟩
abbrev main_cst_135 : Ref sig .tc := ⟨.hbm, 844, rfl⟩
abbrev main_v600 : Ref sig .tc := ⟨.hbm, 845, rfl⟩
abbrev main_v601 : Ref sig .tc := ⟨.hbm, 846, rfl⟩
abbrev main_v602 : Ref sig .tc := ⟨.hbm, 847, rfl⟩
abbrev main_v603 : Ref sig .tc := ⟨.hbm, 848, rfl⟩
abbrev main_v604 : Ref sig .tc := ⟨.hbm, 849, rfl⟩
abbrev main_v605 : Ref sig .tc := ⟨.hbm, 850, rfl⟩
abbrev main_v606 : Ref sig .tc := ⟨.hbm, 851, rfl⟩
abbrev main_cst_136 : Ref sig .tc := ⟨.hbm, 852, rfl⟩
abbrev main_v607 : Ref sig .tc := ⟨.hbm, 853, rfl⟩
abbrev main_v608 : Ref sig .tc := ⟨.hbm, 854, rfl⟩
abbrev main_cst_137 : Ref sig .tc := ⟨.hbm, 855, rfl⟩
abbrev main_v609 : Ref sig .tc := ⟨.hbm, 856, rfl⟩
abbrev main_v610 : Ref sig .tc := ⟨.hbm, 857, rfl⟩
abbrev main_cst_138 : Ref sig .tc := ⟨.hbm, 858, rfl⟩
abbrev main_v611 : Ref sig .tc := ⟨.hbm, 859, rfl⟩
abbrev main_v612 : Ref sig .tc := ⟨.hbm, 860, rfl⟩
abbrev main_v613 : Ref sig .tc := ⟨.hbm, 861, rfl⟩
abbrev main_v614 : Ref sig .tc := ⟨.hbm, 862, rfl⟩
abbrev main_v615 : Ref sig .tc := ⟨.hbm, 863, rfl⟩
abbrev main_v616 : Ref sig .tc := ⟨.hbm, 864, rfl⟩
abbrev main_cst_139 : Ref sig .tc := ⟨.hbm, 865, rfl⟩
abbrev main_v617 : Ref sig .tc := ⟨.hbm, 866, rfl⟩
abbrev main_v618 : Ref sig .tc := ⟨.hbm, 867, rfl⟩
abbrev main_v619 : Ref sig .tc := ⟨.hbm, 868, rfl⟩
abbrev main_v620 : Ref sig .tc := ⟨.hbm, 869, rfl⟩
abbrev main_v621 : Ref sig .tc := ⟨.hbm, 870, rfl⟩
abbrev main_v622 : Ref sig .tc := ⟨.hbm, 871, rfl⟩
abbrev main_v623 : Ref sig .tc := ⟨.hbm, 872, rfl⟩
abbrev main_cst_140 : Ref sig .tc := ⟨.hbm, 873, rfl⟩
abbrev main_v624 : Ref sig .tc := ⟨.hbm, 874, rfl⟩
abbrev main_v625 : Ref sig .tc := ⟨.hbm, 875, rfl⟩
abbrev main_cst_141 : Ref sig .tc := ⟨.hbm, 876, rfl⟩
abbrev main_v626 : Ref sig .tc := ⟨.hbm, 877, rfl⟩
abbrev main_v627 : Ref sig .tc := ⟨.hbm, 878, rfl⟩
abbrev main_cst_142 : Ref sig .tc := ⟨.hbm, 879, rfl⟩
abbrev main_v628 : Ref sig .tc := ⟨.hbm, 880, rfl⟩
abbrev main_v629 : Ref sig .tc := ⟨.hbm, 881, rfl⟩
abbrev main_v630 : Ref sig .tc := ⟨.hbm, 882, rfl⟩
abbrev main_v631 : Ref sig .tc := ⟨.hbm, 883, rfl⟩
abbrev main_v632 : Ref sig .tc := ⟨.hbm, 884, rfl⟩
abbrev main_v633 : Ref sig .tc := ⟨.hbm, 885, rfl⟩
abbrev main_cst_143 : Ref sig .tc := ⟨.hbm, 886, rfl⟩
abbrev main_v634 : Ref sig .tc := ⟨.hbm, 887, rfl⟩
abbrev main_v635 : Ref sig .tc := ⟨.hbm, 888, rfl⟩
abbrev main_v636 : Ref sig .tc := ⟨.hbm, 889, rfl⟩
abbrev main_v637 : Ref sig .tc := ⟨.hbm, 890, rfl⟩
abbrev main_v638 : Ref sig .tc := ⟨.hbm, 891, rfl⟩
abbrev main_v639 : Ref sig .tc := ⟨.hbm, 892, rfl⟩
abbrev main_v640 : Ref sig .tc := ⟨.hbm, 893, rfl⟩
abbrev main_cst_144 : Ref sig .tc := ⟨.hbm, 894, rfl⟩
abbrev main_v641 : Ref sig .tc := ⟨.hbm, 895, rfl⟩
abbrev main_v642 : Ref sig .tc := ⟨.hbm, 896, rfl⟩
abbrev main_cst_145 : Ref sig .tc := ⟨.hbm, 897, rfl⟩
abbrev main_v643 : Ref sig .tc := ⟨.hbm, 898, rfl⟩
abbrev main_v644 : Ref sig .tc := ⟨.hbm, 899, rfl⟩
abbrev main_cst_146 : Ref sig .tc := ⟨.hbm, 900, rfl⟩
abbrev main_v645 : Ref sig .tc := ⟨.hbm, 901, rfl⟩
abbrev main_v646 : Ref sig .tc := ⟨.hbm, 902, rfl⟩
abbrev main_v647 : Ref sig .tc := ⟨.hbm, 903, rfl⟩
abbrev main_v648 : Ref sig .tc := ⟨.hbm, 904, rfl⟩
abbrev main_v649 : Ref sig .tc := ⟨.hbm, 905, rfl⟩
abbrev main_v650 : Ref sig .tc := ⟨.hbm, 906, rfl⟩
abbrev main_cst_147 : Ref sig .tc := ⟨.hbm, 907, rfl⟩
abbrev main_v651 : Ref sig .tc := ⟨.hbm, 908, rfl⟩
abbrev main_v652 : Ref sig .tc := ⟨.hbm, 909, rfl⟩
abbrev main_v653 : Ref sig .tc := ⟨.hbm, 910, rfl⟩
abbrev main_v654 : Ref sig .tc := ⟨.hbm, 911, rfl⟩
abbrev main_v655 : Ref sig .tc := ⟨.hbm, 912, rfl⟩
abbrev main_v656 : Ref sig .tc := ⟨.hbm, 913, rfl⟩
abbrev main_v657 : Ref sig .tc := ⟨.hbm, 914, rfl⟩
abbrev main_cst_148 : Ref sig .tc := ⟨.hbm, 915, rfl⟩
abbrev main_v658 : Ref sig .tc := ⟨.hbm, 916, rfl⟩
abbrev main_v659 : Ref sig .tc := ⟨.hbm, 917, rfl⟩
abbrev main_cst_149 : Ref sig .tc := ⟨.hbm, 918, rfl⟩
abbrev main_v660 : Ref sig .tc := ⟨.hbm, 919, rfl⟩
abbrev main_v661 : Ref sig .tc := ⟨.hbm, 920, rfl⟩
abbrev main_cst_150 : Ref sig .tc := ⟨.hbm, 921, rfl⟩
abbrev main_v662 : Ref sig .tc := ⟨.hbm, 922, rfl⟩
abbrev main_v663 : Ref sig .tc := ⟨.hbm, 923, rfl⟩
abbrev main_v664 : Ref sig .tc := ⟨.hbm, 924, rfl⟩
abbrev main_v665 : Ref sig .tc := ⟨.hbm, 925, rfl⟩
abbrev main_v666 : Ref sig .tc := ⟨.hbm, 926, rfl⟩
abbrev main_v667 : Ref sig .tc := ⟨.hbm, 927, rfl⟩
abbrev main_cst_151 : Ref sig .tc := ⟨.hbm, 928, rfl⟩
abbrev main_v668 : Ref sig .tc := ⟨.hbm, 929, rfl⟩
abbrev main_v669 : Ref sig .tc := ⟨.hbm, 930, rfl⟩
abbrev main_v670 : Ref sig .tc := ⟨.hbm, 931, rfl⟩
abbrev main_v671 : Ref sig .tc := ⟨.hbm, 932, rfl⟩
abbrev main_v672 : Ref sig .tc := ⟨.hbm, 933, rfl⟩
abbrev main_v673 : Ref sig .tc := ⟨.hbm, 934, rfl⟩
abbrev main_v674 : Ref sig .tc := ⟨.hbm, 935, rfl⟩
abbrev main_cst_152 : Ref sig .tc := ⟨.hbm, 936, rfl⟩
abbrev main_v675 : Ref sig .tc := ⟨.hbm, 937, rfl⟩
abbrev main_v676 : Ref sig .tc := ⟨.hbm, 938, rfl⟩
abbrev main_cst_153 : Ref sig .tc := ⟨.hbm, 939, rfl⟩
abbrev main_v677 : Ref sig .tc := ⟨.hbm, 940, rfl⟩
abbrev main_v678 : Ref sig .tc := ⟨.hbm, 941, rfl⟩
abbrev main_cst_154 : Ref sig .tc := ⟨.hbm, 942, rfl⟩
abbrev main_v679 : Ref sig .tc := ⟨.hbm, 943, rfl⟩
abbrev main_v680 : Ref sig .tc := ⟨.hbm, 944, rfl⟩
abbrev main_v681 : Ref sig .tc := ⟨.hbm, 945, rfl⟩
abbrev main_v682 : Ref sig .tc := ⟨.hbm, 946, rfl⟩
abbrev main_v683 : Ref sig .tc := ⟨.hbm, 947, rfl⟩
abbrev main_v684 : Ref sig .tc := ⟨.hbm, 948, rfl⟩
abbrev main_cst_155 : Ref sig .tc := ⟨.hbm, 949, rfl⟩
abbrev main_v685 : Ref sig .tc := ⟨.hbm, 950, rfl⟩
abbrev main_v686 : Ref sig .tc := ⟨.hbm, 951, rfl⟩
abbrev main_v687 : Ref sig .tc := ⟨.hbm, 952, rfl⟩
abbrev main_v688 : Ref sig .tc := ⟨.hbm, 953, rfl⟩
abbrev main_v689 : Ref sig .tc := ⟨.hbm, 954, rfl⟩
abbrev main_v690 : Ref sig .tc := ⟨.hbm, 955, rfl⟩
abbrev main_v691 : Ref sig .tc := ⟨.hbm, 956, rfl⟩
abbrev main_cst_156 : Ref sig .tc := ⟨.hbm, 957, rfl⟩
abbrev main_v692 : Ref sig .tc := ⟨.hbm, 958, rfl⟩
abbrev main_v693 : Ref sig .tc := ⟨.hbm, 959, rfl⟩
abbrev main_cst_157 : Ref sig .tc := ⟨.hbm, 960, rfl⟩
abbrev main_v694 : Ref sig .tc := ⟨.hbm, 961, rfl⟩
abbrev main_v695 : Ref sig .tc := ⟨.hbm, 962, rfl⟩
abbrev main_cst_158 : Ref sig .tc := ⟨.hbm, 963, rfl⟩
abbrev main_v696 : Ref sig .tc := ⟨.hbm, 964, rfl⟩
abbrev main_v697 : Ref sig .tc := ⟨.hbm, 965, rfl⟩
abbrev main_v698 : Ref sig .tc := ⟨.hbm, 966, rfl⟩
abbrev main_v699 : Ref sig .tc := ⟨.hbm, 967, rfl⟩
abbrev main_v700 : Ref sig .tc := ⟨.hbm, 968, rfl⟩
abbrev main_v701 : Ref sig .tc := ⟨.hbm, 969, rfl⟩
abbrev main_cst_159 : Ref sig .tc := ⟨.hbm, 970, rfl⟩
abbrev main_v702 : Ref sig .tc := ⟨.hbm, 971, rfl⟩
abbrev main_v703 : Ref sig .tc := ⟨.hbm, 972, rfl⟩
abbrev main_v704 : Ref sig .tc := ⟨.hbm, 973, rfl⟩
abbrev main_v705 : Ref sig .tc := ⟨.hbm, 974, rfl⟩
abbrev main_v706 : Ref sig .tc := ⟨.hbm, 975, rfl⟩
abbrev main_v707 : Ref sig .tc := ⟨.hbm, 976, rfl⟩
abbrev main_v708 : Ref sig .tc := ⟨.hbm, 977, rfl⟩
abbrev main_cst_160 : Ref sig .tc := ⟨.hbm, 978, rfl⟩
abbrev main_v709 : Ref sig .tc := ⟨.hbm, 979, rfl⟩
abbrev main_v710 : Ref sig .tc := ⟨.hbm, 980, rfl⟩
abbrev main_cst_161 : Ref sig .tc := ⟨.hbm, 981, rfl⟩
abbrev main_v711 : Ref sig .tc := ⟨.hbm, 982, rfl⟩
abbrev main_v712 : Ref sig .tc := ⟨.hbm, 983, rfl⟩
abbrev main_cst_162 : Ref sig .tc := ⟨.hbm, 984, rfl⟩
abbrev main_v713 : Ref sig .tc := ⟨.hbm, 985, rfl⟩
abbrev main_v714 : Ref sig .tc := ⟨.hbm, 986, rfl⟩
abbrev main_v715 : Ref sig .tc := ⟨.hbm, 987, rfl⟩
abbrev main_v716 : Ref sig .tc := ⟨.hbm, 988, rfl⟩
abbrev main_v717 : Ref sig .tc := ⟨.hbm, 989, rfl⟩
abbrev main_v718 : Ref sig .tc := ⟨.hbm, 990, rfl⟩
abbrev main_cst_163 : Ref sig .tc := ⟨.hbm, 991, rfl⟩
abbrev main_v719 : Ref sig .tc := ⟨.hbm, 992, rfl⟩
abbrev main_v720 : Ref sig .tc := ⟨.hbm, 993, rfl⟩
abbrev main_v721 : Ref sig .tc := ⟨.hbm, 994, rfl⟩
abbrev main_v722 : Ref sig .tc := ⟨.hbm, 995, rfl⟩
abbrev main_v723 : Ref sig .tc := ⟨.hbm, 996, rfl⟩
abbrev main_v724 : Ref sig .tc := ⟨.hbm, 997, rfl⟩
abbrev main_v725 : Ref sig .tc := ⟨.hbm, 998, rfl⟩
abbrev main_cst_164 : Ref sig .tc := ⟨.hbm, 999, rfl⟩
abbrev main_v726 : Ref sig .tc := ⟨.hbm, 1000, rfl⟩
abbrev main_v727 : Ref sig .tc := ⟨.hbm, 1001, rfl⟩
abbrev main_cst_165 : Ref sig .tc := ⟨.hbm, 1002, rfl⟩
abbrev main_v728 : Ref sig .tc := ⟨.hbm, 1003, rfl⟩
abbrev main_v729 : Ref sig .tc := ⟨.hbm, 1004, rfl⟩
abbrev main_cst_166 : Ref sig .tc := ⟨.hbm, 1005, rfl⟩
abbrev main_v730 : Ref sig .tc := ⟨.hbm, 1006, rfl⟩
abbrev main_v731 : Ref sig .tc := ⟨.hbm, 1007, rfl⟩
abbrev main_v732 : Ref sig .tc := ⟨.hbm, 1008, rfl⟩
abbrev main_v733 : Ref sig .tc := ⟨.hbm, 1009, rfl⟩
abbrev main_v734 : Ref sig .tc := ⟨.hbm, 1010, rfl⟩
abbrev main_v735 : Ref sig .tc := ⟨.hbm, 1011, rfl⟩
abbrev main_cst_167 : Ref sig .tc := ⟨.hbm, 1012, rfl⟩
abbrev main_v736 : Ref sig .tc := ⟨.hbm, 1013, rfl⟩
abbrev main_v737 : Ref sig .tc := ⟨.hbm, 1014, rfl⟩
abbrev main_v738 : Ref sig .tc := ⟨.hbm, 1015, rfl⟩
abbrev main_v739 : Ref sig .tc := ⟨.hbm, 1016, rfl⟩
abbrev main_v740 : Ref sig .tc := ⟨.hbm, 1017, rfl⟩
abbrev main_v741 : Ref sig .tc := ⟨.hbm, 1018, rfl⟩
abbrev main_v742 : Ref sig .tc := ⟨.hbm, 1019, rfl⟩
abbrev main_cst_168 : Ref sig .tc := ⟨.hbm, 1020, rfl⟩
abbrev main_v743 : Ref sig .tc := ⟨.hbm, 1021, rfl⟩
abbrev main_v744 : Ref sig .tc := ⟨.hbm, 1022, rfl⟩
abbrev main_cst_169 : Ref sig .tc := ⟨.hbm, 1023, rfl⟩
abbrev main_v745 : Ref sig .tc := ⟨.hbm, 1024, rfl⟩
abbrev main_v746 : Ref sig .tc := ⟨.hbm, 1025, rfl⟩
abbrev main_cst_170 : Ref sig .tc := ⟨.hbm, 1026, rfl⟩
abbrev main_v747 : Ref sig .tc := ⟨.hbm, 1027, rfl⟩
abbrev main_v748 : Ref sig .tc := ⟨.hbm, 1028, rfl⟩
abbrev main_v749 : Ref sig .tc := ⟨.hbm, 1029, rfl⟩
abbrev main_v750 : Ref sig .tc := ⟨.hbm, 1030, rfl⟩
abbrev main_v751 : Ref sig .tc := ⟨.hbm, 1031, rfl⟩
abbrev main_v752 : Ref sig .tc := ⟨.hbm, 1032, rfl⟩
abbrev main_cst_171 : Ref sig .tc := ⟨.hbm, 1033, rfl⟩
abbrev main_v753 : Ref sig .tc := ⟨.hbm, 1034, rfl⟩
abbrev main_v754 : Ref sig .tc := ⟨.hbm, 1035, rfl⟩
abbrev main_v755 : Ref sig .tc := ⟨.hbm, 1036, rfl⟩
abbrev main_v756 : Ref sig .tc := ⟨.hbm, 1037, rfl⟩
abbrev main_v757 : Ref sig .tc := ⟨.hbm, 1038, rfl⟩
abbrev main_v758 : Ref sig .tc := ⟨.hbm, 1039, rfl⟩
abbrev main_v759 : Ref sig .tc := ⟨.hbm, 1040, rfl⟩
abbrev main_cst_172 : Ref sig .tc := ⟨.hbm, 1041, rfl⟩
abbrev main_v760 : Ref sig .tc := ⟨.hbm, 1042, rfl⟩
abbrev main_v761 : Ref sig .tc := ⟨.hbm, 1043, rfl⟩
abbrev main_cst_173 : Ref sig .tc := ⟨.hbm, 1044, rfl⟩
abbrev main_v762 : Ref sig .tc := ⟨.hbm, 1045, rfl⟩
abbrev main_v763 : Ref sig .tc := ⟨.hbm, 1046, rfl⟩
abbrev main_cst_174 : Ref sig .tc := ⟨.hbm, 1047, rfl⟩
abbrev main_v764 : Ref sig .tc := ⟨.hbm, 1048, rfl⟩
abbrev main_v765 : Ref sig .tc := ⟨.hbm, 1049, rfl⟩
abbrev main_v766 : Ref sig .tc := ⟨.hbm, 1050, rfl⟩
abbrev main_v767 : Ref sig .tc := ⟨.hbm, 1051, rfl⟩
abbrev main_v768 : Ref sig .tc := ⟨.hbm, 1052, rfl⟩
abbrev main_v769 : Ref sig .tc := ⟨.hbm, 1053, rfl⟩
abbrev main_cst_175 : Ref sig .tc := ⟨.hbm, 1054, rfl⟩
abbrev main_v770 : Ref sig .tc := ⟨.hbm, 1055, rfl⟩
abbrev main_v771 : Ref sig .tc := ⟨.hbm, 1056, rfl⟩
abbrev main_v772 : Ref sig .tc := ⟨.hbm, 1057, rfl⟩
abbrev main_v773 : Ref sig .tc := ⟨.hbm, 1058, rfl⟩
abbrev main_v774 : Ref sig .tc := ⟨.hbm, 1059, rfl⟩
abbrev main_v775 : Ref sig .tc := ⟨.hbm, 1060, rfl⟩
abbrev main_v776 : Ref sig .tc := ⟨.hbm, 1061, rfl⟩
abbrev main_cst_176 : Ref sig .tc := ⟨.hbm, 1062, rfl⟩
abbrev main_v777 : Ref sig .tc := ⟨.hbm, 1063, rfl⟩
abbrev main_v778 : Ref sig .tc := ⟨.hbm, 1064, rfl⟩
abbrev main_cst_177 : Ref sig .tc := ⟨.hbm, 1065, rfl⟩
abbrev main_v779 : Ref sig .tc := ⟨.hbm, 1066, rfl⟩
abbrev main_v780 : Ref sig .tc := ⟨.hbm, 1067, rfl⟩
abbrev main_cst_178 : Ref sig .tc := ⟨.hbm, 1068, rfl⟩
abbrev main_v781 : Ref sig .tc := ⟨.hbm, 1069, rfl⟩
abbrev main_v782 : Ref sig .tc := ⟨.hbm, 1070, rfl⟩
abbrev main_v783 : Ref sig .tc := ⟨.hbm, 1071, rfl⟩
abbrev main_v784 : Ref sig .tc := ⟨.hbm, 1072, rfl⟩
abbrev main_v785 : Ref sig .tc := ⟨.hbm, 1073, rfl⟩
abbrev main_v786 : Ref sig .tc := ⟨.hbm, 1074, rfl⟩
abbrev main_cst_179 : Ref sig .tc := ⟨.hbm, 1075, rfl⟩
abbrev main_v787 : Ref sig .tc := ⟨.hbm, 1076, rfl⟩
abbrev main_v788 : Ref sig .tc := ⟨.hbm, 1077, rfl⟩
abbrev main_v789 : Ref sig .tc := ⟨.hbm, 1078, rfl⟩
abbrev main_v790 : Ref sig .tc := ⟨.hbm, 1079, rfl⟩
abbrev main_v791 : Ref sig .tc := ⟨.hbm, 1080, rfl⟩
abbrev main_v792 : Ref sig .tc := ⟨.hbm, 1081, rfl⟩
abbrev main_v793 : Ref sig .tc := ⟨.hbm, 1082, rfl⟩
abbrev main_cst_180 : Ref sig .tc := ⟨.hbm, 1083, rfl⟩
abbrev main_v794 : Ref sig .tc := ⟨.hbm, 1084, rfl⟩
abbrev main_v795 : Ref sig .tc := ⟨.hbm, 1085, rfl⟩
abbrev main_cst_181 : Ref sig .tc := ⟨.hbm, 1086, rfl⟩
abbrev main_v796 : Ref sig .tc := ⟨.hbm, 1087, rfl⟩
abbrev main_v797 : Ref sig .tc := ⟨.hbm, 1088, rfl⟩
abbrev main_cst_182 : Ref sig .tc := ⟨.hbm, 1089, rfl⟩
abbrev main_v798 : Ref sig .tc := ⟨.hbm, 1090, rfl⟩
abbrev main_v799 : Ref sig .tc := ⟨.hbm, 1091, rfl⟩
abbrev main_v800 : Ref sig .tc := ⟨.hbm, 1092, rfl⟩
abbrev main_v801 : Ref sig .tc := ⟨.hbm, 1093, rfl⟩
abbrev main_v802 : Ref sig .tc := ⟨.hbm, 1094, rfl⟩
abbrev main_v803 : Ref sig .tc := ⟨.hbm, 1095, rfl⟩
abbrev main_cst_183 : Ref sig .tc := ⟨.hbm, 1096, rfl⟩
abbrev main_v804 : Ref sig .tc := ⟨.hbm, 1097, rfl⟩
abbrev main_v805 : Ref sig .tc := ⟨.hbm, 1098, rfl⟩
abbrev main_v806 : Ref sig .tc := ⟨.hbm, 1099, rfl⟩
abbrev main_v807 : Ref sig .tc := ⟨.hbm, 1100, rfl⟩
abbrev main_v808 : Ref sig .tc := ⟨.hbm, 1101, rfl⟩
abbrev main_v809 : Ref sig .tc := ⟨.hbm, 1102, rfl⟩
abbrev main_v810 : Ref sig .tc := ⟨.hbm, 1103, rfl⟩
abbrev main_cst_184 : Ref sig .tc := ⟨.hbm, 1104, rfl⟩
abbrev main_v811 : Ref sig .tc := ⟨.hbm, 1105, rfl⟩
abbrev main_v812 : Ref sig .tc := ⟨.hbm, 1106, rfl⟩
abbrev main_cst_185 : Ref sig .tc := ⟨.hbm, 1107, rfl⟩
abbrev main_v813 : Ref sig .tc := ⟨.hbm, 1108, rfl⟩
abbrev main_v814 : Ref sig .tc := ⟨.hbm, 1109, rfl⟩
abbrev main_cst_186 : Ref sig .tc := ⟨.hbm, 1110, rfl⟩
abbrev main_v815 : Ref sig .tc := ⟨.hbm, 1111, rfl⟩
abbrev main_v816 : Ref sig .tc := ⟨.hbm, 1112, rfl⟩
abbrev main_v817 : Ref sig .tc := ⟨.hbm, 1113, rfl⟩
abbrev main_v818 : Ref sig .tc := ⟨.hbm, 1114, rfl⟩
abbrev main_v819 : Ref sig .tc := ⟨.hbm, 1115, rfl⟩
abbrev main_v820 : Ref sig .tc := ⟨.hbm, 1116, rfl⟩
abbrev main_cst_187 : Ref sig .tc := ⟨.hbm, 1117, rfl⟩
abbrev main_v821 : Ref sig .tc := ⟨.hbm, 1118, rfl⟩
abbrev main_v822 : Ref sig .tc := ⟨.hbm, 1119, rfl⟩
abbrev main_v823 : Ref sig .tc := ⟨.hbm, 1120, rfl⟩
abbrev main_v824 : Ref sig .tc := ⟨.hbm, 1121, rfl⟩
abbrev main_v825 : Ref sig .tc := ⟨.hbm, 1122, rfl⟩
abbrev main_v826 : Ref sig .tc := ⟨.hbm, 1123, rfl⟩
abbrev main_v827 : Ref sig .tc := ⟨.hbm, 1124, rfl⟩
abbrev main_cst_188 : Ref sig .tc := ⟨.hbm, 1125, rfl⟩
abbrev main_v828 : Ref sig .tc := ⟨.hbm, 1126, rfl⟩
abbrev main_v829 : Ref sig .tc := ⟨.hbm, 1127, rfl⟩
abbrev main_cst_189 : Ref sig .tc := ⟨.hbm, 1128, rfl⟩
abbrev main_v830 : Ref sig .tc := ⟨.hbm, 1129, rfl⟩
abbrev main_v831 : Ref sig .tc := ⟨.hbm, 1130, rfl⟩
abbrev main_cst_190 : Ref sig .tc := ⟨.hbm, 1131, rfl⟩
abbrev main_v832 : Ref sig .tc := ⟨.hbm, 1132, rfl⟩
abbrev main_v833 : Ref sig .tc := ⟨.hbm, 1133, rfl⟩
abbrev main_v834 : Ref sig .tc := ⟨.hbm, 1134, rfl⟩
abbrev main_v835 : Ref sig .tc := ⟨.hbm, 1135, rfl⟩
abbrev main_v836 : Ref sig .tc := ⟨.hbm, 1136, rfl⟩
abbrev main_v837 : Ref sig .tc := ⟨.hbm, 1137, rfl⟩
abbrev main_cst_191 : Ref sig .tc := ⟨.hbm, 1138, rfl⟩
abbrev main_v838 : Ref sig .tc := ⟨.hbm, 1139, rfl⟩
abbrev main_v839 : Ref sig .tc := ⟨.hbm, 1140, rfl⟩
abbrev main_v840 : Ref sig .tc := ⟨.hbm, 1141, rfl⟩
abbrev main_v841 : Ref sig .tc := ⟨.hbm, 1142, rfl⟩
abbrev main_v842 : Ref sig .tc := ⟨.hbm, 1143, rfl⟩
abbrev main_v843 : Ref sig .tc := ⟨.hbm, 1144, rfl⟩
abbrev main_v844 : Ref sig .tc := ⟨.hbm, 1145, rfl⟩
abbrev main_cst_192 : Ref sig .tc := ⟨.hbm, 1146, rfl⟩
abbrev main_v845 : Ref sig .tc := ⟨.hbm, 1147, rfl⟩
abbrev main_v846 : Ref sig .tc := ⟨.hbm, 1148, rfl⟩
abbrev main_cst_193 : Ref sig .tc := ⟨.hbm, 1149, rfl⟩
abbrev main_v847 : Ref sig .tc := ⟨.hbm, 1150, rfl⟩
abbrev main_v848 : Ref sig .tc := ⟨.hbm, 1151, rfl⟩
abbrev main_cst_194 : Ref sig .tc := ⟨.hbm, 1152, rfl⟩
abbrev main_v849 : Ref sig .tc := ⟨.hbm, 1153, rfl⟩
abbrev main_v850 : Ref sig .tc := ⟨.hbm, 1154, rfl⟩
abbrev main_v851 : Ref sig .tc := ⟨.hbm, 1155, rfl⟩
abbrev main_v852 : Ref sig .tc := ⟨.hbm, 1156, rfl⟩
abbrev main_v853 : Ref sig .tc := ⟨.hbm, 1157, rfl⟩
abbrev main_v854 : Ref sig .tc := ⟨.hbm, 1158, rfl⟩
abbrev main_cst_195 : Ref sig .tc := ⟨.hbm, 1159, rfl⟩
abbrev main_v855 : Ref sig .tc := ⟨.hbm, 1160, rfl⟩
abbrev main_v856 : Ref sig .tc := ⟨.hbm, 1161, rfl⟩
abbrev main_v857 : Ref sig .tc := ⟨.hbm, 1162, rfl⟩
abbrev main_v858 : Ref sig .tc := ⟨.hbm, 1163, rfl⟩
abbrev main_v859 : Ref sig .tc := ⟨.hbm, 1164, rfl⟩
abbrev main_v860 : Ref sig .tc := ⟨.hbm, 1165, rfl⟩
abbrev main_v861 : Ref sig .tc := ⟨.hbm, 1166, rfl⟩
abbrev main_cst_196 : Ref sig .tc := ⟨.hbm, 1167, rfl⟩
abbrev main_v862 : Ref sig .tc := ⟨.hbm, 1168, rfl⟩
abbrev main_v863 : Ref sig .tc := ⟨.hbm, 1169, rfl⟩
abbrev main_cst_197 : Ref sig .tc := ⟨.hbm, 1170, rfl⟩
abbrev main_v864 : Ref sig .tc := ⟨.hbm, 1171, rfl⟩
abbrev main_v865 : Ref sig .tc := ⟨.hbm, 1172, rfl⟩
abbrev main_cst_198 : Ref sig .tc := ⟨.hbm, 1173, rfl⟩
abbrev main_v866 : Ref sig .tc := ⟨.hbm, 1174, rfl⟩
abbrev main_v867 : Ref sig .tc := ⟨.hbm, 1175, rfl⟩
abbrev main_v868 : Ref sig .tc := ⟨.hbm, 1176, rfl⟩
abbrev main_v869 : Ref sig .tc := ⟨.hbm, 1177, rfl⟩
abbrev main_v870 : Ref sig .tc := ⟨.hbm, 1178, rfl⟩
abbrev main_v871 : Ref sig .tc := ⟨.hbm, 1179, rfl⟩
abbrev main_cst_199 : Ref sig .tc := ⟨.hbm, 1180, rfl⟩
abbrev main_v872 : Ref sig .tc := ⟨.hbm, 1181, rfl⟩
abbrev main_v873 : Ref sig .tc := ⟨.hbm, 1182, rfl⟩
abbrev main_v874 : Ref sig .tc := ⟨.hbm, 1183, rfl⟩
abbrev main_v875 : Ref sig .tc := ⟨.hbm, 1184, rfl⟩
abbrev main_v876 : Ref sig .tc := ⟨.hbm, 1185, rfl⟩
abbrev main_v877 : Ref sig .tc := ⟨.hbm, 1186, rfl⟩
abbrev main_v878 : Ref sig .tc := ⟨.hbm, 1187, rfl⟩
abbrev main_cst_200 : Ref sig .tc := ⟨.hbm, 1188, rfl⟩
abbrev main_v879 : Ref sig .tc := ⟨.hbm, 1189, rfl⟩
abbrev main_v880 : Ref sig .tc := ⟨.hbm, 1190, rfl⟩
abbrev main_cst_201 : Ref sig .tc := ⟨.hbm, 1191, rfl⟩
abbrev main_v881 : Ref sig .tc := ⟨.hbm, 1192, rfl⟩
abbrev main_v882 : Ref sig .tc := ⟨.hbm, 1193, rfl⟩
abbrev main_cst_202 : Ref sig .tc := ⟨.hbm, 1194, rfl⟩
abbrev main_v883 : Ref sig .tc := ⟨.hbm, 1195, rfl⟩
abbrev main_v884 : Ref sig .tc := ⟨.hbm, 1196, rfl⟩
abbrev main_v885 : Ref sig .tc := ⟨.hbm, 1197, rfl⟩
abbrev main_v886 : Ref sig .tc := ⟨.hbm, 1198, rfl⟩
abbrev main_v887 : Ref sig .tc := ⟨.hbm, 1199, rfl⟩
abbrev main_v888 : Ref sig .tc := ⟨.hbm, 1200, rfl⟩
abbrev main_cst_203 : Ref sig .tc := ⟨.hbm, 1201, rfl⟩
abbrev main_v889 : Ref sig .tc := ⟨.hbm, 1202, rfl⟩
abbrev main_v890 : Ref sig .tc := ⟨.hbm, 1203, rfl⟩
abbrev main_v891 : Ref sig .tc := ⟨.hbm, 1204, rfl⟩
abbrev main_v892 : Ref sig .tc := ⟨.hbm, 1205, rfl⟩
abbrev main_v893 : Ref sig .tc := ⟨.hbm, 1206, rfl⟩
abbrev main_v894 : Ref sig .tc := ⟨.hbm, 1207, rfl⟩
abbrev main_v895 : Ref sig .tc := ⟨.hbm, 1208, rfl⟩
abbrev main_cst_204 : Ref sig .tc := ⟨.hbm, 1209, rfl⟩
abbrev main_v896 : Ref sig .tc := ⟨.hbm, 1210, rfl⟩
abbrev main_v897 : Ref sig .tc := ⟨.hbm, 1211, rfl⟩
abbrev main_cst_205 : Ref sig .tc := ⟨.hbm, 1212, rfl⟩
abbrev main_v898 : Ref sig .tc := ⟨.hbm, 1213, rfl⟩
abbrev main_v899 : Ref sig .tc := ⟨.hbm, 1214, rfl⟩
abbrev main_cst_206 : Ref sig .tc := ⟨.hbm, 1215, rfl⟩
abbrev main_v900 : Ref sig .tc := ⟨.hbm, 1216, rfl⟩
abbrev main_v901 : Ref sig .tc := ⟨.hbm, 1217, rfl⟩
abbrev main_v902 : Ref sig .tc := ⟨.hbm, 1218, rfl⟩
abbrev main_v903 : Ref sig .tc := ⟨.hbm, 1219, rfl⟩
abbrev main_v904 : Ref sig .tc := ⟨.hbm, 1220, rfl⟩
abbrev main_v905 : Ref sig .tc := ⟨.hbm, 1221, rfl⟩
abbrev main_cst_207 : Ref sig .tc := ⟨.hbm, 1222, rfl⟩
abbrev main_v906 : Ref sig .tc := ⟨.hbm, 1223, rfl⟩
abbrev main_v907 : Ref sig .tc := ⟨.hbm, 1224, rfl⟩
abbrev main_v908 : Ref sig .tc := ⟨.hbm, 1225, rfl⟩
abbrev main_v909 : Ref sig .tc := ⟨.hbm, 1226, rfl⟩
abbrev main_v910 : Ref sig .tc := ⟨.hbm, 1227, rfl⟩
abbrev main_v911 : Ref sig .tc := ⟨.hbm, 1228, rfl⟩
abbrev main_v912 : Ref sig .tc := ⟨.hbm, 1229, rfl⟩
abbrev main_cst_208 : Ref sig .tc := ⟨.hbm, 1230, rfl⟩
abbrev main_v913 : Ref sig .tc := ⟨.hbm, 1231, rfl⟩
abbrev main_v914 : Ref sig .tc := ⟨.hbm, 1232, rfl⟩
abbrev main_cst_209 : Ref sig .tc := ⟨.hbm, 1233, rfl⟩
abbrev main_v915 : Ref sig .tc := ⟨.hbm, 1234, rfl⟩
abbrev main_v916 : Ref sig .tc := ⟨.hbm, 1235, rfl⟩
abbrev main_cst_210 : Ref sig .tc := ⟨.hbm, 1236, rfl⟩
abbrev main_v917 : Ref sig .tc := ⟨.hbm, 1237, rfl⟩
abbrev main_v918 : Ref sig .tc := ⟨.hbm, 1238, rfl⟩
abbrev main_v919 : Ref sig .tc := ⟨.hbm, 1239, rfl⟩
abbrev main_v920 : Ref sig .tc := ⟨.hbm, 1240, rfl⟩
abbrev main_v921 : Ref sig .tc := ⟨.hbm, 1241, rfl⟩
abbrev main_v922 : Ref sig .tc := ⟨.hbm, 1242, rfl⟩
abbrev main_cst_211 : Ref sig .tc := ⟨.hbm, 1243, rfl⟩
abbrev main_v923 : Ref sig .tc := ⟨.hbm, 1244, rfl⟩
abbrev main_v924 : Ref sig .tc := ⟨.hbm, 1245, rfl⟩
abbrev main_v925 : Ref sig .tc := ⟨.hbm, 1246, rfl⟩
abbrev main_v926 : Ref sig .tc := ⟨.hbm, 1247, rfl⟩
abbrev main_v927 : Ref sig .tc := ⟨.hbm, 1248, rfl⟩
abbrev main_v928 : Ref sig .tc := ⟨.hbm, 1249, rfl⟩
abbrev main_v929 : Ref sig .tc := ⟨.hbm, 1250, rfl⟩
abbrev main_cst_212 : Ref sig .tc := ⟨.hbm, 1251, rfl⟩
abbrev main_v930 : Ref sig .tc := ⟨.hbm, 1252, rfl⟩
abbrev main_v931 : Ref sig .tc := ⟨.hbm, 1253, rfl⟩
abbrev main_cst_213 : Ref sig .tc := ⟨.hbm, 1254, rfl⟩
abbrev main_v932 : Ref sig .tc := ⟨.hbm, 1255, rfl⟩
abbrev main_v933 : Ref sig .tc := ⟨.hbm, 1256, rfl⟩
abbrev main_cst_214 : Ref sig .tc := ⟨.hbm, 1257, rfl⟩
abbrev main_v934 : Ref sig .tc := ⟨.hbm, 1258, rfl⟩
abbrev main_v935 : Ref sig .tc := ⟨.hbm, 1259, rfl⟩
abbrev main_v936 : Ref sig .tc := ⟨.hbm, 1260, rfl⟩
abbrev main_v937 : Ref sig .tc := ⟨.hbm, 1261, rfl⟩
abbrev main_v938 : Ref sig .tc := ⟨.hbm, 1262, rfl⟩
abbrev main_v939 : Ref sig .tc := ⟨.hbm, 1263, rfl⟩
abbrev main_cst_215 : Ref sig .tc := ⟨.hbm, 1264, rfl⟩
abbrev main_v940 : Ref sig .tc := ⟨.hbm, 1265, rfl⟩
abbrev main_v941 : Ref sig .tc := ⟨.hbm, 1266, rfl⟩
abbrev main_v942 : Ref sig .tc := ⟨.hbm, 1267, rfl⟩
abbrev main_v943 : Ref sig .tc := ⟨.hbm, 1268, rfl⟩
abbrev main_v944 : Ref sig .tc := ⟨.hbm, 1269, rfl⟩
abbrev main_v945 : Ref sig .tc := ⟨.hbm, 1270, rfl⟩
abbrev main_v946 : Ref sig .tc := ⟨.hbm, 1271, rfl⟩
abbrev main_cst_216 : Ref sig .tc := ⟨.hbm, 1272, rfl⟩
abbrev main_v947 : Ref sig .tc := ⟨.hbm, 1273, rfl⟩
abbrev main_v948 : Ref sig .tc := ⟨.hbm, 1274, rfl⟩
abbrev main_cst_217 : Ref sig .tc := ⟨.hbm, 1275, rfl⟩
abbrev main_v949 : Ref sig .tc := ⟨.hbm, 1276, rfl⟩
abbrev main_v950 : Ref sig .tc := ⟨.hbm, 1277, rfl⟩
abbrev main_cst_218 : Ref sig .tc := ⟨.hbm, 1278, rfl⟩
abbrev main_v951 : Ref sig .tc := ⟨.hbm, 1279, rfl⟩
abbrev main_v952 : Ref sig .tc := ⟨.hbm, 1280, rfl⟩
abbrev main_v953 : Ref sig .tc := ⟨.hbm, 1281, rfl⟩
abbrev main_v954 : Ref sig .tc := ⟨.hbm, 1282, rfl⟩
abbrev main_v955 : Ref sig .tc := ⟨.hbm, 1283, rfl⟩
abbrev main_v956 : Ref sig .tc := ⟨.hbm, 1284, rfl⟩
abbrev main_cst_219 : Ref sig .tc := ⟨.hbm, 1285, rfl⟩
abbrev main_v957 : Ref sig .tc := ⟨.hbm, 1286, rfl⟩
abbrev main_v958 : Ref sig .tc := ⟨.hbm, 1287, rfl⟩
abbrev main_v959 : Ref sig .tc := ⟨.hbm, 1288, rfl⟩
abbrev main_v960 : Ref sig .tc := ⟨.hbm, 1289, rfl⟩
abbrev main_v961 : Ref sig .tc := ⟨.hbm, 1290, rfl⟩
abbrev main_v962 : Ref sig .tc := ⟨.hbm, 1291, rfl⟩
abbrev main_v963 : Ref sig .tc := ⟨.hbm, 1292, rfl⟩
abbrev main_cst_220 : Ref sig .tc := ⟨.hbm, 1293, rfl⟩
abbrev main_v964 : Ref sig .tc := ⟨.hbm, 1294, rfl⟩
abbrev main_v965 : Ref sig .tc := ⟨.hbm, 1295, rfl⟩
abbrev main_cst_221 : Ref sig .tc := ⟨.hbm, 1296, rfl⟩
abbrev main_v966 : Ref sig .tc := ⟨.hbm, 1297, rfl⟩
abbrev main_v967 : Ref sig .tc := ⟨.hbm, 1298, rfl⟩
abbrev main_cst_222 : Ref sig .tc := ⟨.hbm, 1299, rfl⟩
abbrev main_v968 : Ref sig .tc := ⟨.hbm, 1300, rfl⟩
abbrev main_v969 : Ref sig .tc := ⟨.hbm, 1301, rfl⟩
abbrev main_v970 : Ref sig .tc := ⟨.hbm, 1302, rfl⟩
abbrev main_v971 : Ref sig .tc := ⟨.hbm, 1303, rfl⟩
abbrev main_v972 : Ref sig .tc := ⟨.hbm, 1304, rfl⟩
abbrev main_v973 : Ref sig .tc := ⟨.hbm, 1305, rfl⟩
abbrev main_cst_223 : Ref sig .tc := ⟨.hbm, 1306, rfl⟩
abbrev main_v974 : Ref sig .tc := ⟨.hbm, 1307, rfl⟩
abbrev main_v975 : Ref sig .tc := ⟨.hbm, 1308, rfl⟩
abbrev main_v976 : Ref sig .tc := ⟨.hbm, 1309, rfl⟩
abbrev main_v977 : Ref sig .tc := ⟨.hbm, 1310, rfl⟩
abbrev main_v978 : Ref sig .tc := ⟨.hbm, 1311, rfl⟩
abbrev main_v979 : Ref sig .tc := ⟨.hbm, 1312, rfl⟩
abbrev main_v980 : Ref sig .tc := ⟨.hbm, 1313, rfl⟩
abbrev main_cst_224 : Ref sig .tc := ⟨.hbm, 1314, rfl⟩
abbrev main_v981 : Ref sig .tc := ⟨.hbm, 1315, rfl⟩
abbrev main_v982 : Ref sig .tc := ⟨.hbm, 1316, rfl⟩
abbrev main_cst_225 : Ref sig .tc := ⟨.hbm, 1317, rfl⟩
abbrev main_v983 : Ref sig .tc := ⟨.hbm, 1318, rfl⟩
abbrev main_v984 : Ref sig .tc := ⟨.hbm, 1319, rfl⟩
abbrev main_cst_226 : Ref sig .tc := ⟨.hbm, 1320, rfl⟩
abbrev main_v985 : Ref sig .tc := ⟨.hbm, 1321, rfl⟩
abbrev main_v986 : Ref sig .tc := ⟨.hbm, 1322, rfl⟩
abbrev main_v987 : Ref sig .tc := ⟨.hbm, 1323, rfl⟩
abbrev main_v988 : Ref sig .tc := ⟨.hbm, 1324, rfl⟩
abbrev main_v989 : Ref sig .tc := ⟨.hbm, 1325, rfl⟩
abbrev main_v990 : Ref sig .tc := ⟨.hbm, 1326, rfl⟩
abbrev main_cst_227 : Ref sig .tc := ⟨.hbm, 1327, rfl⟩
abbrev main_v991 : Ref sig .tc := ⟨.hbm, 1328, rfl⟩
abbrev main_v992 : Ref sig .tc := ⟨.hbm, 1329, rfl⟩
abbrev main_v993 : Ref sig .tc := ⟨.hbm, 1330, rfl⟩
abbrev main_v994 : Ref sig .tc := ⟨.hbm, 1331, rfl⟩
abbrev main_v995 : Ref sig .tc := ⟨.hbm, 1332, rfl⟩
abbrev main_v996 : Ref sig .tc := ⟨.hbm, 1333, rfl⟩
abbrev main_v997 : Ref sig .tc := ⟨.hbm, 1334, rfl⟩
abbrev main_cst_228 : Ref sig .tc := ⟨.hbm, 1335, rfl⟩
abbrev main_v998 : Ref sig .tc := ⟨.hbm, 1336, rfl⟩
abbrev main_v999 : Ref sig .tc := ⟨.hbm, 1337, rfl⟩
abbrev main_cst_229 : Ref sig .tc := ⟨.hbm, 1338, rfl⟩
abbrev main_v1000 : Ref sig .tc := ⟨.hbm, 1339, rfl⟩
abbrev main_v1001 : Ref sig .tc := ⟨.hbm, 1340, rfl⟩
abbrev main_cst_230 : Ref sig .tc := ⟨.hbm, 1341, rfl⟩
abbrev main_v1002 : Ref sig .tc := ⟨.hbm, 1342, rfl⟩
abbrev main_v1003 : Ref sig .tc := ⟨.hbm, 1343, rfl⟩
abbrev main_v1004 : Ref sig .tc := ⟨.hbm, 1344, rfl⟩
abbrev main_v1005 : Ref sig .tc := ⟨.hbm, 1345, rfl⟩
abbrev main_v1006 : Ref sig .tc := ⟨.hbm, 1346, rfl⟩
abbrev main_v1007 : Ref sig .tc := ⟨.hbm, 1347, rfl⟩
abbrev main_cst_231 : Ref sig .tc := ⟨.hbm, 1348, rfl⟩
abbrev main_v1008 : Ref sig .tc := ⟨.hbm, 1349, rfl⟩
abbrev main_v1009 : Ref sig .tc := ⟨.hbm, 1350, rfl⟩
abbrev main_v1010 : Ref sig .tc := ⟨.hbm, 1351, rfl⟩
abbrev main_v1011 : Ref sig .tc := ⟨.hbm, 1352, rfl⟩
abbrev main_v1012 : Ref sig .tc := ⟨.hbm, 1353, rfl⟩
abbrev main_v1013 : Ref sig .tc := ⟨.hbm, 1354, rfl⟩
abbrev main_v1014 : Ref sig .tc := ⟨.hbm, 1355, rfl⟩
abbrev main_cst_232 : Ref sig .tc := ⟨.hbm, 1356, rfl⟩
abbrev main_v1015 : Ref sig .tc := ⟨.hbm, 1357, rfl⟩
abbrev main_v1016 : Ref sig .tc := ⟨.hbm, 1358, rfl⟩
abbrev main_cst_233 : Ref sig .tc := ⟨.hbm, 1359, rfl⟩
abbrev main_v1017 : Ref sig .tc := ⟨.hbm, 1360, rfl⟩
abbrev main_v1018 : Ref sig .tc := ⟨.hbm, 1361, rfl⟩
abbrev main_cst_234 : Ref sig .tc := ⟨.hbm, 1362, rfl⟩
abbrev main_v1019 : Ref sig .tc := ⟨.hbm, 1363, rfl⟩
abbrev main_v1020 : Ref sig .tc := ⟨.hbm, 1364, rfl⟩
abbrev main_v1021 : Ref sig .tc := ⟨.hbm, 1365, rfl⟩
abbrev main_v1022 : Ref sig .tc := ⟨.hbm, 1366, rfl⟩
abbrev main_v1023 : Ref sig .tc := ⟨.hbm, 1367, rfl⟩
abbrev main_v1024 : Ref sig .tc := ⟨.hbm, 1368, rfl⟩
abbrev main_cst_235 : Ref sig .tc := ⟨.hbm, 1369, rfl⟩
abbrev main_v1025 : Ref sig .tc := ⟨.hbm, 1370, rfl⟩
abbrev main_v1026 : Ref sig .tc := ⟨.hbm, 1371, rfl⟩
abbrev main_v1027 : Ref sig .tc := ⟨.hbm, 1372, rfl⟩
abbrev main_v1028 : Ref sig .tc := ⟨.hbm, 1373, rfl⟩
abbrev main_v1029 : Ref sig .tc := ⟨.hbm, 1374, rfl⟩
abbrev main_v1030 : Ref sig .tc := ⟨.hbm, 1375, rfl⟩
abbrev main_v1031 : Ref sig .tc := ⟨.hbm, 1376, rfl⟩
abbrev main_cst_236 : Ref sig .tc := ⟨.hbm, 1377, rfl⟩
abbrev main_v1032 : Ref sig .tc := ⟨.hbm, 1378, rfl⟩
abbrev main_v1033 : Ref sig .tc := ⟨.hbm, 1379, rfl⟩
abbrev main_cst_237 : Ref sig .tc := ⟨.hbm, 1380, rfl⟩
abbrev main_v1034 : Ref sig .tc := ⟨.hbm, 1381, rfl⟩
abbrev main_v1035 : Ref sig .tc := ⟨.hbm, 1382, rfl⟩
abbrev main_cst_238 : Ref sig .tc := ⟨.hbm, 1383, rfl⟩
abbrev main_v1036 : Ref sig .tc := ⟨.hbm, 1384, rfl⟩
abbrev main_v1037 : Ref sig .tc := ⟨.hbm, 1385, rfl⟩
abbrev main_v1038 : Ref sig .tc := ⟨.hbm, 1386, rfl⟩
abbrev main_v1039 : Ref sig .tc := ⟨.hbm, 1387, rfl⟩
abbrev main_v1040 : Ref sig .tc := ⟨.hbm, 1388, rfl⟩
abbrev main_v1041 : Ref sig .tc := ⟨.hbm, 1389, rfl⟩
abbrev main_cst_239 : Ref sig .tc := ⟨.hbm, 1390, rfl⟩
abbrev main_v1042 : Ref sig .tc := ⟨.hbm, 1391, rfl⟩
abbrev main_v1043 : Ref sig .tc := ⟨.hbm, 1392, rfl⟩
abbrev main_v1044 : Ref sig .tc := ⟨.hbm, 1393, rfl⟩
abbrev main_v1045 : Ref sig .tc := ⟨.hbm, 1394, rfl⟩
abbrev main_v1046 : Ref sig .tc := ⟨.hbm, 1395, rfl⟩
abbrev main_v1047 : Ref sig .tc := ⟨.hbm, 1396, rfl⟩
abbrev main_v1048 : Ref sig .tc := ⟨.hbm, 1397, rfl⟩
abbrev main_cst_240 : Ref sig .tc := ⟨.hbm, 1398, rfl⟩
abbrev main_v1049 : Ref sig .tc := ⟨.hbm, 1399, rfl⟩
abbrev main_v1050 : Ref sig .tc := ⟨.hbm, 1400, rfl⟩
abbrev main_cst_241 : Ref sig .tc := ⟨.hbm, 1401, rfl⟩
abbrev main_v1051 : Ref sig .tc := ⟨.hbm, 1402, rfl⟩
abbrev main_v1052 : Ref sig .tc := ⟨.hbm, 1403, rfl⟩
abbrev main_cst_242 : Ref sig .tc := ⟨.hbm, 1404, rfl⟩
abbrev main_v1053 : Ref sig .tc := ⟨.hbm, 1405, rfl⟩
abbrev main_v1054 : Ref sig .tc := ⟨.hbm, 1406, rfl⟩
abbrev main_v1055 : Ref sig .tc := ⟨.hbm, 1407, rfl⟩
abbrev main_v1056 : Ref sig .tc := ⟨.hbm, 1408, rfl⟩
abbrev main_v1057 : Ref sig .tc := ⟨.hbm, 1409, rfl⟩
abbrev main_v1058 : Ref sig .tc := ⟨.hbm, 1410, rfl⟩
abbrev main_cst_243 : Ref sig .tc := ⟨.hbm, 1411, rfl⟩
abbrev main_v1059 : Ref sig .tc := ⟨.hbm, 1412, rfl⟩
abbrev main_v1060 : Ref sig .tc := ⟨.hbm, 1413, rfl⟩
abbrev main_v1061 : Ref sig .tc := ⟨.hbm, 1414, rfl⟩
abbrev main_v1062 : Ref sig .tc := ⟨.hbm, 1415, rfl⟩
abbrev main_v1063 : Ref sig .tc := ⟨.hbm, 1416, rfl⟩
abbrev main_v1064 : Ref sig .tc := ⟨.hbm, 1417, rfl⟩
abbrev main_v1065 : Ref sig .tc := ⟨.hbm, 1418, rfl⟩
abbrev main_cst_244 : Ref sig .tc := ⟨.hbm, 1419, rfl⟩
abbrev main_v1066 : Ref sig .tc := ⟨.hbm, 1420, rfl⟩
abbrev main_v1067 : Ref sig .tc := ⟨.hbm, 1421, rfl⟩
abbrev main_cst_245 : Ref sig .tc := ⟨.hbm, 1422, rfl⟩
abbrev main_v1068 : Ref sig .tc := ⟨.hbm, 1423, rfl⟩
abbrev main_v1069 : Ref sig .tc := ⟨.hbm, 1424, rfl⟩
abbrev main_v1070 : Ref sig .tc := ⟨.hbm, 1425, rfl⟩
abbrev main_cst_246 : Ref sig .tc := ⟨.hbm, 1426, rfl⟩
abbrev main_call117_v0 : Ref sig .tc := ⟨.hbm, 1427, rfl⟩
abbrev main_call117_v1 : Ref sig .tc := ⟨.hbm, 1428, rfl⟩
abbrev main_call117_v2 : Ref sig .tc := ⟨.hbm, 1429, rfl⟩
abbrev main_v1071 : Ref sig .tc := ⟨.hbm, 1430, rfl⟩
abbrev main_cst_247 : Ref sig .tc := ⟨.hbm, 1431, rfl⟩
abbrev main_call118_v0 : Ref sig .tc := ⟨.hbm, 1432, rfl⟩
abbrev main_call118_v1 : Ref sig .tc := ⟨.hbm, 1433, rfl⟩
abbrev main_v1072 : Ref sig .tc := ⟨.hbm, 1434, rfl⟩
abbrev main_cst_248 : Ref sig .tc := ⟨.hbm, 1435, rfl⟩
abbrev main_call119_v0 : Ref sig .tc := ⟨.hbm, 1436, rfl⟩
abbrev main_call119_v1 : Ref sig .tc := ⟨.hbm, 1437, rfl⟩
abbrev main_v1073 : Ref sig .tc := ⟨.hbm, 1438, rfl⟩
abbrev main_v1074 : Ref sig .tc := ⟨.hbm, 1439, rfl⟩
abbrev main_v1075 : Ref sig .tc := ⟨.hbm, 1440, rfl⟩
abbrev main_call121_v0 : Ref sig .tc := ⟨.hbm, 1441, rfl⟩
abbrev main_v1076 : Ref sig .tc := ⟨.hbm, 1442, rfl⟩
abbrev main_v1077 : Ref sig .tc := ⟨.hbm, 1443, rfl⟩
abbrev main_v1078 : Ref sig .tc := ⟨.hbm, 1444, rfl⟩

abbrev nD : Nat := 1
abbrev τ : Topo := Topo.v7x

variable {F : FTy → Type} [FloatOps F]
-- ==== Proof.Host.lean ====
/-
  The kernel program's host lines: what its region reads of the arguments, and what its results are of the arrays the
  region leaves.
-/
module

public import proofs.«01_k».proof.Proof.Gen.KernelIdeal.Frame
public import Idealize.ShloMosaic.Lib.StableHlo.Run
public import Idealize.ShloMosaic.Lib.Pipeline.Value

@[expose] public section

noncomputable section

open Idealize.ShloMosaic Idealize.ShloMosaic.TcCoe Idealize.SL.Sem

namespace Cert.KernelIdeal.Host

open Cert.KernelIdeal Cert.KernelIdeal.Gen

variable {F : FTy → Type} [FloatOps F] [Named F]
variable (m : (ℓ : Loc nD τ sig) → Buf (Elt F) ℓ)

/-- The origins, as the region reads them. -/
theorem in0 (c : Dev nD) : V m c main_call0_v1 =
    shapeCast S3x128x1024 (transpose S3x131072 [1, 0] (m ((c.tc : Thread nD τ).loc main_arg0))
      transposes_S131072x3_S3x131072_1_0) shapeCasts_S3x131072_S3x128x1024 := by
  unfold V V0
  simp only [List.flatten_cons, List.flatten_nil, List.append_nil]
  after_results
  rfl

/-- The directions. -/
theorem in1 (c : Dev nD) : V m c main_call0_v3 =
    shapeCast S3x128x1024 (transpose S3x131072 [1, 0] (m ((c.tc : Thread nD τ).loc main_arg1))
      transposes_S131072x3_S3x131072_1_0) shapeCasts_S3x131072_S3x128x1024 := by
  unfold V V0
  simp only [List.flatten_cons, List.flatten_nil, List.append_nil]
  after_results
  rfl

variable (W : Valuation τ sig (Elt F))

theorem out0 : StableHlo.after hostOps1 W (Proc.devRef .tc main_v0_0) =
    shapeCast S131072 (cmpi .ne (W (Proc.devRef .tc main_call0_v4_0) : IVec S128x1024 32)
      (broadcastInDim S128x1024 ![] bcast_S_S128x1024 (constantI S_ 32 0#32))) shapeCasts_S128x1024_S131072 := by
  after_results
  rfl

theorem out1 : StableHlo.after hostOps1 W (Proc.devRef .tc main_v0_1) =
    transpose S131072x3 [1, 0] (shapeCast S3x131072 (W (Proc.devRef .tc main_call0_v4_1) : FVec F S3x128x1024 .f32)
      shapeCasts_S3x128x1024_S3x131072) transposes_S3x131072_S131072x3_1_0 := by
  after_results
  rfl

theorem out2 : StableHlo.after hostOps1 W (Proc.devRef .tc main_v0_2) =
    shapeCast S131072 (W (Proc.devRef .tc main_call0_v4_2) : FVec F S128x1024 .f32) shapeCasts_S128x1024_S131072 := by
  after_results
  rfl

theorem out3 : StableHlo.after hostOps1 W (Proc.devRef .tc main_v0_3) =
    shapeCast S131072 (W (Proc.devRef .tc main_call0_v4_3) : FVec F S128x1024 .f32) shapeCasts_S128x1024_S131072 := by
  after_results
  rfl

/-- No two windows share an array. -/
theorem arr_inj : Function.Injective (Pipeline.arrRef spec0) := by decide

/-- What the region leaves in window `w`'s array is what the lines after it find there. -/
theorem left (c : Dev nD) (w : Fin cfg0.W) :
    Pipeline.withArrays spec0 c (V0 m c) (fun w => (dats m 0 c).arrAt w cfg0.N)
      (Proc.devRef .tc (Pipeline.arrRef spec0 w)) = (dats m 0 c).arrAt w cfg0.N :=
  Pipeline.withArrays_arr spec0 arr_inj c (V0 m c) _ w

end Cert.KernelIdeal.Host

end
-- ==== Proof.Ray.lean ====
/-
  One ray against the unit sphere, over the real numbers: the march (`step`), what it keeps true (`Good`), and when the
  128 equally spaced samples of an interval see the sphere entered (`finds_iff`): the closed form of the quadratic's
  roots and the search by sign agree.
-/
module

public import Idealize.ShloMosaic.PureOps.Ideal.Laws
public import Mathlib.Algebra.Order.Floor.Ring
public import Mathlib.Tactic.Linarith
public import Mathlib.Tactic.Positivity
public import Mathlib.Tactic.FieldSimp

@[expose] public section

noncomputable section

namespace Cert.Ray

/-- A ray: origin and direction. -/
structure Line where
  (ox oy oz dx dy dz : ℝ)

/-- What the march holds of one ray: distance gone, point, distance to the sphere there, whether it goes on. -/
structure State where
  (acc x y z cur : ℝ)
  unf : Bool

/-- The signed distance of a point to the unit sphere. -/
def sdf (x y z : ℝ) : ℝ := √(x * x + y * y + z * z) - 1

/-- The start of the march. -/
def start (thr : ℝ) (l : Line) : State :=
  ⟨0, l.ox, l.oy, l.oz, sdf l.ox l.oy l.oz, decide (thr < |sdf l.ox l.oy l.oz|)⟩

/-- One step of the march. -/
def step (thr : ℝ) (l : Line) (s : State) : State :=
  let st := if s.unf then s.cur else 0
  let x := s.x + l.dx * st
  let y := s.y + l.dy * st
  let z := s.z + l.dz * st
  let cur := if s.unf then sdf x y z else s.cur
  ⟨s.acc + st, x, y, z, cur, s.unf && decide (thr < |cur|) && decide (s.acc + st < 6)⟩

/-- The coefficients of the squared length at `t`, less one: `a t² + b t + c`. -/
def Line.a (l : Line) : ℝ := l.dx * l.dx + l.dy * l.dy + l.dz * l.dz
def Line.b (l : Line) : ℝ := 2 * (l.ox * l.dx + l.oy * l.dy + l.oz * l.dz)
def Line.c (l : Line) : ℝ := l.ox * l.ox + l.oy * l.oy + l.oz * l.oz - 1

/-- The quadratic. -/
def quad (a b c t : ℝ) : ℝ := a * t ^ 2 + b * t + c

/-- The quadratic of a ray. -/
def Line.q (l : Line) (t : ℝ) : ℝ := quad l.a l.b l.c t

theorem Line.a_nonneg (l : Line) : 0 ≤ l.a := by
  unfold Line.a; nlinarith [mul_self_nonneg l.dx, mul_self_nonneg l.dy, mul_self_nonneg l.dz]

theorem Line.b_zero (l : Line) (h : l.a = 0) : l.b = 0 := by
  have hx := mul_self_nonneg l.dx
  have hy := mul_self_nonneg l.dy
  have hz := mul_self_nonneg l.dz
  unfold Line.a at h
  have ex : l.dx = 0 := mul_self_eq_zero.1 (by linarith)
  have ey : l.dy = 0 := mul_self_eq_zero.1 (by linarith)
  have ez : l.dz = 0 := mul_self_eq_zero.1 (by linarith)
  simp [Line.b, ex, ey, ez]

theorem sq_nonneg3 (x y z : ℝ) : 0 ≤ x * x + y * y + z * z := by
  nlinarith [mul_self_nonneg x, mul_self_nonneg y, mul_self_nonneg z]

/-- The distance at `t` is negative exactly where the quadratic is. -/
theorem sdf_neg_iff (l : Line) (t : ℝ) :
    sdf (l.ox + l.dx * t) (l.oy + l.dy * t) (l.oz + l.dz * t) < 0 ↔ l.q t < 0 := by
  unfold sdf
  rw [sub_neg, Real.sqrt_lt' one_pos]
  unfold Line.q quad Line.a Line.b Line.c
  constructor <;> intro h <;> nlinarith

/-- What the march keeps true. -/
structure Good (thr : ℝ) (l : Line) (s : State) : Prop where
  hx : s.x = l.ox + l.dx * s.acc
  hy : s.y = l.oy + l.dy * s.acc
  hz : s.z = l.oz + l.dz * s.acc
  hcur : s.cur = sdf s.x s.y s.z
  far : s.unf = true → thr < |s.cur| ∧ s.acc < 6
  ahead : (∃ t, 0 < t ∧ l.q t < 0) ∨ 0 ≤ s.acc

theorem Good.neg_iff {thr : ℝ} {l : Line} {s : State} (h : Good thr l s) : s.cur < 0 ↔ l.q s.acc < 0 := by
  rw [h.hcur, h.hx, h.hy, h.hz, sdf_neg_iff]

theorem good_start (thr : ℝ) (l : Line) : Good thr l (start thr l) := by
  refine ⟨by simp [start], by simp [start], by simp [start], rfl, ?_, Or.inr le_rfl⟩
  intro h
  exact ⟨by simpa [start] using h, by norm_num [start]⟩

theorem good_step {thr : ℝ} {l : Line} (hc : 0 ≤ l.c) {s : State} (h : Good thr l s) :
    Good thr l (step thr l s) := by
  obtain ⟨acc, x, y, z, cur, unf⟩ := s
  have hn := h.neg_iff
  obtain ⟨hx, hy, hz, hcur, far, ahead⟩ := h
  simp only at hx hy hz hcur far ahead hn
  cases unf with
  | false => exact ⟨by simp [step, hx], by simp [step, hy], by simp [step, hz], by simp [step, hcur], by simp [step],
      by simpa [step] using ahead⟩
  | true =>
    refine ⟨?_, ?_, ?_, by simp [step], by simp [step], ?_⟩
    · simp only [step, if_true, hx]; ring
    · simp only [step, if_true, hy]; ring
    · simp only [step, if_true, hz]; ring
    · simp only [step, if_true]
      rcases ahead with ha | ha
      · exact Or.inl ha
      · by_cases hneg : cur < 0
        · have hq := hn.1 hneg
          rcases ha.lt_or_eq with h0 | h0
          · exact Or.inl ⟨acc, h0, hq⟩
          · subst h0
            exfalso
            simp only [Line.q, quad] at hq
            nlinarith
        · exact Or.inr (by linarith)

/-- The march's states. -/
def march (thr : ℝ) (l : Line) : ℕ → State
  | 0 => start thr l
  | n + 1 => step thr l (march thr l n)

theorem good_march {thr : ℝ} {l : Line} (hc : 0 ≤ l.c) (n : ℕ) : Good thr l (march thr l n) := by
  induction n with
  | zero => exact good_start thr l
  | succ n ih => exact good_step hc ih

/-- Below zero at both ends of an interval, below zero inside it. -/
theorem quad_between {a b c : ℝ} (ha : 0 ≤ a) {u v : ℝ} (hu : quad a b c u < 0) (hv : quad a b c v < 0)
    {t : ℝ} (h1 : u ≤ t) (h2 : t ≤ v) : quad a b c t < 0 := by
  rcases h1.lt_or_eq with h1' | rfl
  · unfold quad at *
    have huv : u < v := lt_of_lt_of_le h1' h2
    have key : (v - u) * (a * t ^ 2 + b * t + c) =
        (v - t) * (a * u ^ 2 + b * u + c) + (t - u) * (a * v ^ 2 + b * v + c) - a * ((v - u) * ((v - t) * (t - u))) := by
      ring
    have p1 : 0 ≤ a * ((v - u) * ((v - t) * (t - u))) := by
      have : 0 ≤ v - u := by linarith
      have : 0 ≤ v - t := by linarith
      have : 0 ≤ t - u := by linarith
      positivity
    have p2 : (v - t) * (a * u ^ 2 + b * u + c) ≤ 0 := by nlinarith
    have p3 : (t - u) * (a * v ^ 2 + b * v + c) < 0 := by nlinarith
    have : (v - u) * (a * t ^ 2 + b * t + c) < 0 := by linarith
    by_contra hcon
    push Not at hcon
    have : 0 ≤ (v - u) * (a * t ^ 2 + b * t + c) := mul_nonneg (by linarith) hcon
    linarith
  · exact hu

/-- An unfinished ray inside the sphere has gone forward. -/
theorem Good.acc_pos {thr : ℝ} {l : Line} (hc : 0 ≤ l.c) {s : State} (h : Good thr l s) (hneg : s.cur < 0) :
    0 < s.acc := by
  have hq := h.neg_iff.1 hneg
  by_contra hcon
  push Not at hcon
  have h0 : ¬ l.q 0 < 0 := by simp [Line.q, quad, hc]
  rcases h.ahead with ⟨t, ht, hqt⟩ | ha
  · exact h0 (quad_between l.a_nonneg hq hqt hcon ht.le)
  · have : s.acc = 0 := le_antisymm hcon ha
    exact h0 (this ▸ hq)

/-- The sampled interval's ends. -/
def State.lo (s : State) : ℝ := if 0 < s.cur then s.acc else 0
def State.hi (s : State) : ℝ := if 0 < s.cur then 6 else s.acc

/-- An unfinished ray samples an interval that is not empty. -/
theorem Good.lo_lt_hi {thr : ℝ} (hthr : 0 ≤ thr) {l : Line} (hc : 0 ≤ l.c) {s : State} (h : Good thr l s)
    (hu : s.unf = true) : s.lo < s.hi := by
  obtain ⟨h1, h2⟩ := h.far hu
  unfold State.lo State.hi
  split_ifs with hp
  · exact h2
  · refine h.acc_pos hc (lt_of_le_of_ne (not_lt.1 hp) ?_)
    intro h0
    rw [h0, abs_zero] at h1
    linarith

/-- The discriminant. -/
def disc (a b c : ℝ) : ℝ := b * b - 4 * a * c

/-- The smaller and the larger root, as the closed form has them. -/
def enter (a b c : ℝ) : ℝ := (-b - √(max (disc a b c) 0)) * (1 / 2 / a)
def leave (a b c : ℝ) : ℝ := (-b + √(max (disc a b c) 0)) * (1 / 2 / a)

theorem pos_of_disc {a b c : ℝ} (ha : 0 ≤ a) (ha0 : a = 0 → b = 0) (hd : 0 < disc a b c) : 0 < a := by
  rcases ha.lt_or_eq with h | h
  · exact h
  · exfalso
    have hb := ha0 h.symm
    simp [disc, ← h, hb] at hd

/-- Below zero, between the roots. -/
theorem quad_neg_iff {a b c : ℝ} (ha : 0 < a) (hd : 0 < disc a b c) (t : ℝ) :
    quad a b c t < 0 ↔ enter a b c < t ∧ t < leave a b c := by
  have hs : √(max (disc a b c) 0) * √(max (disc a b c) 0) = disc a b c := by
    rw [max_eq_left hd.le]; exact Real.mul_self_sqrt hd.le
  have hs0 : 0 < √(max (disc a b c) 0) := by rw [max_eq_left hd.le]; exact Real.sqrt_pos.2 hd
  unfold enter leave
  set s := √(max (disc a b c) 0) with hsdef
  have h1 : (-b - s) * (1 / 2 / a) < t ↔ -b - s < 2 * a * t := by
    rw [show (-b - s) * (1 / 2 / a) = (-b - s) / (2 * a) by field_simp, div_lt_iff₀ (by linarith)]
    constructor <;> intro h <;> linarith
  have h2 : t < (-b + s) * (1 / 2 / a) ↔ 2 * a * t < -b + s := by
    rw [show (-b + s) * (1 / 2 / a) = (-b + s) / (2 * a) by field_simp, lt_div_iff₀ (by linarith)]
    constructor <;> intro h <;> linarith
  rw [h1, h2]
  have key : 4 * a * quad a b c t = (2 * a * t + b + s) * (2 * a * t + b - s) := by
    have : disc a b c = b * b - 4 * a * c := rfl
    unfold quad; nlinarith
  constructor
  · intro hq
    have hneg : (2 * a * t + b + s) * (2 * a * t + b - s) < 0 := by rw [← key]; nlinarith
    constructor <;> by_contra hcon <;> push Not at hcon <;> nlinarith
  · rintro ⟨g1, g2⟩
    have hneg : (2 * a * t + b + s) * (2 * a * t + b - s) < 0 := by nlinarith
    rw [← key] at hneg
    by_contra hcon
    push Not at hcon
    have : 0 ≤ 4 * a * quad a b c t := by positivity
    linarith

/-- No discriminant, never below zero. -/
theorem quad_nonneg {a b c : ℝ} (ha : 0 ≤ a) (ha0 : a = 0 → b = 0) (hc : 0 ≤ c) (hd : disc a b c ≤ 0) (t : ℝ) :
    0 ≤ quad a b c t := by
  rcases ha.lt_or_eq with h | h
  · have key : 4 * a * quad a b c t = (2 * a * t + b) * (2 * a * t + b) - disc a b c := by
      unfold quad disc; ring
    by_contra hcon
    push Not at hcon
    have : 4 * a * quad a b c t < 0 := by nlinarith
    nlinarith [mul_self_nonneg (2 * a * t + b)]
  · simp [quad, ← h, ha0 h.symm, hc]

/-- The first sample past the entry, counted from the interval's start. -/
def first (te m h : ℝ) : ℝ := max ((⌊(te - m) / h⌋ : ℝ) + 1) 0

/-- The first sample past the entry is past the entry. -/
theorem lt_first (te m : ℝ) {h : ℝ} (hh : 0 < h) : te < m + first te m h * h := by
  have h1 : (te - m) / h < first te m h := lt_of_lt_of_le (Int.lt_floor_add_one _) (le_max_left _ _)
  rw [div_lt_iff₀ hh] at h1
  linarith

/-- The first sample past the entry is a natural number of steps. -/
theorem first_nat (te m h : ℝ) : ∃ j : ℕ, first te m h = j := by
  unfold first
  by_cases hz : 0 ≤ ⌊(te - m) / h⌋ + 1
  · refine ⟨(⌊(te - m) / h⌋ + 1).toNat, ?_⟩
    have h1 : ((⌊(te - m) / h⌋ + 1).toNat : ℤ) = ⌊(te - m) / h⌋ + 1 := Int.toNat_of_nonneg hz
    have h2 : (((⌊(te - m) / h⌋ + 1).toNat : ℤ) : ℝ) = (⌊(te - m) / h⌋ : ℝ) + 1 := by rw [h1]; push_cast; rfl
    have h3 : (0 : ℝ) ≤ (⌊(te - m) / h⌋ : ℝ) + 1 := by exact_mod_cast hz
    rw [Int.cast_natCast] at h2
    rw [max_eq_left h3, h2]
  · refine ⟨0, ?_⟩
    have h3 : (⌊(te - m) / h⌋ : ℝ) + 1 ≤ 0 := by
      push Not at hz
      exact_mod_cast hz.le
    simp [max_eq_right h3]

/-- The first sample past the entry comes no later than any sample past the entry. -/
theorem first_le {te m h : ℝ} (hh : 0 < h) {j : ℕ} (hj : te < m + j * h) : first te m h ≤ j := by
  unfold first
  refine max_le ?_ (by positivity)
  have h1 : (te - m) / h < j := by rw [div_lt_iff₀ hh]; linarith
  have h2 : ⌊(te - m) / h⌋ < (j : ℤ) := by
    rw [Int.floor_lt]; exact_mod_cast h1
  have h3 : ⌊(te - m) / h⌋ + 1 ≤ (j : ℤ) := h2
  exact_mod_cast h3

/-- The closed form and the search by sign find an entry for the same rays. -/
theorem finds_iff {a b c m h : ℝ} (ha : 0 ≤ a) (ha0 : a = 0 → b = 0) (hc : 0 ≤ c) (hh : 0 < h) :
    (0 < disc a b c ∧ m + first (enter a b c) m h * h < leave a b c ∧ first (enter a b c) m h ≤ 127 ∧
        1 ≤ first (enter a b c) m h) ↔
      (∃ j : ℕ, j ≤ 127 ∧ quad a b c (m + j * h) < 0) ∧ ¬ quad a b c m < 0 := by
  constructor
  · rintro ⟨hd, hx, h127, h1⟩
    have hap := pos_of_disc ha ha0 hd
    obtain ⟨j, hj⟩ := first_nat (enter a b c) m h
    refine ⟨⟨j, ?_, ?_⟩, ?_⟩
    · rw [hj] at h127; exact_mod_cast h127
    · rw [quad_neg_iff hap hd, ← hj]
      exact ⟨lt_first _ _ hh, hx⟩
    · rw [quad_neg_iff hap hd]
      rintro ⟨g1, -⟩
      have := first_le (te := enter a b c) (m := m) hh (j := 0) (by simpa using g1)
      simp at this
      linarith
  · rintro ⟨⟨j, hj, hq⟩, hm⟩
    have hd : 0 < disc a b c := by
      by_contra hcon
      push Not at hcon
      exact absurd hq (not_lt.2 (quad_nonneg ha ha0 hc hcon _))
    have hap := pos_of_disc ha ha0 hd
    rw [quad_neg_iff hap hd] at hq hm
    have hle := first_le hh hq.1
    have hjh : (0 : ℝ) ≤ j * h := by positivity
    refine ⟨hd, ?_, ?_, ?_⟩
    · have : first (enter a b c) m h * h ≤ j * h := mul_le_mul_of_nonneg_right hle hh.le
      linarith [hq.2]
    · have : (j : ℝ) ≤ 127 := by exact_mod_cast hj
      linarith
    · have hte : m ≤ enter a b c := by
        by_contra hcon
        push Not at hcon
        exact hm ⟨hcon, by linarith [hq.2]⟩
      have hf : (0 : ℤ) ≤ ⌊(enter a b c - m) / h⌋ := Int.floor_nonneg.2 (div_nonneg (by linarith) hh.le)
      have hf' : (0 : ℝ) ≤ (⌊(enter a b c - m) / h⌋ : ℝ) := by exact_mod_cast hf
      exact le_trans (by linarith) (le_max_left _ _)

end Cert.Ray
-- ==== Proof.Consts.lean ====
/-
  The float constants of the two programs as extended reals, and the scalar operations on real operands: what one
  element of an elementwise operation is, once the elements it reads are known to be reals.
-/
module

public import Idealize.ShloMosaic.Lib.Pointwise.Tactic

@[expose] public section

noncomputable section

namespace Cert.Consts

open Idealize.ShloMosaic

/-- The threshold below which a ray has arrived, the real number its pattern denotes. -/
def thr : ℝ := 13743895 / 2 ^ 38

theorem thr_pos : 0 < thr := by unfold thr; positivity

theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul, -EReal.coe_one]; norm_num
theorem ofBits_two : Ideal.ofBits .f32 0x40000000#32 = ((2 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_six : Ideal.ofBits .f32 0x40C00000#32 = ((6 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_127 : Ideal.ofBits .f32 0x42FE0000#32 = ((127 : ℝ) : EReal) := by
  simp [Ideal.ofBits, Ideal.ieee, -EReal.coe_mul]; norm_num
theorem ofBits_thr : Ideal.ofBits .f32 0x3851B717#32 = ((thr : ℝ) : EReal) := by
  simp [Ideal.ofBits, Ideal.ieee, -EReal.coe_mul, thr]; norm_num
theorem ofBits_inf : Ideal.ofBits .f32 0x7F800000#32 = (⊤ : EReal) := by
  simp [Ideal.ofBits, Ideal.ieee]

variable (a b : ℝ)

theorem add_coe : (a : EReal) + (b : EReal) = ((a + b : ℝ) : EReal) := rfl
theorem mul_coe : (a : EReal) * (b : EReal) = ((a * b : ℝ) : EReal) := (EReal.coe_mul a b).symm
theorem sub_coe : (a : EReal) - (b : EReal) = ((a - b : ℝ) : EReal) := rfl
theorem max_coe : max (a : EReal) (b : EReal) = ((max a b : ℝ) : EReal) := (EReal.coe_strictMono.monotone.map_max).symm
theorem abs_coe : max (a : EReal) (-(a : EReal)) = ((|a| : ℝ) : EReal) := by
  rw [← EReal.coe_neg, max_coe]; rfl

theorem sqrt_coe (h : 0 ≤ a) : Ideal.sqrt (a : EReal) = ((√a : ℝ) : EReal) := by
  rw [Ideal.sqrt_coe, if_neg (not_lt.2 h)]

/-- A length from a reciprocal length: at zero, nothing times infinity. -/
theorem mul_rsqrt_coe (h : 0 ≤ a) : (a : EReal) * Ideal.rsqrt (a : EReal) = ((√a : ℝ) : EReal) := by
  rw [Ideal.rsqrt_coe, if_neg (not_lt.2 h)]
  split_ifs with h0
  · subst h0; simp
  · rw [mul_coe]
    congr 1
    have hp : 0 < √a := Real.sqrt_pos.2 (lt_of_le_of_ne h (Ne.symm h0))
    rw [← div_eq_mul_inv, div_eq_iff hp.ne', Real.mul_self_sqrt h]

theorem div_coe (h : b ≠ 0) : Ideal.div (a : EReal) (b : EReal) = ((a * (1 / b) : ℝ) : EReal) := by
  rw [Ideal.div_coe h, mul_coe]

theorem ogt_coe : Ideal.cmp .ogt (a : EReal) (b : EReal) = BitVec.ofBool (decide (b < a)) := by
  simp [Ideal.cmp, EReal.coe_lt_coe_iff]
theorem olt_coe : Ideal.cmp .olt (a : EReal) (b : EReal) = BitVec.ofBool (decide (a < b)) := by
  simp [Ideal.cmp, EReal.coe_lt_coe_iff]
theorem ole_coe : Ideal.cmp .ole (a : EReal) (b : EReal) = BitVec.ofBool (decide (a ≤ b)) := by
  simp [Ideal.cmp, EReal.coe_le_coe_iff]
theorem oge_coe : Ideal.cmp .oge (a : EReal) (b : EReal) = BitVec.ofBool (decide (b ≤ a)) := by
  simp [Ideal.cmp, EReal.coe_le_coe_iff]

theorem select_ofBool {α : Type} (p : Bool) (x y : α) :
    Scalar.select (BitVec.ofBool p) x y = if p then x else y := by
  cases p <;> rfl
theorem select_coe (p : Bool) :
    Scalar.select (BitVec.ofBool p) (a : EReal) (b : EReal) = ((if p then a else b : ℝ) : EReal) := by
  cases p <;> rfl
theorem and_ofBool (p q : Bool) : BitVec.ofBool p &&& BitVec.ofBool q = BitVec.ofBool (p && q) := by
  cases p <;> cases q <;> rfl
theorem or_ofBool (p q : Bool) : BitVec.ofBool p ||| BitVec.ofBool q = BitVec.ofBool (p || q) := by
  cases p <;> cases q <;> rfl
theorem xor_ofBool (p : Bool) : BitVec.ofBool p ^^^ 1#1 = BitVec.ofBool (!p) := by
  cases p <;> rfl
theorem not_ofBool (p : Bool) : ~~~ BitVec.ofBool p = BitVec.ofBool (!p) := by
  cases p <;> rfl

theorem select_at {α : Type} {s : Shape} (c : IVec s 1) (x y : s.Idx → α) (i : s.Idx) :
    select c x y i = Scalar.select (c i) (x i) (y i) := rfl
theorem broadcast_at {α : Type} (s : Shape) (x : α) (i : s.Idx) : broadcast s x i = x := rfl
theorem cmpf_at {s : Shape} {φ : FTy} (p : CmpFPredicate) (x y : FVec Ideal s φ) (i : s.Idx) :
    cmpf p x y i = Ideal.cmp p (x i) (y i) := rfl
theorem absf_at {s : Shape} {φ : FTy} (x : FVec Ideal s φ) (i : s.Idx) :
    absf x i = max (x i : EReal) (-(x i : EReal)) := rfl
theorem andi_at {s : Shape} (x y : IVec s 1) (i : s.Idx) : andi x y i = x i &&& y i := rfl
theorem ori_at {s : Shape} (x y : IVec s 1) (i : s.Idx) : ori x y i = x i ||| y i := rfl
theorem xori_at {s : Shape} (x y : IVec s 1) (i : s.Idx) : xori x y i = x i ^^^ y i := rfl

theorem floor_coe : Ideal.liftRound Int.floor (a : EReal) = ((⌊a⌋ : ℝ) : EReal) := rfl

end Cert.Consts

end
-- ==== Proof.March.lean ====
/-
  The kernel body's march, one ray at a time: the seven vectors a part of the body hands to the next hold, at an index,
  the reals of the march there (`Mid`), and every part carries that two steps on.
-/
module

public import proofs.«01_k».proof.Proof.Gen.KernelIdeal.Frame
public import proofs.«01_k».proof.Proof.Ray
public import proofs.«01_k».proof.Proof.Consts

@[expose] public section

noncomputable section

open Idealize.ShloMosaic Idealize.SL.Sem

namespace Cert.KernelIdeal.March

open Cert.KernelIdeal Cert.KernelIdeal.Gen Cert.Ray Cert.Consts

abbrev V := FVec Ideal S16x1024 .f32
abbrev M := IVec S16x1024 1

/-- Between two parts: the distance and the mask of state `n`, the length gone and the point of state `n + 1`, and the
    two squares of that point that are already added. -/
structure Mid (l : Line) (i : S16x1024.Idx) (n : ℕ) (cur : V) (unf : M) (acc x y z xz : V) : Prop where
  hcur : cur i = (((march thr l n).cur : ℝ) : EReal)
  hunf : unf i = BitVec.ofBool (march thr l n).unf
  hacc : acc i = (((march thr l (n + 1)).acc : ℝ) : EReal)
  hx : x i = (((march thr l (n + 1)).x : ℝ) : EReal)
  hy : y i = (((march thr l (n + 1)).y : ℝ) : EReal)
  hz : z i = (((march thr l (n + 1)).z : ℝ) : EReal)
  hxz : xz i = (((march thr l (n + 1)).x * (march thr l (n + 1)).x + (march thr l (n + 1)).z * (march thr l (n + 1)).z : ℝ) : EReal)

theorem sdf_swap (x y z : ℝ) : √(x * x + z * z + y * y) - 1 = sdf x y z := by
  unfold sdf; congr 2; ring

theorem sq3 (x y z : ℝ) : 0 ≤ x * x + z * z + y * y := by
  have := sq_nonneg3 x y z; linarith

theorem march_succ (l : Line) (n : ℕ) : march thr l (n + 1) = step thr l (march thr l n) := rfl

section
variable {l : Line} {i : S16x1024.Idx} {n : ℕ} {dx dy dz cur acc x y z xz : V} {unf : M}

theorem p15 (h : Mid l i n cur unf acc x y z xz) :
    k0_pay15 cur unf y xz i = (((march thr l (n + 1)).cur : ℝ) : EReal) := by
  unfold k0_pay15
  simp only [select_at, subf_apply, mulf_apply, addf_apply, rsqrt_apply, broadcast_at, Ideal.subf_def, Ideal.mulf_def,
    Ideal.addf_def, Ideal.rsqrt_def, Ideal.ofBits_def, ofBits_one, h.hcur, h.hunf, h.hy, h.hxz, mul_coe, add_coe]
  rw [mul_rsqrt_coe _ (sq3 _ _ _), sub_coe, select_coe, sdf_swap]
  rfl

theorem p16 (h : Mid l i n cur unf acc x y z xz) :
    k0_pay16 cur unf acc y xz i = BitVec.ofBool (march thr l (n + 1)).unf := by
  unfold k0_pay16
  simp only [andi_at, cmpf_at, absf_at, broadcast_at, Ideal.ofBits_def, ofBits_thr, ofBits_six, p15 h, h.hunf, h.hacc,
    abs_coe, ogt_coe, olt_coe, and_ofBool]
  rfl

theorem p17 (h : Mid l i n cur unf acc x y z xz) :
    k0_pay17 cur unf acc y xz i =
      (((if (march thr l (n + 1)).unf then (march thr l (n + 1)).cur else 0 : ℝ)) : EReal) := by
  unfold k0_pay17
  simp only [select_at, broadcast_at, Ideal.ofBits_def, ofBits_zero, p15 h, p16 h, select_coe]

theorem p18 (h : Mid l i n cur unf acc x y z xz) :
    k0_pay18 cur unf acc y xz i = (((march thr l (n + 2)).acc : ℝ) : EReal) := by
  unfold k0_pay18
  simp only [addf_apply, Ideal.addf_def, p17 h, h.hacc, add_coe]
  rfl

theorem p19 (hd : dx i = ((l.dx : ℝ) : EReal)) (h : Mid l i n cur unf acc x y z xz) :
    k0_pay19 dx cur unf acc x y xz i = (((march thr l (n + 2)).x : ℝ) : EReal) := by
  unfold k0_pay19
  simp only [addf_apply, Ideal.addf_def, mulf_apply, Ideal.mulf_def, p17 h, hd, h.hx, mul_coe, add_coe]
  rfl

theorem p20 (hd : dy i = ((l.dy : ℝ) : EReal)) (h : Mid l i n cur unf acc x y z xz) :
    k0_pay20 dy cur unf acc y xz i = (((march thr l (n + 2)).y : ℝ) : EReal) := by
  unfold k0_pay20
  simp only [addf_apply, Ideal.addf_def, mulf_apply, Ideal.mulf_def, p17 h, hd, h.hy, mul_coe, add_coe]
  rfl

theorem p21 (hd : dz i = ((l.dz : ℝ) : EReal)) (h : Mid l i n cur unf acc x y z xz) :
    k0_pay21 dz cur unf acc y z xz i = (((march thr l (n + 2)).z : ℝ) : EReal) := by
  unfold k0_pay21
  simp only [addf_apply, Ideal.addf_def, mulf_apply, Ideal.mulf_def, p17 h, hd, h.hz, mul_coe, add_coe]
  rfl

theorem p22 (hx : dx i = ((l.dx : ℝ) : EReal)) (hy : dy i = ((l.dy : ℝ) : EReal)) (hz : dz i = ((l.dz : ℝ) : EReal))
    (h : Mid l i n cur unf acc x y z xz) :
    k0_pay22 dx dy dz cur unf acc x y z xz i = (((march thr l (n + 2)).cur : ℝ) : EReal) := by
  unfold k0_pay22
  simp only [select_at, subf_apply, mulf_apply, addf_apply, rsqrt_apply, broadcast_at, Ideal.subf_def, Ideal.mulf_def,
    Ideal.addf_def, Ideal.rsqrt_def, Ideal.ofBits_def, ofBits_one, p15 h, p16 h, p19 hx h, p20 hy h, p21 hz h, mul_coe,
    add_coe]
  rw [mul_rsqrt_coe _ (sq3 _ _ _), sub_coe, select_coe, sdf_swap]
  rfl

theorem p23 (hx : dx i = ((l.dx : ℝ) : EReal)) (hy : dy i = ((l.dy : ℝ) : EReal)) (hz : dz i = ((l.dz : ℝ) : EReal))
    (h : Mid l i n cur unf acc x y z xz) :
    k0_pay23 dx dy dz cur unf acc x y z xz i = BitVec.ofBool (march thr l (n + 2)).unf := by
  unfold k0_pay23
  simp only [andi_at, cmpf_at, absf_at, broadcast_at, Ideal.ofBits_def, ofBits_thr, ofBits_six, p22 hx hy hz h, p16 h,
    p18 h, abs_coe, ogt_coe, olt_coe, and_ofBool]
  rfl

theorem p24 (hx : dx i = ((l.dx : ℝ) : EReal)) (hy : dy i = ((l.dy : ℝ) : EReal)) (hz : dz i = ((l.dz : ℝ) : EReal))
    (h : Mid l i n cur unf acc x y z xz) :
    k0_pay24 dx dy dz cur unf acc x y z xz i =
      (((if (march thr l (n + 2)).unf then (march thr l (n + 2)).cur else 0 : ℝ)) : EReal) := by
  unfold k0_pay24
  simp only [select_at, broadcast_at, Ideal.ofBits_def, ofBits_zero, p22 hx hy hz h, p23 hx hy hz h, select_coe]

/-- One part of the body is two steps of the march. -/
theorem mid_part (hx : dx i = ((l.dx : ℝ) : EReal)) (hy : dy i = ((l.dy : ℝ) : EReal)) (hz : dz i = ((l.dz : ℝ) : EReal))
    (h : Mid l i n cur unf acc x y z xz) :
    Mid l i (n + 2) (k0_pay22 dx dy dz cur unf acc x y z xz) (k0_pay23 dx dy dz cur unf acc x y z xz)
      (k0_pay25 dx dy dz cur unf acc x y z xz) (k0_pay26 dx dy dz cur unf acc x y z xz)
      (k0_pay27 dx dy dz cur unf acc x y z xz) (k0_pay28 dx dy dz cur unf acc x y z xz)
      (k0_pay29 dx dy dz cur unf acc x y z xz) := by
  have h26 : k0_pay26 dx dy dz cur unf acc x y z xz i = (((march thr l (n + 3)).x : ℝ) : EReal) := by
    unfold k0_pay26
    simp only [addf_apply, Ideal.addf_def, mulf_apply, Ideal.mulf_def, p24 hx hy hz h, p19 hx h, hx, mul_coe, add_coe]
    rfl
  have h28 : k0_pay28 dx dy dz cur unf acc x y z xz i = (((march thr l (n + 3)).z : ℝ) : EReal) := by
    unfold k0_pay28
    simp only [addf_apply, Ideal.addf_def, mulf_apply, Ideal.mulf_def, p24 hx hy hz h, p21 hz h, hz, mul_coe, add_coe]
    rfl
  refine ⟨p22 hx hy hz h, p23 hx hy hz h, ?_, h26, ?_, h28, ?_⟩
  · unfold k0_pay25
    simp only [addf_apply, Ideal.addf_def, p24 hx hy hz h, p18 h, add_coe]
    rfl
  · unfold k0_pay27
    simp only [addf_apply, Ideal.addf_def, mulf_apply, Ideal.mulf_def, p24 hx hy hz h, p20 hy h, hy, mul_coe, add_coe]
    rfl
  · unfold k0_pay29
    simp only [addf_apply, Ideal.addf_def, mulf_apply, Ideal.mulf_def, h26, h28, mul_coe, add_coe]

end

/-! The later parts print the same operations under other names. -/

theorem mid_part3 {l : Line} {i : S16x1024.Idx} {n : ℕ} {dx dy dz cur acc x y z xz : V} {unf : M}
    (hx : dx i = ((l.dx : ℝ) : EReal)) (hy : dy i = ((l.dy : ℝ) : EReal)) (hz : dz i = ((l.dz : ℝ) : EReal))
    (h : Mid l i n cur unf acc x y z xz) :
    Mid l i (n + 2) (k0_pay37 dx dy dz cur unf acc x y z xz) (k0_pay38 dx dy dz cur unf acc x y z xz)
      (k0_pay40 dx dy dz cur unf acc x y z xz) (k0_pay41 dx dy dz cur unf acc x y z xz)
      (k0_pay42 dx dy dz cur unf acc x y z xz) (k0_pay43 dx dy dz cur unf acc x y z xz)
      (k0_pay44 dx dy dz cur unf acc x y z xz) := mid_part hx hy hz h

end Cert.KernelIdeal.March

end
-- ==== Proof.Tail.lean ====
/-
  The kernel body after the march: the closed-form search for the first sample inside the sphere, and what is kept of
  each ray. Everything is read at one index, where the vectors hold reals.
-/
module

public import proofs.«01_k».proof.Proof.March

@[expose] public section

noncomputable section

open Idealize.ShloMosaic Idealize.SL.Sem

namespace Cert.Ray

/-- The gap between two samples: the 128 samples cut `[lo, hi]` in 127. -/
def State.gap (s : State) : ℝ := (s.hi - s.lo) * 127⁻¹

/-- The root of the ray's quadratic at which the sphere is entered. -/
def Line.enter (l : Line) : ℝ := Cert.Ray.enter l.a l.b l.c

/-- The closed-form search finds a sample inside the sphere, not the very first. -/
def Found (l : Line) (s : State) : Prop :=
  0 < disc l.a l.b l.c ∧ s.lo + first l.enter s.lo s.gap * s.gap < leave l.a l.b l.c ∧
    first l.enter s.lo s.gap ≤ 127 ∧ 1 ≤ first l.enter s.lo s.gap

end Cert.Ray

namespace Cert.KernelIdeal.March

open Cert.KernelIdeal Cert.KernelIdeal.Gen Cert.Ray Cert.Consts

/-- The six rows of a block hold, at the index, the ray `l`. -/
structure Rows (l : Line) (i : S16x1024.Idx) (v1 v3 v5 v7 v9 v11 : V) : Prop where
  ox : v1 i = ((l.ox : ℝ) : EReal)
  oy : v3 i = ((l.oy : ℝ) : EReal)
  oz : v5 i = ((l.oz : ℝ) : EReal)
  dx : v7 i = ((l.dx : ℝ) : EReal)
  dy : v9 i = ((l.dy : ℝ) : EReal)
  dz : v11 i = ((l.dz : ℝ) : EReal)

theorem inv127_eq :
    (Named.named κ "inv127" (0x3C010204#32 : BitVec (FTy.bits .f32)) : Ideal .f32) = (((127 : ℝ)⁻¹ : ℝ) : EReal) :=
  IdealRules.named_const.ideal_named_scalar _ _ _ _ rfl

theorem false_and (x : BitVec 1) : BitVec.ofBool false &&& x = BitVec.ofBool false := by
  revert x; decide

section
variable {l : Line} {s : State} {i : S16x1024.Idx} {v1 v3 v5 v7 v9 v11 v417 v433 : V}

theorem q135 (ha : v417 i = ((s.acc : ℝ) : EReal)) (hc : v433 i = ((s.cur : ℝ) : EReal)) :
    k0_pay135 v417 v433 i = ((s.lo : ℝ) : EReal) := by
  unfold k0_pay135 k0_pay134
  simp only [select_at, cmpf_at, broadcast_at, Ideal.ofBits_def, ofBits_zero, ha, hc, ogt_coe, select_coe,
    decide_eq_true_eq]
  rfl

theorem q136 (ha : v417 i = ((s.acc : ℝ) : EReal)) (hc : v433 i = ((s.cur : ℝ) : EReal)) :
    k0_pay136 v417 v433 i = ((s.hi - s.lo : ℝ) : EReal) := by
  unfold k0_pay136 k0_pay134
  simp only [subf_apply, Ideal.subf_def, q135 ha hc, select_at, cmpf_at, broadcast_at, Ideal.ofBits_def, ofBits_zero,
    ofBits_six, ha, hc, ogt_coe, select_coe, decide_eq_true_eq, sub_coe]
  rfl

theorem q132 (h : Rows l i v1 v3 v5 v7 v9 v11) :
    k0_pay132 v1 v3 v5 v7 v9 v11 i = ((l.b : ℝ) : EReal) := by
  unfold k0_pay132
  simp only [mulf_apply, addf_apply, broadcast_at, Ideal.mulf_def, Ideal.addf_def, Ideal.ofBits_def, ofBits_two, h.ox,
    h.oy, h.oz, h.dx, h.dy, h.dz, mul_coe, add_coe]
  rfl

theorem q133 (h : Rows l i v1 v3 v5 v7 v9 v11) : k0_pay133 v7 v9 v11 i = ((l.a : ℝ) : EReal) := by
  unfold k0_pay133
  simp only [mulf_apply, addf_apply, Ideal.mulf_def, Ideal.addf_def, h.dx, h.dy, h.dz, mul_coe, add_coe]
  rfl

theorem q137 (h : Rows l i v1 v3 v5 v7 v9 v11) :
    k0_pay137 v1 v3 v5 v7 v9 v11 (k0_pay130 v1) (k0_pay131 v3) i = ((disc l.a l.b l.c : ℝ) : EReal) := by
  unfold k0_pay137 k0_pay130 k0_pay131
  simp only [mulf_apply, addf_apply, subf_apply, broadcast_at, Ideal.mulf_def, Ideal.addf_def, Ideal.subf_def,
    Ideal.ofBits_def, ofBits_four, ofBits_one, h.ox, h.oy, h.oz, q132 h, q133 h, mul_coe, add_coe, sub_coe]
  rfl

theorem q138 (h : Rows l i v1 v3 v5 v7 v9 v11) :
    k0_pay138 v1 v3 v5 v7 v9 v11 (k0_pay130 v1) (k0_pay131 v3) i = ((√(max (disc l.a l.b l.c) 0) : ℝ) : EReal) := by
  unfold k0_pay138
  simp only [sqrt_apply, maximumf_apply, broadcast_at, Ideal.sqrt_def, Ideal.maximumf_def, Ideal.ofBits_def, ofBits_zero,
    q137 h, max_coe]
  exact sqrt_coe _ (le_max_right _ _)

theorem q139 (h : Rows l i v1 v3 v5 v7 v9 v11) (ha : l.a ≠ 0) :
    k0_pay139 v7 v9 v11 i = ((1 / 2 / l.a : ℝ) : EReal) := by
  unfold k0_pay139
  simp only [divf_apply, broadcast_at, Ideal.divf_def, Ideal.ofBits_def, ofBits_half, q133 h]
  rw [div_coe _ _ ha]
  congr 1; ring

theorem q140 (h : Rows l i v1 v3 v5 v7 v9 v11) (ha : l.a ≠ 0) :
    k0_pay140 v1 v3 v5 v7 v9 v11 (k0_pay130 v1) (k0_pay131 v3) i = ((l.enter : ℝ) : EReal) := by
  unfold k0_pay140
  simp only [mulf_apply, subf_apply, broadcast_at, Ideal.mulf_def, Ideal.subf_def, Ideal.ofBits_def, ofBits_zero, q132 h,
    q138 h, q139 h ha, sub_coe, mul_coe]
  unfold Line.enter Cert.Ray.enter
  congr 1; ring

theorem q141 (h : Rows l i v1 v3 v5 v7 v9 v11) (ha : l.a ≠ 0) :
    k0_pay141 v1 v3 v5 v7 v9 v11 (k0_pay130 v1) (k0_pay131 v3) i = ((leave l.a l.b l.c : ℝ) : EReal) := by
  unfold k0_pay141
  simp only [mulf_apply, subf_apply, addf_apply, broadcast_at, Ideal.mulf_def, Ideal.subf_def, Ideal.addf_def,
    Ideal.ofBits_def, ofBits_zero, q132 h, q138 h, q139 h ha, sub_coe, mul_coe, add_coe]
  unfold leave
  congr 1; ring

theorem q142 (h : Rows l i v1 v3 v5 v7 v9 v11) (ha : l.a ≠ 0) (hacc : v417 i = ((s.acc : ℝ) : EReal))
    (hcur : v433 i = ((s.cur : ℝ) : EReal)) (hg : 0 < s.gap) :
    k0_pay142 v1 v3 v5 v7 v9 v11 v417 v433 (k0_pay130 v1) (k0_pay131 v3) i =
      (((⌊(l.enter - s.lo) / s.gap⌋ : ℝ)) : EReal) := by
  unfold k0_pay142
  simp only [floor_apply, divf_apply, mulf_apply, subf_apply, broadcast_at, inv127_eq, Ideal.mulf_def, Ideal.subf_def,
    Ideal.divf_def, Ideal.floor_def, q140 h ha, q135 hacc hcur, q136 hacc hcur, sub_coe, mul_coe]
  rw [show (s.hi - s.lo) * 127⁻¹ = s.gap from rfl, div_coe _ _ hg.ne', floor_coe, mul_one_div]

/-- The search's verdict. -/
theorem q144 (h : Rows l i v1 v3 v5 v7 v9 v11) (hacc : v417 i = ((s.acc : ℝ) : EReal))
    (hcur : v433 i = ((s.cur : ℝ) : EReal)) (hg : 0 < s.gap) [Decidable (Found l s)] :
    k0_pay144 (k0_pay135 v417 v433) (k0_pay136 v417 v433)
        (k0_pay137 v1 v3 v5 v7 v9 v11 (k0_pay130 v1) (k0_pay131 v3))
        (k0_pay140 v1 v3 v5 v7 v9 v11 (k0_pay130 v1) (k0_pay131 v3))
        (k0_pay141 v1 v3 v5 v7 v9 v11 (k0_pay130 v1) (k0_pay131 v3))
        (k0_pay142 v1 v3 v5 v7 v9 v11 v417 v433 (k0_pay130 v1) (k0_pay131 v3)) k0_pay143 i =
      BitVec.ofBool (decide (Found l s)) := by
  by_cases hd : 0 < disc l.a l.b l.c
  · have ha : l.a ≠ 0 := (pos_of_disc l.a_nonneg l.b_zero hd).ne'
    have e1 : ∀ j : ℝ, s.lo + j * 127⁻¹ * (s.hi - s.lo) = s.lo + j * s.gap := fun j => by unfold State.gap; ring
    have e2 : max (((⌊(l.enter - s.lo) / s.gap⌋ : ℝ)) + 1) 0 = first l.enter s.lo s.gap := rfl
    have e3 : decide (s.lo + first l.enter s.lo s.gap * s.gap ≤ l.enter) = false :=
      decide_eq_false (not_le.2 (lt_first _ _ hg))
    unfold k0_pay144 k0_pay143
    simp only [andi_at, cmpf_at, select_at, maximumf_apply, mulf_apply, addf_apply, inv127_eq, broadcast_at,
      Ideal.mulf_def, Ideal.addf_def, Ideal.maximumf_def, Ideal.ofBits_def, ofBits_zero, ofBits_one, ofBits_127,
      q135 hacc hcur, q136 hacc hcur, q137 h, q140 h ha, q141 h ha, q142 h ha hacc hcur hg, mul_coe, add_coe,
      max_coe, ole_coe, select_coe, ogt_coe, olt_coe, oge_coe, and_ofBool, e1, e2, e3, Bool.false_eq_true, if_false]
    congr 1
    rw [Bool.eq_iff_iff, decide_eq_true_iff]
    simp only [Bool.and_eq_true, decide_eq_true_eq, and_assoc]
    rfl
  · have hf : ¬ Found l s := fun hF => hd hF.1
    unfold k0_pay144
    simp only [andi_at, cmpf_at, broadcast_at, Ideal.ofBits_def, ofBits_zero, q137 h, ogt_coe]
    rw [decide_eq_false hd, decide_eq_false hf, false_and, false_and, false_and]

end

/-! What is kept of a ray. -/

/-- A kept value: the bisected one where the march went on and the search found, zero where it did not find, and the
    traced one elsewhere. -/
def keep (l : Line) (s : State) (e x : ℝ) : ℝ := open Classical in if s.unf then if Found l s then e else 0 else x

/-- Whether a ray has converged: found by the search where the march went on, close and near elsewhere. -/
def conv (l : Line) (s : State) : Bool :=
  open Classical in if s.unf then decide (Found l s) else decide (|s.cur| ≤ thr) && decide (s.acc < 6)

theorem kept {l : Line} {s : State} {i : S16x1024.Idx} {v440 v524 : M} {v e : V} {E X : ℝ}
    (hu : v440 i = BitVec.ofBool s.unf)
    (hf : s.unf = true → v524 i = open Classical in BitVec.ofBool (decide (Found l s)))
    (he : s.unf = true → Found l s → e i = ((E : ℝ) : EReal)) (hv : v i = ((X : ℝ) : EReal)) :
    select v440 (select v524 e (broadcast S16x1024 (Scalar.ofBits .f32 0x00000000#32 : Ideal .f32))) v i =
      ((keep l s E X : ℝ) : EReal) := by
  classical
  unfold keep
  rw [select_at, hu, select_ofBool]
  cases h : s.unf
  · simpa using hv
  · simp only [if_true]
    rw [select_at, hf h, select_ofBool]
    by_cases hF : Found l s
    · simpa [hF] using he h hF
    · simp only [hF, decide_false, if_false, Bool.false_eq_true]
      exact ofBits_zero

/-- The first of the words a part hands on. -/
theorem sdf0 {l : Line} {i : S16x1024.Idx} {v1 v3 v5 v7 v9 v11 : V} (h : Rows l i v1 v3 v5 v7 v9 v11) :
    subf (mulf (addf (addf (mulf v1 v1) (mulf v5 v5)) (mulf v3 v3))
        (rsqrt (addf (addf (mulf v1 v1) (mulf v5 v5)) (mulf v3 v3))))
      (broadcast S16x1024 (Scalar.ofBits .f32 0x3F800000#32 : Ideal .f32)) i =
      (((march thr l 0).cur : ℝ) : EReal) := by
  simp only [subf_apply, mulf_apply, addf_apply, rsqrt_apply, broadcast_at, Ideal.subf_def, Ideal.mulf_def,
    Ideal.addf_def, Ideal.rsqrt_def, Ideal.ofBits_def, ofBits_one, h.ox, h.oy, h.oz, mul_coe, add_coe]
  rw [mul_rsqrt_coe _ (sq3 _ _ _), sub_coe, sdf_swap]
  rfl

theorem unf0 {l : Line} {i : S16x1024.Idx} {v21 : V} (h : v21 i = (((march thr l 0).cur : ℝ) : EReal)) :
    cmpf .ogt (absf v21) (broadcast S16x1024 (Scalar.ofBits .f32 0x3851B717#32 : Ideal .f32)) i =
      BitVec.ofBool (march thr l 0).unf := by
  simp only [cmpf_at, absf_at, broadcast_at, Ideal.ofBits_def, ofBits_thr, h, abs_coe, ogt_coe]
  rfl

theorem st0 {l : Line} {i : S16x1024.Idx} {v21 : V} {v24 : M} (h : v21 i = (((march thr l 0).cur : ℝ) : EReal))
    (hu : v24 i = BitVec.ofBool (march thr l 0).unf) :
    select v24 v21 (broadcast S16x1024 (Scalar.ofBits .f32 0x00000000#32 : Ideal .f32)) i =
      ((if (march thr l 0).unf then (march thr l 0).cur else 0 : ℝ) : EReal) := by
  simp only [select_at, broadcast_at, Ideal.ofBits_def, ofBits_zero, h, hu, select_coe]

theorem acc1 {l : Line} {i : S16x1024.Idx} {v26 : V}
    (h : v26 i = ((if (march thr l 0).unf then (march thr l 0).cur else 0 : ℝ) : EReal)) :
    addf (broadcast S16x1024 (Scalar.ofBits .f32 0x00000000#32 : Ideal .f32)) v26 i =
      (((march thr l 1).acc : ℝ) : EReal) := by
  simp only [addf_apply, Ideal.addf_def, broadcast_at, Ideal.ofBits_def, ofBits_zero, h, add_coe]
  rfl

theorem pt1 {i : S16x1024.Idx} {v1 v7 v26 : V} {o d t : ℝ} (ho : v1 i = ((o : ℝ) : EReal))
    (hd : v7 i = ((d : ℝ) : EReal)) (ht : v26 i = ((t : ℝ) : EReal)) :
    addf v1 (mulf v7 v26) i = ((o + d * t : ℝ) : EReal) := by
  simp only [addf_apply, Ideal.addf_def, mulf_apply, Ideal.mulf_def, ho, hd, ht, mul_coe, add_coe]

theorem sq2 {i : S16x1024.Idx} {v29 v33 : V} {x z : ℝ} (hx : v29 i = ((x : ℝ) : EReal)) (hz : v33 i = ((z : ℝ) : EReal)) :
    addf (mulf v29 v29) (mulf v33 v33) i = ((x * x + z * z : ℝ) : EReal) := by
  simp only [addf_apply, Ideal.addf_def, mulf_apply, Ideal.mulf_def, hx, hz, mul_coe, add_coe]

/-- The distance at a point, as the body forms it. -/
theorem sdf_at {i : S16x1024.Idx} {u v w : V} {x y z : ℝ} (hx : u i = ((x : ℝ) : EReal)) (hy : v i = ((y : ℝ) : EReal))
    (hz : w i = ((z : ℝ) : EReal)) :
    subf (mulf (addf (addf (mulf u u) (mulf w w)) (mulf v v)) (rsqrt (addf (addf (mulf u u) (mulf w w)) (mulf v v))))
      (broadcast S16x1024 (Scalar.ofBits .f32 0x3F800000#32 : Ideal .f32)) i = ((sdf x y z : ℝ) : EReal) := by
  simp only [subf_apply, mulf_apply, addf_apply, rsqrt_apply, broadcast_at, Ideal.subf_def, Ideal.mulf_def,
    Ideal.addf_def, Ideal.rsqrt_def, Ideal.ofBits_def, ofBits_one, hx, hy, hz, mul_coe, add_coe]
  rw [mul_rsqrt_coe _ (sq3 _ _ _), sub_coe, sdf_swap]

/-- The last test of the march's own convergence. -/
theorem q129 {i : S16x1024.Idx} {u : Bool} {v440 : M} {v433 v417 : V} {cur acc : ℝ} (hu : v440 i = BitVec.ofBool u)
    (hc : v433 i = ((cur : ℝ) : EReal)) (ha : v417 i = ((acc : ℝ) : EReal)) :
    andi (andi (xori v440 (constantI S16x1024 1 1#1))
      (cmpf .ole (absf v433) (broadcast S16x1024 (Scalar.ofBits .f32 0x3851B717#32 : Ideal .f32))))
      (cmpf .olt v417 (broadcast S16x1024 (Scalar.ofBits .f32 0x40C00000#32 : Ideal .f32))) i =
      BitVec.ofBool (!u && decide (|cur| ≤ thr) && decide (acc < 6)) := by
  simp only [andi_at, xori_at, cmpf_at, absf_at, broadcast_at, Ideal.ofBits_def, ofBits_thr, ofBits_six, hu, hc, ha,
    abs_coe, ole_coe, olt_coe, show constantI S16x1024 1 1#1 i = 1#1 from rfl, xor_ofBool, and_ofBool]

/-- The bit of a converged ray. -/
theorem q543 {l : Line} {s : State} {i : S16x1024.Idx} {v440 v448 v524 : M} (hu : v440 i = BitVec.ofBool s.unf)
    (hf : s.unf = true → v524 i = open Classical in BitVec.ofBool (decide (Found l s)))
    (hc : v448 i = BitVec.ofBool (!s.unf && decide (|s.cur| ≤ thr) && decide (s.acc < 6))) :
    ori (andi v440 v524) (andi (xori v440 (constantI S16x1024 1 1#1)) v448) i = BitVec.ofBool (conv l s) := by
  classical
  unfold conv
  simp only [ori_at, andi_at, xori_at, hu, hc, show constantI S16x1024 1 1#1 i = 1#1 from rfl, xor_ofBool, and_ofBool]
  cases h : s.unf
  · simp only [false_and, or_ofBool]; rfl
  · rw [hf h]; simp only [and_ofBool, or_ofBool]; simp

end Cert.KernelIdeal.March

end
-- ==== Proof.Body.lean ====
/-
  The words of the kernel body, read at one index of a block for the ray the six rows hold there.
-/
module

public import proofs.«01_k».proof.Proof.Tail

@[expose] public section

noncomputable section

open Idealize.ShloMosaic Idealize.SL.Sem

namespace Cert.KernelIdeal.Body

open Cert.KernelIdeal Cert.KernelIdeal.Gen Cert.Ray Cert.Consts Cert.KernelIdeal.March

variable (c : Dev nD) (arg1 : Memref sig Kind.tc Space.vmem S3x16x1024 EltTy.f32) (harg1 : arg1.IsWhole)
  (arg2 : Memref sig Kind.tc Space.vmem S3x16x1024 EltTy.f32) (harg2 : arg2.IsWhole)
  (x0 x1 : Vec Ideal S3x16x1024 EltTy.f32)

/-- The rows of the two blocks hold the ray `l` at `i`. -/
abbrev At (l : Line) (i : S16x1024.Idx) : Prop :=
  Rows l i (kernelRun0_A.sl.v1 c arg1 harg1 x0) (kernelRun0_A.sl.v3 c arg1 harg1 x0) (kernelRun0_A.sl.v5 c arg1 harg1 x0)
    (kernelRun0_A.sl.v7 c arg2 harg2 x1) (kernelRun0_A.sl.v9 c arg2 harg2 x1) (kernelRun0_A.sl.v11 c arg2 harg2 x1)

variable {c arg1 harg1 arg2 harg2 x0 x1} {l : Line} {i : S16x1024.Idx}

theorem mid0 (h : At c arg1 harg1 arg2 harg2 x0 x1 l i) :
    Mid l i 0 (kernelRun0_A.sl.v21 c arg1 harg1 x0) (kernelRun0_A.sl.v24 c arg1 harg1 x0)
      (kernelRun0_A.sl.v27 c arg1 harg1 x0) (kernelRun0_A.sl.v29 c arg1 harg1 arg2 harg2 x0 x1)
      (kernelRun0_A.sl.v31 c arg1 harg1 arg2 harg2 x0 x1) (kernelRun0_A.sl.v33 c arg1 harg1 arg2 harg2 x0 x1)
      (kernelRun0_A.sl.v36 c arg1 harg1 arg2 harg2 x0 x1) := by
  have h21 : kernelRun0_A.sl.v21 c arg1 harg1 x0 i = (((march thr l 0).cur : ℝ) : EReal) := sdf0 h
  have h24 : kernelRun0_A.sl.v24 c arg1 harg1 x0 i = BitVec.ofBool (march thr l 0).unf := unf0 h21
  have h26 : kernelRun0_A.sl.v26 c arg1 harg1 x0 i = _ := st0 h21 h24
  have h29 : kernelRun0_A.sl.v29 c arg1 harg1 arg2 harg2 x0 x1 i = (((march thr l 1).x : ℝ) : EReal) :=
    pt1 h.ox h.dx h26
  have h31 : kernelRun0_A.sl.v31 c arg1 harg1 arg2 harg2 x0 x1 i = (((march thr l 1).y : ℝ) : EReal) :=
    pt1 h.oy h.dy h26
  have h33 : kernelRun0_A.sl.v33 c arg1 harg1 arg2 harg2 x0 x1 i = (((march thr l 1).z : ℝ) : EReal) :=
    pt1 h.oz h.dz h26
  exact ⟨h21, h24, acc1 h26, h29, h31, h33, sq2 h29 h33⟩

theorem mid2 (h : At c arg1 harg1 arg2 harg2 x0 x1 l i) :
    Mid l i 2 (kernelRun0_A.sl.v69 c arg1 harg1 arg2 harg2 x0 x1) (kernelRun0_A.sl.v76 c arg1 harg1 arg2 harg2 x0 x1)
      (kernelRun0_A.sl.v79 c arg1 harg1 arg2 harg2 x0 x1) (kernelRun0_A.sl.v81 c arg1 harg1 arg2 harg2 x0 x1)
      (kernelRun0_A.sl.v83 c arg1 harg1 arg2 harg2 x0 x1) (kernelRun0_A.sl.v85 c arg1 harg1 arg2 harg2 x0 x1)
      (kernelRun0_A.sl.v88 c arg1 harg1 arg2 harg2 x0 x1) := mid_part h.dx h.dy h.dz (mid0 h)

theorem mid4 (h : At c arg1 harg1 arg2 harg2 x0 x1 l i) :
    Mid l i 4 (kernelRun0_A.sl.v121 c arg1 harg1 arg2 harg2 x0 x1) (kernelRun0_A.sl.v128 c arg1 harg1 arg2 harg2 x0 x1)
      (kernelRun0_A.sl.v131 c arg1 harg1 arg2 harg2 x0 x1) (kernelRun0_A.sl.v133 c arg1 harg1 arg2 harg2 x0 x1)
      (kernelRun0_A.sl.v135 c arg1 harg1 arg2 harg2 x0 x1) (kernelRun0_A.sl.v137 c arg1 harg1 arg2 harg2 x0 x1)
      (kernelRun0_A.sl.v140 c arg1 harg1 arg2 harg2 x0 x1) := mid_part h.dx h.dy h.dz (mid2 h)

theorem mid6 (h : At c arg1 harg1 arg2 harg2 x0 x1 l i) :
    Mid l i 6 (kernelRun0_A.sl.v173 c arg1 harg1 arg2 harg2 x0 x1) (kernelRun0_A.sl.v180 c arg1 harg1 arg2 harg2 x0 x1)
      (kernelRun0_A.sl.v183 c arg1 harg1 arg2 harg2 x0 x1) (kernelRun0_A.sl.v185 c arg1 harg1 arg2 harg2 x0 x1)
      (kernelRun0_A.sl.v187 c arg1 harg1 arg2 harg2 x0 x1) (kernelRun0_A.sl.v189 c arg1 harg1 arg2 harg2 x0 x1)
      (kernelRun0_A.sl.v192 c arg1 harg1 arg2 harg2 x0 x1) := mid_part h.dx h.dy h.dz (mid4 h)

theorem mid8 (h : At c arg1 harg1 arg2 harg2 x0 x1 l i) :
    Mid l i 8 (kernelRun0_A.sl.v225 c arg1 harg1 arg2 harg2 x0 x1) (kernelRun0_A.sl.v232 c arg1 harg1 arg2 harg2 x0 x1)
      (kernelRun0_A.sl.v235 c arg1 harg1 arg2 harg2 x0 x1) (kernelRun0_A.sl.v237 c arg1 harg1 arg2 harg2 x0 x1)
      (kernelRun0_A.sl.v239 c arg1 harg1 arg2 harg2 x0 x1) (kernelRun0_A.sl.v241 c arg1 harg1 arg2 harg2 x0 x1)
      (kernelRun0_A.sl.v244 c arg1 harg1 arg2 harg2 x0 x1) := mid_part h.dx h.dy h.dz (mid6 h)

theorem mid10 (h : At c arg1 harg1 arg2 harg2 x0 x1 l i) :
    Mid l i 10 (kernelRun0_A.sl.v277 c arg1 harg1 arg2 harg2 x0 x1) (kernelRun0_A.sl.v284 c arg1 harg1 arg2 harg2 x0 x1)
      (kernelRun0_A.sl.v287 c arg1 harg1 arg2 harg2 x0 x1) (kernelRun0_A.sl.v289 c arg1 harg1 arg2 harg2 x0 x1)
      (kernelRun0_A.sl.v291 c arg1 harg1 arg2 harg2 x0 x1) (kernelRun0_A.sl.v293 c arg1 harg1 arg2 harg2 x0 x1)
      (kernelRun0_A.sl.v296 c arg1 harg1 arg2 harg2 x0 x1) := mid_part h.dx h.dy h.dz (mid8 h)

theorem mid12 (h : At c arg1 harg1 arg2 harg2 x0 x1 l i) :
    Mid l i 12 (kernelRun0_A.sl.v329 c arg1 harg1 arg2 harg2 x0 x1) (kernelRun0_A.sl.v336 c arg1 harg1 arg2 harg2 x0 x1)
      (kernelRun0_A.sl.v339 c arg1 harg1 arg2 harg2 x0 x1) (kernelRun0_A.sl.v341 c arg1 harg1 arg2 harg2 x0 x1)
      (kernelRun0_A.sl.v343 c arg1 harg1 arg2 harg2 x0 x1) (kernelRun0_A.sl.v345 c arg1 harg1 arg2 harg2 x0 x1)
      (kernelRun0_A.sl.v348 c arg1 harg1 arg2 harg2 x0 x1) := mid_part h.dx h.dy h.dz (mid10 h)

theorem mid14 (h : At c arg1 harg1 arg2 harg2 x0 x1 l i) :
    Mid l i 14 (kernelRun0_A.sl.v381 c arg1 harg1 arg2 harg2 x0 x1) (kernelRun0_A.sl.v388 c arg1 harg1 arg2 harg2 x0 x1)
      (kernelRun0_A.sl.v391 c arg1 harg1 arg2 harg2 x0 x1) (kernelRun0_A.sl.v393 c arg1 harg1 arg2 harg2 x0 x1)
      (kernelRun0_A.sl.v395 c arg1 harg1 arg2 harg2 x0 x1) (kernelRun0_A.sl.v397 c arg1 harg1 arg2 harg2 x0 x1)
      (kernelRun0_A.sl.v400 c arg1 harg1 arg2 harg2 x0 x1) := mid_part h.dx h.dy h.dz (mid12 h)

/-- The march of a ray: sixteen steps. -/
abbrev fin (l : Line) : State := march thr l 16

theorem w417 (h : At c arg1 harg1 arg2 harg2 x0 x1 l i) :
    (kernelRun0_A.sl.v417 c arg1 harg1 arg2 harg2 x0 x1) i = (((fin l).acc : ℝ) : EReal) := p18 (mid14 h)

theorem w419 (h : At c arg1 harg1 arg2 harg2 x0 x1 l i) :
    (kernelRun0_A.sl.v419 c arg1 harg1 arg2 harg2 x0 x1) i = (((fin l).x : ℝ) : EReal) := p19 h.dx (mid14 h)

theorem w421 (h : At c arg1 harg1 arg2 harg2 x0 x1 l i) :
    (kernelRun0_A.sl.v421 c arg1 harg1 arg2 harg2 x0 x1) i = (((fin l).y : ℝ) : EReal) := p20 h.dy (mid14 h)

theorem w423 (h : At c arg1 harg1 arg2 harg2 x0 x1 l i) :
    (kernelRun0_A.sl.v423 c arg1 harg1 arg2 harg2 x0 x1) i = (((fin l).z : ℝ) : EReal) := p21 h.dz (mid14 h)

theorem w433 (h : At c arg1 harg1 arg2 harg2 x0 x1 l i) :
    (kernelRun0_A.sl.v433 c arg1 harg1 arg2 harg2 x0 x1) i = (((fin l).cur : ℝ) : EReal) := p22 h.dx h.dy h.dz (mid14 h)

theorem w440 (h : At c arg1 harg1 arg2 harg2 x0 x1 l i) :
    (kernelRun0_A.sl.v440 c arg1 harg1 arg2 harg2 x0 x1) i = BitVec.ofBool (fin l).unf := p23 h.dx h.dy h.dz (mid14 h)

theorem w448 (h : At c arg1 harg1 arg2 harg2 x0 x1 l i) :
    (kernelRun0_A.sl.v448 c arg1 harg1 arg2 harg2 x0 x1) i = BitVec.ofBool (!(fin l).unf && decide (|(fin l).cur| ≤ thr) && decide ((fin l).acc < 6)) := q129 (w440 h) (w433 h) (w417 h)

/-- Where the march went on there is room between its ends. -/
theorem gap_pos {l : Line} (hc : 0 ≤ l.c) (hu : (fin l).unf = true) : 0 < (fin l).gap :=
  mul_pos (sub_pos.2 ((good_march hc 16).lo_lt_hi thr_pos.le hc hu)) (by norm_num)

/-- The search's verdict, where the march went on. -/
theorem w524 (h : At c arg1 harg1 arg2 harg2 x0 x1 l i) (hc : 0 ≤ l.c) (hu : (fin l).unf = true) :
    kernelRun0_A.sl.r_6 c arg1 harg1 arg2 harg2 x0 x1 i = open Classical in BitVec.ofBool (decide (Found l (fin l))) := by
  classical
  exact q144 h (w417 h) (w433 h) (gap_pos hc hu)

/-- The entry. -/
theorem w488 (h : At c arg1 harg1 arg2 harg2 x0 x1 l i) (hF : Found l (fin l)) :
    kernelRun0_A.sl.r_3 c arg1 harg1 arg2 harg2 x0 x1 i = ((l.enter : ℝ) : EReal) :=
  q140 h (pos_of_disc l.a_nonneg l.b_zero hF.1).ne'

theorem w7 (h : At c arg1 harg1 arg2 harg2 x0 x1 l i) (hF : Found l (fin l)) :
    kernelRun0_A.sl.r_7 c arg1 harg1 arg2 harg2 x0 x1 i = ((l.ox + l.dx * l.enter : ℝ) : EReal) :=
  pt1 h.ox h.dx (w488 h hF)

theorem w8 (h : At c arg1 harg1 arg2 harg2 x0 x1 l i) (hF : Found l (fin l)) :
    kernelRun0_A.sl.r_8 c arg1 harg1 arg2 harg2 x0 x1 i = ((l.oy + l.dy * l.enter : ℝ) : EReal) :=
  pt1 h.oy h.dy (w488 h hF)

theorem w9 (h : At c arg1 harg1 arg2 harg2 x0 x1 l i) (hF : Found l (fin l)) :
    kernelRun0_A.sl.r_9 c arg1 harg1 arg2 harg2 x0 x1 i = ((l.oz + l.dz * l.enter : ℝ) : EReal) :=
  pt1 h.oz h.dz (w488 h hF)

/-- The distance at the entry. -/
theorem w539 (h : At c arg1 harg1 arg2 harg2 x0 x1 l i) (hF : Found l (fin l)) :
    kernelRun0_A.sl.r_10 c arg1 harg1 arg2 harg2 x0 x1 i =
      ((sdf (l.ox + l.dx * l.enter) (l.oy + l.dy * l.enter) (l.oz + l.dz * l.enter) : ℝ) : EReal) :=
  sdf_at (w7 h hF) (w8 h hF) (w9 h hF)

/-- The converged rays. -/
theorem out3 (h : At c arg1 harg1 arg2 harg2 x0 x1 l i) (hc : 0 ≤ l.c) :
    kernelRun0_A.sl.r_11 c arg1 harg1 arg2 harg2 x0 x1 i = (BitVec.ofBool (conv l (fin l))).zeroExtend 32 := by
  have := q543 (w440 h) (w524 h hc) (w448 h)
  rw [← this]
  rfl

/-- The length gone. -/
theorem out6 (h : At c arg1 harg1 arg2 harg2 x0 x1 l i) (hc : 0 ≤ l.c) :
    kernelRun0_A.sl.r_12 c arg1 harg1 arg2 harg2 x0 x1 i = ((keep l (fin l) l.enter (fin l).acc : ℝ) : EReal) :=
  kept (w440 h) (w524 h hc) (fun _ hF => w488 h hF) (w417 h)

/-- The distance left. -/
theorem out5 (h : At c arg1 harg1 arg2 harg2 x0 x1 l i) (hc : 0 ≤ l.c) :
    k0_pay153 (kernelRun0_A.sl.v433 c arg1 harg1 arg2 harg2 x0 x1) (kernelRun0_A.sl.v440 c arg1 harg1 arg2 harg2 x0 x1)
        (kernelRun0_A.sl.r_6 c arg1 harg1 arg2 harg2 x0 x1) (kernelRun0_A.sl.r_10 c arg1 harg1 arg2 harg2 x0 x1) i =
      ((keep l (fin l) (sdf (l.ox + l.dx * l.enter) (l.oy + l.dy * l.enter) (l.oz + l.dz * l.enter))
        (fin l).cur : ℝ) : EReal) :=
  kept (w440 h) (w524 h hc) (fun _ hF => w539 h hF) (w433 h)

theorem out4x (h : At c arg1 harg1 arg2 harg2 x0 x1 l i) (hc : 0 ≤ l.c) :
    select (kernelRun0_A.sl.v440 c arg1 harg1 arg2 harg2 x0 x1)
        (select (kernelRun0_A.sl.r_6 c arg1 harg1 arg2 harg2 x0 x1) (kernelRun0_A.sl.r_7 c arg1 harg1 arg2 harg2 x0 x1)
          (broadcast S16x1024 (Scalar.ofBits .f32 0x00000000#32 : Ideal .f32)))
        (kernelRun0_A.sl.v419 c arg1 harg1 arg2 harg2 x0 x1) i =
      ((keep l (fin l) (l.ox + l.dx * l.enter) (fin l).x : ℝ) : EReal) :=
  kept (w440 h) (w524 h hc) (fun _ hF => w7 h hF) (w419 h)

theorem out4y (h : At c arg1 harg1 arg2 harg2 x0 x1 l i) (hc : 0 ≤ l.c) :
    select (kernelRun0_A.sl.v440 c arg1 harg1 arg2 harg2 x0 x1)
        (select (kernelRun0_A.sl.r_6 c arg1 harg1 arg2 harg2 x0 x1) (kernelRun0_A.sl.r_8 c arg1 harg1 arg2 harg2 x0 x1)
          (broadcast S16x1024 (Scalar.ofBits .f32 0x00000000#32 : Ideal .f32)))
        (kernelRun0_A.sl.v421 c arg1 harg1 arg2 harg2 x0 x1) i =
      ((keep l (fin l) (l.oy + l.dy * l.enter) (fin l).y : ℝ) : EReal) :=
  kept (w440 h) (w524 h hc) (fun _ hF => w8 h hF) (w421 h)

theorem out4z (h : At c arg1 harg1 arg2 harg2 x0 x1 l i) (hc : 0 ≤ l.c) :
    select (kernelRun0_A.sl.v440 c arg1 harg1 arg2 harg2 x0 x1)
        (select (kernelRun0_A.sl.r_6 c arg1 harg1 arg2 harg2 x0 x1) (kernelRun0_A.sl.r_9 c arg1 harg1 arg2 harg2 x0 x1)
          (broadcast S16x1024 (Scalar.ofBits .f32 0x00000000#32 : Ideal .f32)))
        (kernelRun0_A.sl.v423 c arg1 harg1 arg2 harg2 x0 x1) i =
      ((keep l (fin l) (l.oz + l.dz * l.enter) (fin l).z : ℝ) : EReal) :=
  kept (w440 h) (w524 h hc) (fun _ hF => w9 h hF) (w423 h)

end Cert.KernelIdeal.Body

end
-- ==== Proof.Blocks.lean ====
/-
  The arrays the kernel's region leaves, ray by ray: the blocks it reads are the arguments, its stores the words read in
  Body, and the blocks tile the arrays.
-/
module

public import proofs.«01_k».proof.Proof.Host
public import proofs.«01_k».proof.Proof.Body
public import Idealize.ShloMosaic.Lib.Pointwise
public import Idealize.ShloMosaic.Lib.ValueLayout

@[expose] public section

noncomputable section

open Idealize.ShloMosaic Idealize.ShloMosaic.TcCoe Idealize.SL.Sem

namespace Cert.Ray

/-- Ray `n` of the two argument arrays. -/
def lineOf (o d : (⟨2, ![131072, 3]⟩ : Shape).Idx → EReal) (n : Fin 131072) : Line :=
  ⟨(o (ix2 n (0 : Fin 3))).toReal, (o (ix2 n (1 : Fin 3))).toReal, (o (ix2 n (2 : Fin 3))).toReal,
    (d (ix2 n (0 : Fin 3))).toReal, (d (ix2 n (1 : Fin 3))).toReal, (d (ix2 n (2 : Fin 3))).toReal⟩

/-- The arrays hold reals, and every ray starts on the sphere or outside it. -/
structure Fits (o d : (⟨2, ![131072, 3]⟩ : Shape).Idx → EReal) : Prop where
  ho : ∀ n k, o (ix2 n k) = (((o (ix2 n k)).toReal : ℝ) : EReal)
  hd : ∀ n k, d (ix2 n k) = (((d (ix2 n k)).toReal : ℝ) : EReal)
  hc : ∀ n, 0 ≤ (lineOf o d n).c

/-- The root entered at, as a point. -/
def Line.at (l : Line) (t : ℝ) (k : Fin 3) : ℝ := ![l.ox + l.dx * t, l.oy + l.dy * t, l.oz + l.dz * t] k

/-- A state's point. -/
def State.pt (s : State) (k : Fin 3) : ℝ := ![s.x, s.y, s.z] k

end Cert.Ray

namespace Cert.KernelIdeal.Blocks

open Cert.KernelIdeal Cert.KernelIdeal.Gen Cert.Ray Cert.KernelIdeal.March Cert.KernelIdeal.Body

/-! ### The blocks read -/

theorem row1 (c : Dev nD) (arg1 : Memref sig .tc .vmem S3x16x1024 .f32) (harg1 : arg1.IsWhole)
    (x0 : Vec Ideal S3x16x1024 .f32) (r : Fin 16) (j : Fin 1024) :
    kernelRun0_A.sl.v1 c arg1 harg1 x0 (ix2 r j) = x0 (ix3 (0 : Fin 3) r j) := by
  unfold kernelRun0_A.sl.v1
  rw [View.readAt_eq_ld, harg1.read_unread]
  refine (ValueIdx.shapeCast_1ab_ab_apply _ _ r j).trans ?_
  rw [View.ld_unit]
  unfold extractStridedSlice
  congr 1
  funext b
  apply Fin.ext
  match b with
  | ⟨0, _⟩ => rfl
  | ⟨1, _⟩ => show 0 + r.val = r.val; omega
  | ⟨2, _⟩ => show 0 + j.val = j.val; omega

theorem row3 (c : Dev nD) (arg1 : Memref sig .tc .vmem S3x16x1024 .f32) (harg1 : arg1.IsWhole)
    (x0 : Vec Ideal S3x16x1024 .f32) (r : Fin 16) (j : Fin 1024) :
    kernelRun0_A.sl.v3 c arg1 harg1 x0 (ix2 r j) = x0 (ix3 (1 : Fin 3) r j) := by
  unfold kernelRun0_A.sl.v3
  rw [View.readAt_eq_ld, harg1.read_unread]
  refine (ValueIdx.shapeCast_1ab_ab_apply _ _ r j).trans ?_
  rw [View.ld_unit]
  unfold extractStridedSlice
  congr 1
  funext b
  apply Fin.ext
  match b with
  | ⟨0, _⟩ => rfl
  | ⟨1, _⟩ => show 0 + r.val = r.val; omega
  | ⟨2, _⟩ => show 0 + j.val = j.val; omega

theorem row5 (c : Dev nD) (arg1 : Memref sig .tc .vmem S3x16x1024 .f32) (harg1 : arg1.IsWhole)
    (x0 : Vec Ideal S3x16x1024 .f32) (r : Fin 16) (j : Fin 1024) :
    kernelRun0_A.sl.v5 c arg1 harg1 x0 (ix2 r j) = x0 (ix3 (2 : Fin 3) r j) := by
  unfold kernelRun0_A.sl.v5
  rw [View.readAt_eq_ld, harg1.read_unread]
  refine (ValueIdx.shapeCast_1ab_ab_apply _ _ r j).trans ?_
  rw [View.ld_unit]
  unfold extractStridedSlice
  congr 1
  funext b
  apply Fin.ext
  match b with
  | ⟨0, _⟩ => rfl
  | ⟨1, _⟩ => show 0 + r.val = r.val; omega
  | ⟨2, _⟩ => show 0 + j.val = j.val; omega

theorem row7 (c : Dev nD) (arg2 : Memref sig .tc .vmem S3x16x1024 .f32) (harg2 : arg2.IsWhole)
    (x1 : Vec Ideal S3x16x1024 .f32) (r : Fin 16) (j : Fin 1024) :
    kernelRun0_A.sl.v7 c arg2 harg2 x1 (ix2 r j) = x1 (ix3 (0 : Fin 3) r j) := by
  unfold kernelRun0_A.sl.v7
  rw [View.readAt_eq_ld, harg2.read_unread]
  refine (ValueIdx.shapeCast_1ab_ab_apply _ _ r j).trans ?_
  rw [View.ld_unit]
  unfold extractStridedSlice
  congr 1
  funext b
  apply Fin.ext
  match b with
  | ⟨0, _⟩ => rfl
  | ⟨1, _⟩ => show 0 + r.val = r.val; omega
  | ⟨2, _⟩ => show 0 + j.val = j.val; omega

theorem row9 (c : Dev nD) (arg2 : Memref sig .tc .vmem S3x16x1024 .f32) (harg2 : arg2.IsWhole)
    (x1 : Vec Ideal S3x16x1024 .f32) (r : Fin 16) (j : Fin 1024) :
    kernelRun0_A.sl.v9 c arg2 harg2 x1 (ix2 r j) = x1 (ix3 (1 : Fin 3) r j) := by
  unfold kernelRun0_A.sl.v9
  rw [View.readAt_eq_ld, harg2.read_unread]
  refine (ValueIdx.shapeCast_1ab_ab_apply _ _ r j).trans ?_
  rw [View.ld_unit]
  unfold extractStridedSlice
  congr 1
  funext b
  apply Fin.ext
  match b with
  | ⟨0, _⟩ => rfl
  | ⟨1, _⟩ => show 0 + r.val = r.val; omega
  | ⟨2, _⟩ => show 0 + j.val = j.val; omega

theorem row11 (c : Dev nD) (arg2 : Memref sig .tc .vmem S3x16x1024 .f32) (harg2 : arg2.IsWhole)
    (x1 : Vec Ideal S3x16x1024 .f32) (r : Fin 16) (j : Fin 1024) :
    kernelRun0_A.sl.v11 c arg2 harg2 x1 (ix2 r j) = x1 (ix3 (2 : Fin 3) r j) := by
  unfold kernelRun0_A.sl.v11
  rw [View.readAt_eq_ld, harg2.read_unread]
  refine (ValueIdx.shapeCast_1ab_ab_apply _ _ r j).trans ?_
  rw [View.ld_unit]
  unfold extractStridedSlice
  congr 1
  funext b
  apply Fin.ext
  match b with
  | ⟨0, _⟩ => rfl
  | ⟨1, _⟩ => show 0 + r.val = r.val; omega
  | ⟨2, _⟩ => show 0 + j.val = j.val; omega

variable (m : (ℓ : Loc nD τ sig) → Buf (Elt Ideal) ℓ)

/-- The origins and the directions core `c` is given. -/
abbrev org (c : Dev nD) : S131072x3.Idx → EReal := m ((c.tc : Thread nD τ).loc main_arg0)
abbrev dir (c : Dev nD) : S131072x3.Idx → EReal := m ((c.tc : Thread nD τ).loc main_arg1)

/-- Row `r` of block `t`, of the 128 rows. -/
def row (t : Fin cfg0.N) (r : Fin 16) : Fin 128 :=
  ⟨t.val * 16 + r.val, by have := t.isLt; have : cfg0.N = 8 := N_0; omega⟩

/-- The ray at row `q`, lane `j` of the arrays. -/
def at2 (q : Fin 128) (j : Fin 1024) : Fin 131072 := ⟨q.val * 1024 + j.val, by omega⟩

/-- The ray at lane `j` of row `r` of block `t`. -/
abbrev ray (t : Fin cfg0.N) (r : Fin 16) (j : Fin 1024) : Fin 131072 := at2 (row t r) j

theorem idx_in0 : ∀ t : Fin cfg0.N, win0_0.index t 0 = 0 ∧ win0_0.index t 1 = t.val ∧ win0_0.index t 2 = 0 := by
  decide +kernel

theorem V0_at (c : Dev nD) (k : Fin 3) (q : Fin 128) (j : Fin 1024) :
    Gen.V m c main_call0_v1 (ix3 k q j) = org m c (ix2 (⟨q.val * 1024 + j.val, by omega⟩ : Fin 131072) k) := by
  rw [Host.in0]
  pointwise

theorem blk0 (c : Dev nD) (t : Fin cfg0.N) (k : Fin 3) (r : Fin 16) (j : Fin 1024) :
    (iblk m c 0 t : Vec Ideal S3x16x1024 .f32) (ix3 k r j) = org m c (ix2 (ray t r j) k) := by
  refine Eq.trans ?_ (V0_at m c k (row t r) j)
  unfold iblk
  rw [View.read_apply]
  show Gen.V m c main_call0_v1 _ = Gen.V m c main_call0_v1 _
  congr 1
  funext a
  apply Fin.ext
  obtain ⟨h0, h1, h2⟩ := idx_in0 t
  match a with
  | ⟨0, _⟩ => show win0_0.index t 0 * 3 + 1 * k.val = k.val; rw [h0]; omega
  | ⟨1, _⟩ => show win0_0.index t 1 * 16 + 1 * r.val = t.val * 16 + r.val; rw [h1]; omega
  | ⟨2, _⟩ => show win0_0.index t 2 * 1024 + 1 * j.val = j.val; rw [h2]; omega

theorem idx_in1 : ∀ t : Fin cfg0.N, win0_1.index t 0 = 0 ∧ win0_1.index t 1 = t.val ∧ win0_1.index t 2 = 0 := by
  decide +kernel

theorem V1_at (c : Dev nD) (k : Fin 3) (q : Fin 128) (j : Fin 1024) :
    Gen.V m c main_call0_v3 (ix3 k q j) = dir m c (ix2 (⟨q.val * 1024 + j.val, by omega⟩ : Fin 131072) k) := by
  rw [Host.in1]
  pointwise

theorem blk1 (c : Dev nD) (t : Fin cfg0.N) (k : Fin 3) (r : Fin 16) (j : Fin 1024) :
    (iblk m c 1 t : Vec Ideal S3x16x1024 .f32) (ix3 k r j) = dir m c (ix2 (ray t r j) k) := by
  refine Eq.trans ?_ (V1_at m c k (row t r) j)
  unfold iblk
  rw [View.read_apply]
  show Gen.V m c main_call0_v3 _ = Gen.V m c main_call0_v3 _
  congr 1
  funext a
  apply Fin.ext
  obtain ⟨h0, h1, h2⟩ := idx_in1 t
  match a with
  | ⟨0, _⟩ => show win0_1.index t 0 * 3 + 1 * k.val = k.val; rw [h0]; omega
  | ⟨1, _⟩ => show win0_1.index t 1 * 16 + 1 * r.val = t.val * 16 + r.val; rw [h1]; omega
  | ⟨2, _⟩ => show win0_1.index t 2 * 1024 + 1 * j.val = j.val; rw [h2]; omega

/-- Ray `n` of core `c`. -/
abbrev line (c : Dev nD) (n : Fin 131072) : Line := lineOf (org m c) (dir m c) n

/-- The rows of point `t`'s blocks hold the rays. -/
theorem rows (c : Dev nD) (h : Fits (org m c) (dir m c)) (t : Fin cfg0.N) (r : Fin 16) (j : Fin 1024) :
    At c (ms0_0 t) (hs0_0 t) (ms0_1 t) (hs0_1 t) (iblk m c 0 t) (iblk m c 1 t) (line m c (ray t r j)) (ix2 r j) where
  ox := (row1 ..).trans ((blk0 m c t 0 r j).trans (h.ho _ _))
  oy := (row3 ..).trans ((blk0 m c t 1 r j).trans (h.ho _ _))
  oz := (row5 ..).trans ((blk0 m c t 2 r j).trans (h.ho _ _))
  dx := (row7 ..).trans ((blk1 m c t 0 r j).trans (h.hd _ _))
  dy := (row9 ..).trans ((blk1 m c t 1 r j).trans (h.hd _ _))
  dz := (row11 ..).trans ((blk1 m c t 2 r j).trans (h.hd _ _))

/-! ### The blocks written -/

theorem hz2 : (![0, 0] : Fin 2 → Nat) = fun _ => 0 := funext fun a => by fin_cases a <;> rfl

/-- The row written last, read back. -/
theorem head (p : ℕ) (b) (w : Vec Ideal S1x16x1024 .f32) (L : List (View.Piece (Elt Ideal) S3x16x1024 .f32)) (k : Fin 3)
    (hk : k.val = p) (r : Fin 16) (j : Fin 1024) :
    View.canon (⟨Rect.unit (s := S3x16x1024) ![p, 0, 0] ![1, 16, 1024] b, w⟩ :: L) (ix3 k r j) = w (ix3 (0 : Fin 1) r j) := by
  have e : (ix3 k r j : S3x16x1024.Idx) =
      (Rect.unit (s := S3x16x1024) ![p, 0, 0] ![1, 16, 1024] b).emb (ix3 (0 : Fin 1) r j) :=
    funext fun b => Fin.ext (by
      match b with
      | ⟨0, _⟩ => show k.val = p + 1 * 0; omega
      | ⟨1, _⟩ => show r.val = 0 + 1 * r.val; omega
      | ⟨2, _⟩ => show j.val = 0 + 1 * j.val; omega)
  rw [e]
  exact View.canon_cons_emb _ _ _ _

/-- Another row than the one written last, read back. -/
theorem past (p : ℕ) (b) (w : Vec Ideal S1x16x1024 .f32) (L : List (View.Piece (Elt Ideal) S3x16x1024 .f32)) (k : Fin 3)
    (hk : k.val ≠ p) (r : Fin 16) (j : Fin 1024) :
    View.canon (⟨Rect.unit (s := S3x16x1024) ![p, 0, 0] ![1, 16, 1024] b, w⟩ :: L) (ix3 k r j) =
      View.canon L (ix3 k r j) := by
  refine View.canon_cons_of_not_mem _ _ ?_
  intro hm
  rw [Rect.mem_set_unit] at hm
  have h1 : p ≤ k.val ∧ k.val < p + 1 := hm 0
  omega

/-- Three rows written one after another, read back. -/
theorem three (w0 w1 w2 : Vec Ideal S1x16x1024 .f32) (b0 b1 b2) (k : Fin 3) (r : Fin 16) (j : Fin 1024) :
    View.canon (Val := Elt Ideal) (s := S3x16x1024) (e := .f32)
      [⟨Rect.unit ![2, 0, 0] ![1, 16, 1024] b2, w2⟩, ⟨Rect.unit ![1, 0, 0] ![1, 16, 1024] b1, w1⟩,
        ⟨Rect.unit ![0, 0, 0] ![1, 16, 1024] b0, w0⟩] (ix3 k r j) = (![w0, w1, w2] k) (ix3 (0 : Fin 1) r j) := by
  match k with
  | ⟨0, h⟩ =>
    exact (past 2 b2 w2 _ ⟨0, h⟩ (by simp) r j).trans ((past 1 b1 w1 _ ⟨0, h⟩ (by simp) r j).trans
      (head 0 b0 w0 _ ⟨0, h⟩ rfl r j))
  | ⟨1, h⟩ => exact (past 2 b2 w2 _ ⟨1, h⟩ (by simp) r j).trans (head 1 b1 w1 _ ⟨1, h⟩ rfl r j)
  | ⟨2, h⟩ => exact head 2 b2 w2 _ ⟨2, h⟩ rfl r j

section
variable (c : Dev nD) (i : grid0.Coords) (arg1 : Memref sig .tc .vmem S3x16x1024 .f32) (harg1 : arg1.IsWhole)
  (arg2 : Memref sig .tc .vmem S3x16x1024 .f32) (harg2 : arg2.IsWhole) (arg3 : Memref sig .tc .vmem S16x1024 .i32)
  (harg3 : arg3.IsWhole) (arg4 : Memref sig .tc .vmem S3x16x1024 .f32) (harg4 : arg4.IsWhole)
  (arg5 : Memref sig .tc .vmem S16x1024 .f32) (harg5 : arg5.IsWhole) (arg6 : Memref sig .tc .vmem S16x1024 .f32)
  (harg6 : arg6.IsWhole) (arg7 : Memref sig .tc .vmem S8x128 .f32) (harg7 : arg7.IsWhole)
  (x0 x1 : Vec Ideal S3x16x1024 .f32)

theorem block2 : out0_A_2 c i arg1 harg1 arg2 harg2 arg3 harg3 arg4 harg4 arg5 harg5 arg6 harg6 arg7 harg7 x0 x1 =
    kernelRun0_A.sl.r_11 c arg1 harg1 arg2 harg2 x0 x1 := by
  unfold out0_A_2
  rw [View.read_writes_eq_canon _ _ _ (cover0_A_2 c i arg1 harg1 arg2 harg2 arg3 harg3 arg4 harg4 arg5 harg5 arg6 harg6 arg7 harg7 x0 x1)]
  unfold kernelRun0_A
  dsimp only
  exact View.canon_unit_zero hz2 _ _

theorem block4 : out0_A_4 c i arg1 harg1 arg2 harg2 arg3 harg3 arg4 harg4 arg5 harg5 arg6 harg6 arg7 harg7 x0 x1 =
    k0_pay153 (kernelRun0_A.sl.v433 c arg1 harg1 arg2 harg2 x0 x1) (kernelRun0_A.sl.v440 c arg1 harg1 arg2 harg2 x0 x1)
      (kernelRun0_A.sl.r_6 c arg1 harg1 arg2 harg2 x0 x1) (kernelRun0_A.sl.r_10 c arg1 harg1 arg2 harg2 x0 x1) := by
  unfold out0_A_4
  rw [View.read_writes_eq_canon _ _ _ (cover0_A_4 c i arg1 harg1 arg2 harg2 arg3 harg3 arg4 harg4 arg5 harg5 arg6 harg6 arg7 harg7 x0 x1)]
  unfold kernelRun0_A
  dsimp only
  exact View.canon_unit_zero hz2 _ _

theorem block5 : out0_A_5 c i arg1 harg1 arg2 harg2 arg3 harg3 arg4 harg4 arg5 harg5 arg6 harg6 arg7 harg7 x0 x1 =
    kernelRun0_A.sl.r_12 c arg1 harg1 arg2 harg2 x0 x1 := by
  unfold out0_A_5
  rw [View.read_writes_eq_canon _ _ _ (cover0_A_5 c i arg1 harg1 arg2 harg2 arg3 harg3 arg4 harg4 arg5 harg5 arg6 harg6 arg7 harg7 x0 x1)]
  unfold kernelRun0_A
  dsimp only
  exact View.canon_unit_zero hz2 _ _

theorem lane2 (l : Line) (r : Fin 16) (j : Fin 1024) (h : At c arg1 harg1 arg2 harg2 x0 x1 l (ix2 r j)) (hc : 0 ≤ l.c) :
    out0_A_2 c i arg1 harg1 arg2 harg2 arg3 harg3 arg4 harg4 arg5 harg5 arg6 harg6 arg7 harg7 x0 x1 (ix2 r j) = (BitVec.ofBool (conv l (fin l))).zeroExtend 32 :=
  (congrFun (block2 c i arg1 harg1 arg2 harg2 arg3 harg3 arg4 harg4 arg5 harg5 arg6 harg6 arg7 harg7 x0 x1) _).trans (out3 h hc)

theorem lane5 (l : Line) (r : Fin 16) (j : Fin 1024) (h : At c arg1 harg1 arg2 harg2 x0 x1 l (ix2 r j)) (hc : 0 ≤ l.c) :
    out0_A_5 c i arg1 harg1 arg2 harg2 arg3 harg3 arg4 harg4 arg5 harg5 arg6 harg6 arg7 harg7 x0 x1 (ix2 r j) = ((keep l (fin l) l.enter (fin l).acc : ℝ) : EReal) :=
  (congrFun (block5 c i arg1 harg1 arg2 harg2 arg3 harg3 arg4 harg4 arg5 harg5 arg6 harg6 arg7 harg7 x0 x1) _).trans (out6 h hc)

theorem lane4 (l : Line) (r : Fin 16) (j : Fin 1024) (h : At c arg1 harg1 arg2 harg2 x0 x1 l (ix2 r j)) (hc : 0 ≤ l.c) :
    out0_A_4 c i arg1 harg1 arg2 harg2 arg3 harg3 arg4 harg4 arg5 harg5 arg6 harg6 arg7 harg7 x0 x1 (ix2 r j) = ((keep l (fin l) (sdf (l.ox + l.dx * l.enter) (l.oy + l.dy * l.enter) (l.oz + l.dz * l.enter))
        (fin l).cur : ℝ) : EReal) :=
  (congrFun (block4 c i arg1 harg1 arg2 harg2 arg3 harg3 arg4 harg4 arg5 harg5 arg6 harg6 arg7 harg7 x0 x1) _).trans (out5 h hc)

theorem rows3 (k : Fin 3) (r : Fin 16) (j : Fin 1024) : out0_A_3 c i arg1 harg1 arg2 harg2 arg3 harg3 arg4 harg4 arg5 harg5 arg6 harg6 arg7 harg7 x0 x1 (ix3 k r j) =
    (![(k0_pay150 (kernelRun0_A.sl.v419 c arg1 harg1 arg2 harg2 x0 x1) (kernelRun0_A.sl.v440 c arg1 harg1 arg2 harg2 x0 x1)
        (kernelRun0_A.sl.r_6 c arg1 harg1 arg2 harg2 x0 x1) (kernelRun0_A.sl.r_7 c arg1 harg1 arg2 harg2 x0 x1)),
      (k0_pay151 (kernelRun0_A.sl.v421 c arg1 harg1 arg2 harg2 x0 x1) (kernelRun0_A.sl.v440 c arg1 harg1 arg2 harg2 x0 x1)
        (kernelRun0_A.sl.r_6 c arg1 harg1 arg2 harg2 x0 x1) (kernelRun0_A.sl.r_8 c arg1 harg1 arg2 harg2 x0 x1)),
      (k0_pay152 (kernelRun0_A.sl.v423 c arg1 harg1 arg2 harg2 x0 x1) (kernelRun0_A.sl.v440 c arg1 harg1 arg2 harg2 x0 x1)
        (kernelRun0_A.sl.r_6 c arg1 harg1 arg2 harg2 x0 x1) (kernelRun0_A.sl.r_9 c arg1 harg1 arg2 harg2 x0 x1))] k) (ix3 (0 : Fin 1) r j) := by
  unfold out0_A_3
  rw [View.read_writes_eq_canon _ _ _ (cover0_A_3 c i arg1 harg1 arg2 harg2 arg3 harg3 arg4 harg4 arg5 harg5 arg6 harg6 arg7 harg7 x0 x1)]
  unfold kernelRun0_A
  dsimp only
  exact three _ _ _ _ _ _ k r j

/-- The three rows of points. -/
theorem block3 (l : Line) (r : Fin 16) (j : Fin 1024) (h : At c arg1 harg1 arg2 harg2 x0 x1 l (ix2 r j)) (hc : 0 ≤ l.c) (k : Fin 3) :
    out0_A_3 c i arg1 harg1 arg2 harg2 arg3 harg3 arg4 harg4 arg5 harg5 arg6 harg6 arg7 harg7 x0 x1 (ix3 k r j) =
      ((keep l (fin l) (l.at l.enter k) ((fin l).pt k) : ℝ) : EReal) := by
  refine (rows3 c i arg1 harg1 arg2 harg2 arg3 harg3 arg4 harg4 arg5 harg5 arg6 harg6 arg7 harg7 x0 x1 k r j).trans ?_
  match k with
  | ⟨0, _⟩ => exact (ValueIdx.shapeCast_ab_1ab_apply _ _ 0 r j).trans (out4x h hc)
  | ⟨1, _⟩ => exact (ValueIdx.shapeCast_ab_1ab_apply _ _ 0 r j).trans (out4y h hc)
  | ⟨2, _⟩ => exact (ValueIdx.shapeCast_ab_1ab_apply _ _ 0 r j).trans (out4z h hc)

end

/-! ### The arrays -/

/-- Whether ray `n` converged, the point, the distance and the travel reported for it. -/
def hit (c : Dev nD) (n : Fin 131072) : Bool := conv (line m c n) (fin (line m c n))
def spot (c : Dev nD) (n : Fin 131072) (k : Fin 3) : ℝ :=
  keep (line m c n) (fin (line m c n)) ((line m c n).at (line m c n).enter k) ((fin (line m c n)).pt k)
def dist (c : Dev nD) (n : Fin 131072) : ℝ :=
  keep (line m c n) (fin (line m c n)) (sdf ((line m c n).ox + (line m c n).dx * (line m c n).enter)
    ((line m c n).oy + (line m c n).dy * (line m c n).enter) ((line m c n).oz + (line m c n).dz * (line m c n).enter))
    (fin (line m c n)).cur
def travel (c : Dev nD) (n : Fin 131072) : ℝ :=
  keep (line m c n) (fin (line m c n)) (line m c n).enter (fin (line m c n)).acc

def arr2 (c : Dev nD) : S128x1024.Idx → BitVec 32 := fun i => (BitVec.ofBool (hit m c (at2 (i 0) (i 1)))).zeroExtend 32
def arr3 (c : Dev nD) : S3x128x1024.Idx → EReal := fun i => ((spot m c (at2 (i 1) (i 2)) (i 0) : ℝ) : EReal)
def arr4 (c : Dev nD) : S128x1024.Idx → EReal := fun i => ((dist m c (at2 (i 0) (i 1)) : ℝ) : EReal)
def arr5 (c : Dev nD) : S128x1024.Idx → EReal := fun i => ((travel m c (at2 (i 0) (i 1)) : ℝ) : EReal)

theorem row_of (q : Fin 128) : q.val / 16 < cfg0.N := by have : cfg0.N = 8 := N_0; have := q.isLt; omega

theorem idx_out2 : ∀ t : Fin cfg0.N, win0_2.index t 0 = t.val ∧ win0_2.index t 1 = 0 := by decide +kernel

theorem sz_out2 : ∀ t : Fin cfg0.N, win0_2.size 0 = 16 ∧ win0_2.size 1 = 1024 ∧
    win0_2.xsize (grid0.coords t) 0 = 16 ∧ win0_2.xsize (grid0.coords t) 1 = 1024 := by decide +kernel

theorem val2 (c : Dev nD) (hf : Fits (org m c) (dir m c)) (t : Fin cfg0.N) (r : Fin 16) (j : Fin 1024) :
    (outsAt0 m c t).1 (ix2 r j) = arr2 m c (ix2 (row t r) j) := by
  have e : arr2 m c (ix2 (row t r) j) = (BitVec.ofBool (hit m c (ray t r j))).zeroExtend 32 := rfl
  rw [e]
  unfold hit outsAt0
  dsimp only
  exact lane2 c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) (iblk m c 0 t) (iblk m c 1 t) (line m c (ray t r j)) r j (rows m c hf t r j) (hf.hc (ray t r j))

theorem flushed2 (c : Dev nD) (hf : Fits (org m c) (dir m c)) (t : Fin cfg0.N) (hl : (cfg0.win 2).flush t = true) :
    (dats m 0 c).flushed 2 t = ((cfg0.win 2).blk t).view.read (Elt Ideal) (arr2 m c) := by
  show (cfg0.win 2).cut (grid0.coords t) ((dats m 0 c).after 2 t) = _
  rw [after0_2]
  have hv := val2 m c hf t
  generalize (outsAt0 m c t).1 = f at hv ⊢
  generalize arr2 m c = g at hv ⊢
  funext x
  rw [View.read_apply]
  obtain ⟨h0, h1⟩ := idx_out2 t
  refine Eq.trans (b := f (ix2 (x 0 : Fin 16) (x 1 : Fin 1024))) ?_ ((hv (x 0) (x 1)).trans ?_)
  · show f _ = f _
    congr 1
    funext a
    apply Fin.ext
    match a with
    | ⟨0, _⟩ => rfl
    | ⟨1, _⟩ => rfl
  · show g _ = g _
    congr 1
    funext a
    apply Fin.ext
    match a with
    | ⟨0, _⟩ => show t.val * 16 + (x 0).val = win0_2.index t 0 * 16 + 1 * (x 0).val; rw [h0]; omega
    | ⟨1, _⟩ => show (x 1).val = win0_2.index t 1 * 1024 + 1 * (x 1).val; rw [h1]; omega

theorem final2 (c : Dev nD) (hf : Fits (org m c) (dir m c)) : (dats m 0 c).arrAt 2 cfg0.N = arr2 m c :=
  (dats m 0 c).arrAt_eq_of_cover 2 (arr2 m c) (flushed2 m c hf) fun i =>
    ⟨⟨(i 0 : Nat) / 16, row_of (i 0)⟩, flush0_2 _, by
      show i ∈ ((View.whole main_call0_v4_0).slice (win0_2.rect ⟨(i 0 : Nat) / 16, row_of (i 0)⟩)).set
      rw [View.set_slice_whole, Rect.mem_set_unit]
      obtain ⟨h0, h1⟩ := idx_out2 ⟨(i 0 : Nat) / 16, row_of (i 0)⟩
      obtain ⟨s0, s1, x0, x1⟩ := sz_out2 ⟨(i 0 : Nat) / 16, row_of (i 0)⟩
      have l1 : (i 1 : Nat) < 1024 := (i 1).isLt
      intro a
      match a with
      | ⟨0, _⟩ =>
        show win0_2.index _ 0 * win0_2.size 0 ≤ (i 0 : Nat) ∧ (i 0 : Nat) < win0_2.index _ 0 * win0_2.size 0 + win0_2.xsize _ 0
        rw [h0, s0, x0]; dsimp only; omega
      | ⟨1, _⟩ =>
        show win0_2.index _ 1 * win0_2.size 1 ≤ (i 1 : Nat) ∧ (i 1 : Nat) < win0_2.index _ 1 * win0_2.size 1 + win0_2.xsize _ 1
        rw [h1, s1, x1]; omega⟩

theorem idx_out4 : ∀ t : Fin cfg0.N, win0_4.index t 0 = t.val ∧ win0_4.index t 1 = 0 := by decide +kernel

theorem sz_out4 : ∀ t : Fin cfg0.N, win0_4.size 0 = 16 ∧ win0_4.size 1 = 1024 ∧
    win0_4.xsize (grid0.coords t) 0 = 16 ∧ win0_4.xsize (grid0.coords t) 1 = 1024 := by decide +kernel

theorem val4 (c : Dev nD) (hf : Fits (org m c) (dir m c)) (t : Fin cfg0.N) (r : Fin 16) (j : Fin 1024) :
    (outsAt0 m c t).2.2.1 (ix2 r j) = arr4 m c (ix2 (row t r) j) := by
  have e : arr4 m c (ix2 (row t r) j) = ((dist m c (ray t r j) : ℝ) : EReal) := rfl
  rw [e]
  unfold dist outsAt0
  dsimp only
  exact lane4 c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) (iblk m c 0 t) (iblk m c 1 t) (line m c (ray t r j)) r j (rows m c hf t r j) (hf.hc (ray t r j))

theorem flushed4 (c : Dev nD) (hf : Fits (org m c) (dir m c)) (t : Fin cfg0.N) (hl : (cfg0.win 4).flush t = true) :
    (dats m 0 c).flushed 4 t = ((cfg0.win 4).blk t).view.read (Elt Ideal) (arr4 m c) := by
  show (cfg0.win 4).cut (grid0.coords t) ((dats m 0 c).after 4 t) = _
  rw [after0_4]
  have hv := val4 m c hf t
  generalize (outsAt0 m c t).2.2.1 = f at hv ⊢
  generalize arr4 m c = g at hv ⊢
  funext x
  rw [View.read_apply]
  obtain ⟨h0, h1⟩ := idx_out4 t
  refine Eq.trans (b := f (ix2 (x 0 : Fin 16) (x 1 : Fin 1024))) ?_ ((hv (x 0) (x 1)).trans ?_)
  · show f _ = f _
    congr 1
    funext a
    apply Fin.ext
    match a with
    | ⟨0, _⟩ => rfl
    | ⟨1, _⟩ => rfl
  · show g _ = g _
    congr 1
    funext a
    apply Fin.ext
    match a with
    | ⟨0, _⟩ => show t.val * 16 + (x 0).val = win0_4.index t 0 * 16 + 1 * (x 0).val; rw [h0]; omega
    | ⟨1, _⟩ => show (x 1).val = win0_4.index t 1 * 1024 + 1 * (x 1).val; rw [h1]; omega

theorem final4 (c : Dev nD) (hf : Fits (org m c) (dir m c)) : (dats m 0 c).arrAt 4 cfg0.N = arr4 m c :=
  (dats m 0 c).arrAt_eq_of_cover 4 (arr4 m c) (flushed4 m c hf) fun i =>
    ⟨⟨(i 0 : Nat) / 16, row_of (i 0)⟩, flush0_4 _, by
      show i ∈ ((View.whole main_call0_v4_2).slice (win0_4.rect ⟨(i 0 : Nat) / 16, row_of (i 0)⟩)).set
      rw [View.set_slice_whole, Rect.mem_set_unit]
      obtain ⟨h0, h1⟩ := idx_out4 ⟨(i 0 : Nat) / 16, row_of (i 0)⟩
      obtain ⟨s0, s1, x0, x1⟩ := sz_out4 ⟨(i 0 : Nat) / 16, row_of (i 0)⟩
      have l1 : (i 1 : Nat) < 1024 := (i 1).isLt
      intro a
      match a with
      | ⟨0, _⟩ =>
        show win0_4.index _ 0 * win0_4.size 0 ≤ (i 0 : Nat) ∧ (i 0 : Nat) < win0_4.index _ 0 * win0_4.size 0 + win0_4.xsize _ 0
        rw [h0, s0, x0]; dsimp only; omega
      | ⟨1, _⟩ =>
        show win0_4.index _ 1 * win0_4.size 1 ≤ (i 1 : Nat) ∧ (i 1 : Nat) < win0_4.index _ 1 * win0_4.size 1 + win0_4.xsize _ 1
        rw [h1, s1, x1]; omega⟩

theorem idx_out5 : ∀ t : Fin cfg0.N, win0_5.index t 0 = t.val ∧ win0_5.index t 1 = 0 := by decide +kernel

theorem sz_out5 : ∀ t : Fin cfg0.N, win0_5.size 0 = 16 ∧ win0_5.size 1 = 1024 ∧
    win0_5.xsize (grid0.coords t) 0 = 16 ∧ win0_5.xsize (grid0.coords t) 1 = 1024 := by decide +kernel

theorem val5 (c : Dev nD) (hf : Fits (org m c) (dir m c)) (t : Fin cfg0.N) (r : Fin 16) (j : Fin 1024) :
    (outsAt0 m c t).2.2.2 (ix2 r j) = arr5 m c (ix2 (row t r) j) := by
  have e : arr5 m c (ix2 (row t r) j) = ((travel m c (ray t r j) : ℝ) : EReal) := rfl
  rw [e]
  unfold travel outsAt0
  dsimp only
  exact lane5 c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) (iblk m c 0 t) (iblk m c 1 t) (line m c (ray t r j)) r j (rows m c hf t r j) (hf.hc (ray t r j))

theorem flushed5 (c : Dev nD) (hf : Fits (org m c) (dir m c)) (t : Fin cfg0.N) (hl : (cfg0.win 5).flush t = true) :
    (dats m 0 c).flushed 5 t = ((cfg0.win 5).blk t).view.read (Elt Ideal) (arr5 m c) := by
  show (cfg0.win 5).cut (grid0.coords t) ((dats m 0 c).after 5 t) = _
  rw [after0_5]
  have hv := val5 m c hf t
  generalize (outsAt0 m c t).2.2.2 = f at hv ⊢
  generalize arr5 m c = g at hv ⊢
  funext x
  rw [View.read_apply]
  obtain ⟨h0, h1⟩ := idx_out5 t
  refine Eq.trans (b := f (ix2 (x 0 : Fin 16) (x 1 : Fin 1024))) ?_ ((hv (x 0) (x 1)).trans ?_)
  · show f _ = f _
    congr 1
    funext a
    apply Fin.ext
    match a with
    | ⟨0, _⟩ => rfl
    | ⟨1, _⟩ => rfl
  · show g _ = g _
    congr 1
    funext a
    apply Fin.ext
    match a with
    | ⟨0, _⟩ => show t.val * 16 + (x 0).val = win0_5.index t 0 * 16 + 1 * (x 0).val; rw [h0]; omega
    | ⟨1, _⟩ => show (x 1).val = win0_5.index t 1 * 1024 + 1 * (x 1).val; rw [h1]; omega

theorem final5 (c : Dev nD) (hf : Fits (org m c) (dir m c)) : (dats m 0 c).arrAt 5 cfg0.N = arr5 m c :=
  (dats m 0 c).arrAt_eq_of_cover 5 (arr5 m c) (flushed5 m c hf) fun i =>
    ⟨⟨(i 0 : Nat) / 16, row_of (i 0)⟩, flush0_5 _, by
      show i ∈ ((View.whole main_call0_v4_3).slice (win0_5.rect ⟨(i 0 : Nat) / 16, row_of (i 0)⟩)).set
      rw [View.set_slice_whole, Rect.mem_set_unit]
      obtain ⟨h0, h1⟩ := idx_out5 ⟨(i 0 : Nat) / 16, row_of (i 0)⟩
      obtain ⟨s0, s1, x0, x1⟩ := sz_out5 ⟨(i 0 : Nat) / 16, row_of (i 0)⟩
      have l1 : (i 1 : Nat) < 1024 := (i 1).isLt
      intro a
      match a with
      | ⟨0, _⟩ =>
        show win0_5.index _ 0 * win0_5.size 0 ≤ (i 0 : Nat) ∧ (i 0 : Nat) < win0_5.index _ 0 * win0_5.size 0 + win0_5.xsize _ 0
        rw [h0, s0, x0]; dsimp only; omega
      | ⟨1, _⟩ =>
        show win0_5.index _ 1 * win0_5.size 1 ≤ (i 1 : Nat) ∧ (i 1 : Nat) < win0_5.index _ 1 * win0_5.size 1 + win0_5.xsize _ 1
        rw [h1, s1, x1]; omega⟩

theorem idx_out3 : ∀ t : Fin cfg0.N, win0_3.index t 0 = 0 ∧ win0_3.index t 1 = t.val ∧ win0_3.index t 2 = 0 := by
  decide +kernel

theorem sz_out3 : ∀ t : Fin cfg0.N, win0_3.size 0 = 3 ∧ win0_3.size 1 = 16 ∧ win0_3.size 2 = 1024 ∧
    win0_3.xsize (grid0.coords t) 0 = 3 ∧ win0_3.xsize (grid0.coords t) 1 = 16 ∧
    win0_3.xsize (grid0.coords t) 2 = 1024 := by decide +kernel

theorem val3 (c : Dev nD) (hf : Fits (org m c) (dir m c)) (t : Fin cfg0.N) (k : Fin 3) (r : Fin 16) (j : Fin 1024) :
    (outsAt0 m c t).2.1 (ix3 k r j) = arr3 m c (ix3 k (row t r) j) := by
  have e : arr3 m c (ix3 k (row t r) j) = ((spot m c (ray t r j) k : ℝ) : EReal) := rfl
  rw [e]
  unfold spot outsAt0
  dsimp only
  exact block3 c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) (iblk m c 0 t) (iblk m c 1 t) (line m c (ray t r j)) r j (rows m c hf t r j) (hf.hc (ray t r j)) k

theorem flushed3 (c : Dev nD) (hf : Fits (org m c) (dir m c)) (t : Fin cfg0.N) (hl : (cfg0.win 3).flush t = true) :
    (dats m 0 c).flushed 3 t = ((cfg0.win 3).blk t).view.read (Elt Ideal) (arr3 m c) := by
  show (cfg0.win 3).cut (grid0.coords t) ((dats m 0 c).after 3 t) = _
  rw [after0_3]
  have hv := val3 m c hf t
  generalize (outsAt0 m c t).2.1 = f at hv ⊢
  generalize arr3 m c = g at hv ⊢
  funext x
  rw [View.read_apply]
  obtain ⟨h0, h1, h2⟩ := idx_out3 t
  refine Eq.trans (b := f (ix3 (x 0 : Fin 3) (x 1 : Fin 16) (x 2 : Fin 1024))) ?_
    ((hv (x 0) (x 1) (x 2)).trans ?_)
  · show f _ = f _
    congr 1
    funext a
    apply Fin.ext
    match a with
    | ⟨0, _⟩ => rfl
    | ⟨1, _⟩ => rfl
    | ⟨2, _⟩ => rfl
  · show g _ = g _
    congr 1
    funext a
    apply Fin.ext
    match a with
    | ⟨0, _⟩ => show (x 0).val = win0_3.index t 0 * 3 + 1 * (x 0).val; rw [h0]; omega
    | ⟨1, _⟩ => show t.val * 16 + (x 1).val = win0_3.index t 1 * 16 + 1 * (x 1).val; rw [h1]; omega
    | ⟨2, _⟩ => show (x 2).val = win0_3.index t 2 * 1024 + 1 * (x 2).val; rw [h2]; omega

theorem final3 (c : Dev nD) (hf : Fits (org m c) (dir m c)) : (dats m 0 c).arrAt 3 cfg0.N = arr3 m c :=
  (dats m 0 c).arrAt_eq_of_cover 3 (arr3 m c) (flushed3 m c hf) fun i =>
    ⟨⟨(i 1 : Nat) / 16, row_of (i 1)⟩, flush0_3 _, by
      show i ∈ ((View.whole main_call0_v4_1).slice (win0_3.rect ⟨(i 1 : Nat) / 16, row_of (i 1)⟩)).set
      rw [View.set_slice_whole, Rect.mem_set_unit]
      obtain ⟨h0, h1, h2⟩ := idx_out3 ⟨(i 1 : Nat) / 16, row_of (i 1)⟩
      obtain ⟨s0, s1, s2, x0, x1, x2⟩ := sz_out3 ⟨(i 1 : Nat) / 16, row_of (i 1)⟩
      have l0 : (i 0 : Nat) < 3 := (i 0).isLt
      have l2 : (i 2 : Nat) < 1024 := (i 2).isLt
      intro a
      match a with
      | ⟨0, _⟩ =>
        show win0_3.index _ 0 * win0_3.size 0 ≤ (i 0 : Nat) ∧ (i 0 : Nat) < win0_3.index _ 0 * win0_3.size 0 + win0_3.xsize _ 0
        rw [h0, s0, x0]; omega
      | ⟨1, _⟩ =>
        show win0_3.index _ 1 * win0_3.size 1 ≤ (i 1 : Nat) ∧ (i 1 : Nat) < win0_3.index _ 1 * win0_3.size 1 + win0_3.xsize _ 1
        rw [h1, s1, x1]; dsimp only; omega
      | ⟨2, _⟩ =>
        show win0_3.index _ 2 * win0_3.size 2 ≤ (i 2 : Nat) ∧ (i 2 : Nat) < win0_3.index _ 2 * win0_3.size 2 + win0_3.xsize _ 2
        rw [h2, s2, x2]; omega⟩

end Cert.KernelIdeal.Blocks

end
-- ==== Proof.Result.lean ====
/-
  The kernel's run: what each result holds for each ray.
-/
module

public import proofs.«01_k».proof.Proof.Blocks

@[expose] public section

noncomputable section

open Idealize.ShloMosaic Idealize.ShloMosaic.TcCoe Idealize.SL.Sem

namespace Cert.KernelIdeal.Result

open Cert.KernelIdeal Cert.KernelIdeal.Gen Cert.Ray Cert.KernelIdeal.Blocks

/-- A flat array read of 128 rows of 1024. -/
theorem flat_at {α : Type} (x : S128x1024.Idx → α) (h) (n : Fin 131072) :
    shapeCast S131072 x h (ix1 n) =
      x (ix2 (⟨n.val / 1024, by omega⟩ : Fin 128) (⟨n.val % 1024, by omega⟩ : Fin 1024)) := by
  pointwise

/-- Points by ray read of three rows of points. -/
theorem cols_at {α : Type} (x : S3x128x1024.Idx → α) (h h') (n : Fin 131072) (k : Fin 3) :
    transpose S131072x3 [1, 0] (shapeCast S3x131072 x h) h' (ix2 n k) =
      x (ix3 k (⟨n.val / 1024, by omega⟩ : Fin 128) (⟨n.val % 1024, by omega⟩ : Fin 1024)) := by
  pointwise

theorem at2_split (n : Fin 131072) :
    at2 (⟨n.val / 1024, by omega⟩ : Fin 128) (⟨n.val % 1024, by omega⟩ : Fin 1024) = n :=
  Fin.ext (by show n.val / 1024 * 1024 + n.val % 1024 = n.val; omega)

theorem bit_back (b : Bool) :
    IntOp.cmpi .ne ((BitVec.ofBool b).zeroExtend 32) (0#32) = BitVec.ofBool b := by cases b <;> rfl

variable (m : (ℓ : Loc nD τ sig) → Buf (Elt Ideal) ℓ) (ρ : Dev nD → PrngReg)

/-- The run: for every ray, whether it converged, and the point, distance and travel reported; the arguments unchanged. -/
theorem run (hf : ∀ c : Dev nD, Fits (org m c) (dir m c)) :
    θ_run defs (onTc (τ := τ) (main (F := Ideal))) ⟨m, fun _ => 0, ρ⟩ fun r => ∀ c : Dev nD,
      (∀ n, (r.2.mem ((c.tc : Thread nD τ).loc main_v0_0) : IVec S131072 1) (ix1 n) = BitVec.ofBool (hit m c n))
      ∧ (∀ n k, (r.2.mem ((c.tc : Thread nD τ).loc main_v0_1) : FVec Ideal S131072x3 .f32) (ix2 n k) =
          ((spot m c n k : ℝ) : EReal))
      ∧ (∀ n, (r.2.mem ((c.tc : Thread nD τ).loc main_v0_2) : FVec Ideal S131072 .f32) (ix1 n) = ((dist m c n : ℝ) : EReal))
      ∧ (∀ n, (r.2.mem ((c.tc : Thread nD τ).loc main_v0_3) : FVec Ideal S131072 .f32) (ix1 n) =
          ((travel m c n : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono ?_ (θ_run_and (run_main m ρ) (unchanged m ρ))
  rintro r ⟨h, hu⟩ c
  have l0 := Host.left m c 2
  have l1 := Host.left m c 3
  have l2 := Host.left m c 4
  have l3 := Host.left m c 5
  rw [final2 m c (hf c)] at l0
  rw [final3 m c (hf c)] at l1
  rw [final4 m c (hf c)] at l2
  rw [final5 m c (hf c)] at l3
  refine ⟨fun n => ?_, fun n k => ?_, fun n => ?_, fun n => ?_, hu c⟩
  · rw [(h c).2 main_v0_0 (by decide)]
    refine (congrFun (Host.out0 _) (ix1 n)).trans ((flat_at _ _ n).trans ?_)
    refine (congrArg (fun x : BitVec 32 => IntOp.cmpi .ne x (0#32)) (congrFun l0 _)).trans ?_
    exact (bit_back _).trans (congrArg (fun n => BitVec.ofBool (hit m c n)) (at2_split n))
  · rw [(h c).2 main_v0_1 (by decide)]
    refine (congrFun (Host.out1 _) (ix2 n k)).trans ((cols_at _ _ _ n k).trans ((congrFun l1 _).trans ?_))
    exact congrArg (fun n => ((spot m c n k : ℝ) : EReal)) (at2_split n)
  · rw [(h c).2 main_v0_2 (by decide)]
    refine (congrFun (Host.out2 _) (ix1 n)).trans ((flat_at _ _ n).trans ((congrFun l2 _).trans ?_))
    exact congrArg (fun n => ((dist m c n : ℝ) : EReal)) (at2_split n)
  · rw [(h c).2 main_v0_3 (by decide)]
    refine (congrFun (Host.out3 _) (ix1 n)).trans ((flat_at _ _ n).trans ((congrFun l3 _).trans ?_))
    exact congrArg (fun n => ((travel m c n : ℝ) : EReal)) (at2_split n)

end Cert.KernelIdeal.Result

end
-- ==== Proof.Steps.lean ====
/-
  One step of the reference's march, read for one ray.
-/
module

public import proofs.«01_k».proof.Proof.Gen.ReferenceIdeal
public import proofs.«01_k».proof.Proof.Consts
public import proofs.«01_k».proof.Proof.Ray
public import Idealize.ShloMosaic.Lib.Pointwise
public import Idealize.ShloMosaic.Lib.IdealHost

@[expose] public section

noncomputable section

open Idealize.ShloMosaic Idealize.ShloMosaic.TcCoe Idealize.SL.Sem

namespace Cert.ReferenceIdeal.Steps

open Cert.ReferenceIdeal Cert.Ray Cert.Consts

/-- Values by ray, bits by ray, points by ray. -/
abbrev V : Type := FVec Ideal S131072 .f32
abbrev M : Type := IVec S131072 1
abbrev P : Type := FVec Ideal S131072x3 .f32

/-- A value by ray, put beside each coordinate. -/
theorem beside {α : Type} (x : S131072.Idx → α) (h h') (n : Fin 131072) (k : Fin 3) :
    broadcastInDim S131072x3 ![0, 1] h (broadcastInDim S131072x1 ![0] h' x) (ix2 n k) = x (ix1 n) := by pointwise

/-- A constant put at every ray, or at every coordinate. -/
theorem const_at (b : BitVec 32) (h) (n : Fin 131072) :
    broadcastInDim S131072 ![] h (constant S_ .f32 b : FVec Ideal S_ .f32) (ix1 n) = Ideal.ofBits .f32 b := by pointwise
theorem idconst_at (b : BitVec 32) (h) (n : Fin 131072) :
    broadcastInDim S131072 ![] h (id (constant S_ .f32 b : FVec Ideal S_ .f32)) (ix1 n) = Ideal.ofBits .f32 b := by
  pointwise
  rfl
theorem idconst3_at (b : BitVec 32) (h) (n : Fin 131072) (k : Fin 3) :
    broadcastInDim S131072x3 ![] h (id (constant S_ .f32 b : FVec Ideal S_ .f32)) (ix2 n k) = Ideal.ofBits .f32 b := by
  pointwise
  rfl

theorem addf_at {s : Shape} (x y : FVec Ideal s .f32) (i : s.Idx) : addf x y i = (x i + y i : EReal) := rfl
theorem subf_at {s : Shape} (x y : FVec Ideal s .f32) (i : s.Idx) : subf x y i = (x i - y i : EReal) := rfl
theorem mulf_at {s : Shape} (x y : FVec Ideal s .f32) (i : s.Idx) : mulf x y i = (x i * y i : EReal) := rfl
theorem sqrt_at {s : Shape} (x : FVec Ideal s .f32) (i : s.Idx) : Host.sqrt x i = Ideal.sqrt (x i) := rfl
theorem habsf_at {s : Shape} (x : FVec Ideal s .f32) (i : s.Idx) : Host.absf x i = max (x i : EReal) (-(x i : EReal)) := rfl

/-- The signed distance of the points. -/
theorem sdf_of {p : P} {n : Fin 131072} {x y z : ℝ} (hx : p (ix2 n (0 : Fin 3)) = ((x : ℝ) : EReal))
    (hy : p (ix2 n (1 : Fin 3)) = ((y : ℝ) : EReal)) (hz : p (ix2 n (2 : Fin 3)) = ((z : ℝ) : EReal))
    (h : S131072x3.ReducesTo [1] S131072) (hu h') :
    subf (Host.sqrt (Host.reduceAdd (mulf p p) (constant S_ .f32 0x00000000#32) h hu))
      (broadcastInDim S131072 ![] h' (constant S_ .f32 0x3F800000#32)) (ix1 n) = ((sdf x y z : ℝ) : EReal) := by
  have hs : Host.reduceAdd (mulf p p) (constant S_ .f32 0x00000000#32) h hu (ix1 n) =
      ((x * x + y * y + z * z : ℝ) : EReal) := by
    pointwise
    rw [Fin.sum_univ_three, hx, hy, hz, mul_coe, mul_coe, mul_coe, add_coe, add_coe]
  rw [subf_at, sqrt_at, hs, const_at, ofBits_one, sqrt_coe _ (sq_nonneg3 x y z), sub_coe]
  rfl

/-- Ray `n`'s state after `k` steps, as the four arrays of the march hold it. -/
structure Holds (l : Line) (n : Fin 131072) (k : ℕ) (u : M) (acc cur : V) (p : P) : Prop where
  hu : u (ix1 n) = BitVec.ofBool (march thr l k).unf
  ha : acc (ix1 n) = (((march thr l k).acc : ℝ) : EReal)
  hc : cur (ix1 n) = (((march thr l k).cur : ℝ) : EReal)
  hx : p (ix2 n (0 : Fin 3)) = (((march thr l k).x : ℝ) : EReal)
  hy : p (ix2 n (1 : Fin 3)) = (((march thr l k).y : ℝ) : EReal)
  hz : p (ix2 n (2 : Fin 3)) = (((march thr l k).z : ℝ) : EReal)

/-- Ray `n` as the arguments hold it. -/
structure Is (l : Line) (n : Fin 131072) (o d : P) (lo hi : V) (w : M) : Prop where
  ox : o (ix2 n (0 : Fin 3)) = ((l.ox : ℝ) : EReal)
  oy : o (ix2 n (1 : Fin 3)) = ((l.oy : ℝ) : EReal)
  oz : o (ix2 n (2 : Fin 3)) = ((l.oz : ℝ) : EReal)
  dx : d (ix2 n (0 : Fin 3)) = ((l.dx : ℝ) : EReal)
  dy : d (ix2 n (1 : Fin 3)) = ((l.dy : ℝ) : EReal)
  dz : d (ix2 n (2 : Fin 3)) = ((l.dz : ℝ) : EReal)
  lo0 : lo (ix1 n) = ((0 : ℝ) : EReal)
  hi6 : hi (ix1 n) = ((6 : ℝ) : EReal)
  w1 : w (ix1 n) = 1#1

variable {l : Line} {n : Fin 131072} {o d : P} {lo hi : V} {w : M}

/-- A point moved along the ray. -/
theorem moved {p d : P} {t : V} {k : Fin 3} {x v s : ℝ} (hp : p (ix2 n k) = ((x : ℝ) : EReal))
    (hd : d (ix2 n k) = ((v : ℝ) : EReal)) (ht : t (ix1 n) = ((s : ℝ) : EReal)) (h h') :
    addf p (mulf d (broadcastInDim S131072x3 ![0, 1] h (broadcastInDim S131072x1 ![0] h' t))) (ix2 n k) =
      ((x + v * s : ℝ) : EReal) := by
  rw [addf_at, mulf_at, beside, hp, hd, ht, mul_coe, add_coe]

/-- Whether the march goes on. -/
theorem goes {u : M} {cur acc : V} {b : Bool} {x a : ℝ} (hu : u (ix1 n) = BitVec.ofBool b)
    (hc : cur (ix1 n) = ((x : ℝ) : EReal)) (ha : acc (ix1 n) = ((a : ℝ) : EReal)) (h6 : hi (ix1 n) = ((6 : ℝ) : EReal)) (h) :
    andi (andi u (cmpf .ogt (Host.absf cur) (broadcastInDim S131072 ![] h (constant S_ .f32 0x3851B717#32))))
      (cmpf .olt acc hi) (ix1 n) = BitVec.ofBool (b && decide (thr < |x|) && decide (a < 6)) := by
  rw [andi_at, andi_at, cmpf_at, cmpf_at, habsf_at, const_at, ofBits_thr, hu, hc, ha, h6, abs_coe, ogt_coe, olt_coe, and_ofBool, and_ofBool]

/-- The start. -/
theorem first_holds (H : Is l n o d lo hi w) (h h' hr hu h1 h2) :
    Holds l n 0
      (andi (andi w (cmpf .ogt (Host.absf
        (subf (Host.sqrt (Host.reduceAdd (mulf (addf o (mulf d (broadcastInDim S131072x3 ![0, 1] h (broadcastInDim S131072x1 ![0] h' lo))))
          (addf o (mulf d (broadcastInDim S131072x3 ![0, 1] h (broadcastInDim S131072x1 ![0] h' lo)))))
          (constant S_ .f32 0x00000000#32) (hr : S131072x3.ReducesTo [1] S131072) hu))
          (broadcastInDim S131072 ![] h1 (constant S_ .f32 0x3F800000#32))))
        (broadcastInDim S131072 ![] h2 (constant S_ .f32 0x3851B717#32)))) (cmpf .olt lo hi))
      lo
      (subf (Host.sqrt (Host.reduceAdd (mulf (addf o (mulf d (broadcastInDim S131072x3 ![0, 1] h (broadcastInDim S131072x1 ![0] h' lo))))
          (addf o (mulf d (broadcastInDim S131072x3 ![0, 1] h (broadcastInDim S131072x1 ![0] h' lo)))))
          (constant S_ .f32 0x00000000#32) (hr : S131072x3.ReducesTo [1] S131072) hu))
          (broadcastInDim S131072 ![] h1 (constant S_ .f32 0x3F800000#32)))
      (addf o (mulf d (broadcastInDim S131072x3 ![0, 1] h (broadcastInDim S131072x1 ![0] h' lo)))) := by
  have hx := moved H.ox H.dx H.lo0 h h'
  have hy := moved H.oy H.dy H.lo0 h h'
  have hz := moved H.oz H.dz H.lo0 h h'
  rw [mul_zero, add_zero] at hx hy hz
  have hc := sdf_of hx hy hz hr hu h1
  have hw : w (ix1 n) = BitVec.ofBool true := H.w1
  have hg := goes hw hc H.lo0 H.hi6 h2
  exact ⟨hg.trans (congrArg BitVec.ofBool (by simp [march, start])), H.lo0, hc, hx, hy, hz⟩

/-- A step. -/
theorem next_holds (H : Is l n o d lo hi w) {k : ℕ} {u : M} {acc cur : V} {p : P} (S : Holds l n k u acc cur p)
    (h h' h0 hr hu h1 h2) :
    Holds l n (k + 1)
      (andi (andi u (cmpf .ogt (Host.absf (select u
        (subf (Host.sqrt (Host.reduceAdd (mulf
          (addf p (mulf d (broadcastInDim S131072x3 ![0, 1] h (broadcastInDim S131072x1 ![0] h'
            (select u cur (broadcastInDim S131072 ![] h0 (id (constant S_ .f32 0x00000000#32))))))))
          (addf p (mulf d (broadcastInDim S131072x3 ![0, 1] h (broadcastInDim S131072x1 ![0] h'
            (select u cur (broadcastInDim S131072 ![] h0 (id (constant S_ .f32 0x00000000#32)))))))))
          (constant S_ .f32 0x00000000#32) (hr : S131072x3.ReducesTo [1] S131072) hu))
          (broadcastInDim S131072 ![] h1 (constant S_ .f32 0x3F800000#32))) cur))
        (broadcastInDim S131072 ![] h2 (constant S_ .f32 0x3851B717#32))))
        (cmpf .olt (addf acc (select u cur (broadcastInDim S131072 ![] h0 (id (constant S_ .f32 0x00000000#32))))) hi))
      (addf acc (select u cur (broadcastInDim S131072 ![] h0 (id (constant S_ .f32 0x00000000#32)))))
      (select u
        (subf (Host.sqrt (Host.reduceAdd (mulf
          (addf p (mulf d (broadcastInDim S131072x3 ![0, 1] h (broadcastInDim S131072x1 ![0] h'
            (select u cur (broadcastInDim S131072 ![] h0 (id (constant S_ .f32 0x00000000#32))))))))
          (addf p (mulf d (broadcastInDim S131072x3 ![0, 1] h (broadcastInDim S131072x1 ![0] h'
            (select u cur (broadcastInDim S131072 ![] h0 (id (constant S_ .f32 0x00000000#32)))))))))
          (constant S_ .f32 0x00000000#32) (hr : S131072x3.ReducesTo [1] S131072) hu))
          (broadcastInDim S131072 ![] h1 (constant S_ .f32 0x3F800000#32))) cur)
      (addf p (mulf d (broadcastInDim S131072x3 ![0, 1] h (broadcastInDim S131072x1 ![0] h'
            (select u cur (broadcastInDim S131072 ![] h0 (id (constant S_ .f32 0x00000000#32)))))))) := by
  have hst : select u cur (broadcastInDim S131072 ![] h0 (id (constant S_ .f32 0x00000000#32 : FVec Ideal S_ .f32))) (ix1 n) =
      (((if (march thr l k).unf then (march thr l k).cur else 0 : ℝ)) : EReal) := by
    rw [select_at, idconst_at, ofBits_zero, S.hu, S.hc, select_coe]
  have hx := moved S.hx H.dx hst h h'
  have hy := moved S.hy H.dy hst h h'
  have hz := moved S.hz H.dz hst h h'
  have hc := sdf_of hx hy hz hr hu h1
  have hcur : ∀ (v : V) (a : ℝ), v (ix1 n) = ((a : ℝ) : EReal) → select u v cur (ix1 n) =
      ((if (march thr l k).unf then a else (march thr l k).cur : ℝ) : EReal) :=
    fun v a hv => (select_at u v cur (ix1 n)).trans ((congr (congr (congrArg _ S.hu) hv) S.hc).trans (select_coe _ _ _))
  have hcur := hcur _ _ hc
  have hacc : addf acc (select u cur (broadcastInDim S131072 ![] h0 (id (constant S_ .f32 0x00000000#32)))) (ix1 n) =
      (((march thr l k).acc + (if (march thr l k).unf then (march thr l k).cur else 0) : ℝ) : EReal) := by
    rw [addf_at, S.ha, hst, add_coe]
  exact ⟨goes S.hu hcur hacc H.hi6 h2, hacc, hcur, hx, hy, hz⟩

end Cert.ReferenceIdeal.Steps

end
-- ==== Proof.Pre.lean ====
/-
  The precondition, read for one ray: its origin and direction are finite, the origin lies on or outside the sphere, and
  the interval is [0, 6].
-/
module

public import proofs.«01_k».proof.Pre_rays_outside
public import proofs.«01_k».proof.Proof.Steps
public import proofs.«01_k».proof.Proof.Blocks

@[expose] public section

noncomputable section

open Idealize.ShloMosaic Idealize.ShloMosaic.TcCoe Idealize.SL.Sem

namespace Cert.ReferenceIdeal.Pre

open Cert.ReferenceIdeal Cert.ReferenceIdeal.Gen Cert.ReferenceIdeal.Steps Cert.Ray Cert.Consts

/-- The shape relations the precondition states, which the reference's program states too. -/
theorem facts : Cert.Pre_rays_outside.Facts where
  reducesTo_S131072x3_S131072_d1 := reducesTo_S131072x3_S131072_d1
  h_S_ := h_S_
  bcast_S_S131072 := bcast_S_S131072

attribute [local instance] facts

theorem and_one (x y : BitVec 1) : x &&& y = 1#1 ↔ x = 1#1 ∧ y = 1#1 := by
  revert x y; decide
theorem ofBool_one (b : Bool) : BitVec.ofBool b = 1#1 ↔ b = true := by
  cases b <;> decide

theorem oge_one (x y : EReal) : Ideal.cmp .oge x y = 1#1 ↔ y ≤ x := (ofBool_one _).trans decide_eq_true_iff
theorem olt_one (x y : EReal) : Ideal.cmp .olt x y = 1#1 ↔ x < y := (ofBool_one _).trans decide_eq_true_iff
theorem oeq_one (x y : EReal) : Ideal.cmp .oeq x y = 1#1 ↔ x = y := (ofBool_one _).trans decide_eq_true_iff

theorem sq_nonneg' (x : EReal) : 0 ≤ x * x := by
  induction x with
  | bot => simp
  | top => simp
  | coe r => rw [mul_coe]; exact EReal.coe_nonneg.2 (mul_self_nonneg r)

/-- A finite square has a finite root. -/
theorem real_of_sq {x y : EReal} (hy : 0 ≤ y) (h : x * x + y < ⊤) : x = ((x.toReal : ℝ) : EReal) := by
  have hb : y ≠ ⊥ := fun e => by rw [e] at hy; simp at hy
  induction x with
  | bot => rw [EReal.bot_mul_bot, EReal.top_add_of_ne_bot hb] at h; exact absurd h (lt_irrefl _)
  | top => rw [EReal.top_mul_top, EReal.top_add_of_ne_bot hb] at h; exact absurd h (lt_irrefl _)
  | coe r => rw [EReal.toReal_coe]

/-- The square of a row's length. -/
theorem norm_at (p : P) (h : S131072x3.ReducesTo [1] S131072) (hu) (n : Fin 131072) :
    Host.reduceAdd (mulf p p) (constant S_ .f32 0x00000000#32) h hu (ix1 n) =
      (p (ix2 n (0 : Fin 3)) * p (ix2 n (0 : Fin 3)) + p (ix2 n (1 : Fin 3)) * p (ix2 n (1 : Fin 3)) +
        p (ix2 n (2 : Fin 3)) * p (ix2 n (2 : Fin 3)) : EReal) := by
  pointwise
  rw [Fin.sum_univ_three]

theorem real_row {p : P} {n : Fin 131072}
    (h : (p (ix2 n (0 : Fin 3)) * p (ix2 n (0 : Fin 3)) + p (ix2 n (1 : Fin 3)) * p (ix2 n (1 : Fin 3)) +
      p (ix2 n (2 : Fin 3)) * p (ix2 n (2 : Fin 3)) : EReal) < ⊤) (k : Fin 3) :
    p (ix2 n k) = (((p (ix2 n k) : EReal).toReal : ℝ) : EReal) := by
  generalize hx : (p (ix2 n (0 : Fin 3)) : EReal) = x at h
  generalize hy : (p (ix2 n (1 : Fin 3)) : EReal) = y at h
  generalize hz : (p (ix2 n (2 : Fin 3)) : EReal) = z at h
  fin_cases k
  · exact hx ▸ real_of_sq (add_nonneg (sq_nonneg' y) (sq_nonneg' z)) (by rwa [← add_assoc])
  · exact hy ▸ real_of_sq (add_nonneg (sq_nonneg' x) (sq_nonneg' z)) (by rwa [← add_assoc, add_comm (y * y)])
  · exact hz ▸ real_of_sq (add_nonneg (sq_nonneg' x) (sq_nonneg' y)) (by rwa [add_comm (z * z)])

variable {o d : P} {lo hi : V} {w : M}

theorem read (h : Cert.Pre_rays_outside.fn (F := Ideal) o d lo hi w = fun _ => 1#1) (n : Fin 131072) :
    ((((((1 : ℝ) : EReal) ≤ (o (ix2 n (0 : Fin 3)) * o (ix2 n (0 : Fin 3)) + o (ix2 n (1 : Fin 3)) * o (ix2 n (1 : Fin 3)) +
        o (ix2 n (2 : Fin 3)) * o (ix2 n (2 : Fin 3)) : EReal) ∧
      (o (ix2 n (0 : Fin 3)) * o (ix2 n (0 : Fin 3)) + o (ix2 n (1 : Fin 3)) * o (ix2 n (1 : Fin 3)) +
        o (ix2 n (2 : Fin 3)) * o (ix2 n (2 : Fin 3)) : EReal) < ⊤) ∧
      (d (ix2 n (0 : Fin 3)) * d (ix2 n (0 : Fin 3)) + d (ix2 n (1 : Fin 3)) * d (ix2 n (1 : Fin 3)) +
        d (ix2 n (2 : Fin 3)) * d (ix2 n (2 : Fin 3)) : EReal) < ⊤) ∧
      lo (ix1 n) = ((0 : ℝ) : EReal)) ∧ hi (ix1 n) = ((6 : ℝ) : EReal)) ∧ w (ix1 n) = 1#1 := by
  have h1 := congrFun h (ix1 n)
  unfold Cert.Pre_rays_outside.fn Cert.Pre_rays_outside.fn_part1 at h1
  dsimp only at h1
  rw [andi_at, andi_at, andi_at, andi_at, andi_at, cmpf_at, cmpf_at, cmpf_at, cmpf_at, cmpf_at, const_at, const_at, const_at,
    const_at, ofBits_zero, ofBits_one, ofBits_six, ofBits_inf, norm_at, norm_at] at h1
  simpa only [and_one, oge_one, olt_one, oeq_one] using h1

theorem fits (h : Cert.Pre_rays_outside.fn (F := Ideal) o d lo hi w = fun _ => 1#1) : Fits o d where
  ho n k := real_row (read h n).1.1.1.1.2 k
  hd n k := real_row (read h n).1.1.1.2 k
  hc n := by
    have h1 := (read h n).1.1.1.1.1
    have h2 := real_row (p := o) (read h n).1.1.1.1.2
    rw [h2 0, h2 1, h2 2, mul_coe, mul_coe, mul_coe, add_coe, add_coe, EReal.coe_le_coe_iff] at h1
    unfold Line.c lineOf
    dsimp only
    linarith

theorem holds (h : Cert.Pre_rays_outside.fn (F := Ideal) o d lo hi w = fun _ => 1#1) (n : Fin 131072) :
    Is (lineOf o d n) n o d lo hi w :=
  have H := fits h
  ⟨H.ho n 0, H.ho n 1, H.ho n 2, H.hd n 0, H.hd n 1, H.hd n 2, (read h n).1.1.2, (read h n).1.2, (read h n).2⟩

end Cert.ReferenceIdeal.Pre

end
-- ==== Proof.Loop.lean ====
/-
  The reference's march, read for one ray.
-/
module

public import proofs.«01_k».proof.Proof.Gen.ReferenceIdeal.Run
public import proofs.«01_k».proof.Proof.Steps

@[expose] public section

noncomputable section

open Idealize.ShloMosaic Idealize.ShloMosaic.TcCoe Idealize.SL.Sem

namespace Cert.ReferenceIdeal.Loop

open Cert.ReferenceIdeal Cert.ReferenceIdeal.Gen Cert.ReferenceIdeal.Value Cert.ReferenceIdeal.Steps Cert.Ray Cert.Consts

variable {l : Line} {n : Fin 131072} {V0 : Valuation τ sig (Elt Ideal)}

/-- The arguments hold the ray. -/
abbrev Args (l : Line) (n : Fin 131072) (V0 : Valuation τ sig (Elt Ideal)) : Prop :=
  Is l n (V0 (Proc.devRef .tc main_arg0)) (V0 (Proc.devRef .tc main_arg1)) (V0 (Proc.devRef .tc main_arg2))
    (V0 (Proc.devRef .tc main_arg3)) (V0 (Proc.devRef .tc main_arg4))

theorem m0 (H : Args l n V0) : Holds l n 0 (res_main_v14 V0) (V0 (Proc.devRef .tc main_arg2)) (res_main_v8 V0)
    (res_main_v3 V0) := first_holds H _ _ _ _ _ _

theorem m1 (H : Args l n V0) : Holds l n 1 (res_main_v32 V0) (res_main_v16 V0) (res_main_v26 V0)
    (res_main_v20 V0) := next_holds H (m0 H) _ _ _ _ _ _ _

theorem m2 (H : Args l n V0) : Holds l n 2 (res_main_v50 V0) (res_main_v34 V0) (res_main_v44 V0)
    (res_main_v38 V0) := next_holds H (m1 H) _ _ _ _ _ _ _

theorem m3 (H : Args l n V0) : Holds l n 3 (res_main_v68 V0) (res_main_v52 V0) (res_main_v62 V0)
    (res_main_v56 V0) := next_holds H (m2 H) _ _ _ _ _ _ _

theorem m4 (H : Args l n V0) : Holds l n 4 (res_main_v86 V0) (res_main_v70 V0) (res_main_v80 V0)
    (res_main_v74 V0) := next_holds H (m3 H) _ _ _ _ _ _ _

theorem m5 (H : Args l n V0) : Holds l n 5 (res_main_v104 V0) (res_main_v88 V0) (res_main_v98 V0)
    (res_main_v92 V0) := next_holds H (m4 H) _ _ _ _ _ _ _

theorem m6 (H : Args l n V0) : Holds l n 6 (res_main_v122 V0) (res_main_v106 V0) (res_main_v116 V0)
    (res_main_v110 V0) := next_holds H (m5 H) _ _ _ _ _ _ _

theorem m7 (H : Args l n V0) : Holds l n 7 (res_main_v140 V0) (res_main_v124 V0) (res_main_v134 V0)
    (res_main_v128 V0) := next_holds H (m6 H) _ _ _ _ _ _ _

theorem m8 (H : Args l n V0) : Holds l n 8 (res_main_v158 V0) (res_main_v142 V0) (res_main_v152 V0)
    (res_main_v146 V0) := next_holds H (m7 H) _ _ _ _ _ _ _

theorem m9 (H : Args l n V0) : Holds l n 9 (res_main_v176 V0) (res_main_v160 V0) (res_main_v170 V0)
    (res_main_v164 V0) := next_holds H (m8 H) _ _ _ _ _ _ _

theorem m10 (H : Args l n V0) : Holds l n 10 (res_main_v194 V0) (res_main_v178 V0) (res_main_v188 V0)
    (res_main_v182 V0) := next_holds H (m9 H) _ _ _ _ _ _ _

theorem m11 (H : Args l n V0) : Holds l n 11 (res_main_v212 V0) (res_main_v196 V0) (res_main_v206 V0)
    (res_main_v200 V0) := next_holds H (m10 H) _ _ _ _ _ _ _

theorem m12 (H : Args l n V0) : Holds l n 12 (res_main_v230 V0) (res_main_v214 V0) (res_main_v224 V0)
    (res_main_v218 V0) := next_holds H (m11 H) _ _ _ _ _ _ _

theorem m13 (H : Args l n V0) : Holds l n 13 (res_main_v248 V0) (res_main_v232 V0) (res_main_v242 V0)
    (res_main_v236 V0) := next_holds H (m12 H) _ _ _ _ _ _ _

theorem m14 (H : Args l n V0) : Holds l n 14 (res_main_v266 V0) (res_main_v250 V0) (res_main_v260 V0)
    (res_main_v254 V0) := next_holds H (m13 H) _ _ _ _ _ _ _

theorem m15 (H : Args l n V0) : Holds l n 15 (res_main_v284 V0) (res_main_v268 V0) (res_main_v278 V0)
    (res_main_v272 V0) := next_holds H (m14 H) _ _ _ _ _ _ _

theorem m16 (H : Args l n V0) : Holds l n 16 (res_main_v302 V0) (res_main_v286 V0) (res_main_v296 V0)
    (res_main_v290 V0) := next_holds H (m15 H) _ _ _ _ _ _ _

end Cert.ReferenceIdeal.Loop

end
-- ==== Proof.Search.lean ====
/-
  The reference's search by sign, read for one ray: the interval sampled, the samples, their weights, and whether the
  lowest weight is that of a sample after the first.
-/
module

public import proofs.«01_k».proof.Proof.Steps
public import proofs.«01_k».proof.Proof.Tail

@[expose] public section

noncomputable section

open Idealize.ShloMosaic Idealize.ShloMosaic.TcCoe Idealize.SL.Sem

namespace Cert.ReferenceIdeal.Search

open Cert.ReferenceIdeal Cert.ReferenceIdeal.Steps Cert.Ray Cert.Consts

variable {n : Fin 131072}

theorem uitofp_at {s : Shape} (x : IVec s 1) (i : s.Idx) :
    (uitofp .f32 x : FVec Ideal s .f32) i = (((x i).toNat : ℝ) : EReal) := rfl

theorem ofBits_128 : Ideal.ofBits .f32 0x43000000#32 = ((128 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul, -EReal.coe_neg, -EReal.coe_one]; norm_num

/-- One where the distance is positive, else nought. -/
theorem side_at {cur : V} {x : ℝ} (hc : cur (ix1 n) = ((x : ℝ) : EReal)) (h) :
    (uitofp .f32 (cmpf .ogt cur (broadcastInDim S131072 ![] h (constant S_ .f32 0x00000000#32))) : V) (ix1 n) =
      ((if 0 < x then 1 else 0 : ℝ) : EReal) := by
  rw [uitofp_at, cmpf_at, const_at, ofBits_zero, hc, ogt_coe]
  by_cases hx : 0 < x <;> simp [hx]

/-- One of two values, taken by multiplication. -/
theorem mix_at {v a b : V} {p : Prop} [Decidable p] {x y : ℝ}
    (hv : v (ix1 n) = ((if p then 1 else 0 : ℝ) : EReal)) (ha : a (ix1 n) = ((x : ℝ) : EReal))
    (hb : b (ix1 n) = ((y : ℝ) : EReal)) (h) :
    addf (mulf v a) (mulf (subf (broadcastInDim S131072 ![] h (constant S_ .f32 0x3F800000#32)) v) b) (ix1 n) =
      ((if p then x else y : ℝ) : EReal) := by
  rw [addf_at, mulf_at, mulf_at, subf_at, const_at, ofBits_one, hv, ha, hb, sub_coe, mul_coe, mul_coe, add_coe]
  by_cases hp : p <;> simp [hp]

theorem toInt_small (j : ℕ) (h : j < 128) : (BitVec.ofNat 32 j).toInt = (j : ℤ) := by
  rw [BitVec.toInt_eq_toNat_of_lt (by rw [BitVec.toNat_ofNat]; omega), BitVec.toNat_ofNat, Nat.mod_eq_of_lt (by omega)]

theorem sitofp_small (j : ℕ) (h : j < 128) :
    (FloatOps.sitofp FTy.f32 (BitVec.ofNat 32 j) : Ideal .f32) = (((j : ℝ) : ℝ) : EReal) := by
  show ((((BitVec.ofNat 32 j).toInt : ℝ) : ℝ) : EReal) = _
  rw [toInt_small j h, Int.cast_natCast]

/-- The 128 fractions. -/
theorem lin_at (h1 h2 h3 h4 h5 h6 h7) (j : Fin 128) :
    concatenate S128 0 [⟨S127, (addf (mulf (broadcastInDim S127 ![0] h1 (shapeCast S1 (id (constant S_ .f32 0x00000000#32)) h2))
      (subf (broadcastInDim S127 ![] h3 (constant S_ .f32 0x3F800000#32))
        (Host.divf (sitofp .f32 (iotaInDim S127 32 0)) (broadcastInDim S127 ![] h4 (constant S_ .f32 0x42FE0000#32)))))
      (mulf (broadcastInDim S127 ![0] h5 (shapeCast S1 (id (constant S_ .f32 0x3F800000#32)) h2))
        (Host.divf (sitofp .f32 (iotaInDim S127 32 0)) (broadcastInDim S127 ![] h4 (constant S_ .f32 0x42FE0000#32)))) :
          FVec Ideal S127 .f32)⟩,
      ⟨S1, (broadcastInDim S1 ![] h6 (id (constant S_ .f32 0x3F800000#32)))⟩] h7 (ix1 j) = ((j.val * 127⁻¹ : ℝ) : EReal) := by
  pointwise
  have h0 : (id (constant S_ FTy.f32 0#32 : FVec Ideal S_ .f32) ix0 : EReal) = ((0 : ℝ) : EReal) := ofBits_zero
  have h1' : (id (constant S_ FTy.f32 1065353216#32 : FVec Ideal S_ .f32) ix0 : EReal) = ((1 : ℝ) : EReal) := ofBits_one
  split
  · rw [h0, h1', sitofp_small _ j.isLt, ofBits_127, div_coe _ _ (by norm_num), mul_coe]
    rw [show (1 : EReal) = ((1 : ℝ) : EReal) from rfl, sub_coe, mul_coe, add_coe]
    congr 1
    ring
  · rw [h1']
    have : j.val = 127 := by omega
    rw [this]
    congr 1
    norm_num

/-- The samples. -/
theorem sample_at {a g : V} {x y : ℝ} (ha : a (ix1 n) = ((x : ℝ) : EReal)) (hg : g (ix1 n) = ((y : ℝ) : EReal))
    {f : FVec Ideal S128 .f32} (hf : ∀ j : Fin 128, f (ix1 j) = ((j.val * 127⁻¹ : ℝ) : EReal)) (h1 h2 h3 h4 h5 h6)
    (j : Fin 128) :
    addf (broadcastInDim S131072x128 ![0, 1] h1 (broadcastInDim S131072x1 ![0] h2 a))
      (mulf (broadcastInDim S131072x128 ![0, 1] h3 (broadcastInDim S1x128 ![1] h4 f))
        (broadcastInDim S131072x128 ![0, 1] h5 (broadcastInDim S131072x1 ![0] h6 g))) (ix2 n j) =
      ((x + j.val * (y * 127⁻¹) : ℝ) : EReal) := by
  pointwise
  rw [ha, hg, hf, mul_coe, add_coe]
  congr 1
  ring

/-- The points at the samples. -/
theorem point_at {o d : P} {t : FVec Ideal S131072x128 .f32} {k : Fin 3} {j : Fin 128} {x v s : ℝ}
    (ho : o (ix2 n k) = ((x : ℝ) : EReal)) (hd : d (ix2 n k) = ((v : ℝ) : EReal))
    (ht : t (ix2 n j) = ((s : ℝ) : EReal)) (h1 h2 h3 h4 h5 h6) :
    addf (broadcastInDim S131072x128x3 ![0, 1, 2] h1 (broadcastInDim S131072x1x3 ![0, 2] h2 o))
      (mulf (broadcastInDim S131072x128x3 ![0, 1, 2] h3 (broadcastInDim S131072x1x3 ![0, 2] h4 d))
        (broadcastInDim S131072x128x3 ![0, 1, 2] h5 (broadcastInDim S131072x128x1 ![0, 1] h6 t))) (ix3 n j k) =
      ((x + v * s : ℝ) : EReal) := by
  pointwise
  rw [ho, hd, ht, mul_coe, add_coe]

/-- A constant put at every sample. -/
theorem const2_at (b : BitVec 32) (h) (n : Fin 131072) (j : Fin 128) :
    broadcastInDim S131072x128 ![] h (constant S_ .f32 b : FVec Ideal S_ .f32) (ix2 n j) = Ideal.ofBits .f32 b := by
  pointwise

theorem sign_at {s : Shape} (x : FVec Ideal s .f32) (i : s.Idx) : Host.sign x i = Ideal.sign (x i) := rfl
theorem sign_coe (x : ℝ) : Ideal.sign ((x : ℝ) : EReal) = (((SignType.sign x : SignType) : ℝ) : EReal) := rfl

/-- The weights: the sign of the distance times 128 less the sample's number. -/
theorem weight_at {p : FVec Ideal S131072x128x3 .f32} {j : Fin 128} {x y z : ℝ}
    (hx : p (ix3 n j (0 : Fin 3)) = ((x : ℝ) : EReal)) (hy : p (ix3 n j (1 : Fin 3)) = ((y : ℝ) : EReal))
    (hz : p (ix3 n j (2 : Fin 3)) = ((z : ℝ) : EReal)) (h1 : S131072x128x3.ReducesTo [2] S131072x128) (h2 h3 h4 h5 h6 h7) :
    mulf (Host.sign (subf (Host.sqrt (Host.reduceAdd (mulf p p) (constant S_ .f32 0x00000000#32) h1 h2))
        (broadcastInDim S131072x128 ![] h3 (constant S_ .f32 0x3F800000#32))))
      (broadcastInDim S131072x128 ![0, 1] h4 (broadcastInDim S1x128 ![1] h5
        (addf (broadcastInDim S128 ![] h6 (constant S_ .f32 0x43000000#32))
          (mulf (broadcastInDim S128 ![] h7 (constant S_ .f32 0xBF800000#32)) (sitofp .f32 (iotaInDim S128 32 0))))))
      (ix2 n j) = (((SignType.sign (sdf x y z) : SignType) * (128 - j.val) : ℝ) : EReal) := by
  have hs : Host.reduceAdd (mulf p p) (constant S_ .f32 0x00000000#32) h1 h2 (ix2 n j) =
      ((x * x + y * y + z * z : ℝ) : EReal) := by
    pointwise
    rw [Fin.sum_univ_three, hx, hy, hz, mul_coe, mul_coe, mul_coe, add_coe, add_coe]
  have hd : subf (Host.sqrt (Host.reduceAdd (mulf p p) (constant S_ .f32 0x00000000#32) h1 h2))
        (broadcastInDim S131072x128 ![] h3 (constant S_ .f32 0x3F800000#32)) (ix2 n j) = ((sdf x y z : ℝ) : EReal) := by
    rw [subf_at, sqrt_at, hs, const2_at, ofBits_one, sqrt_coe _ (sq_nonneg3 x y z), sub_coe]
    rfl
  have hn : (broadcastInDim S131072x128 ![0, 1] h4 (broadcastInDim S1x128 ![1] h5
        (addf (broadcastInDim S128 ![] h6 (constant S_ .f32 0x43000000#32))
          (mulf (broadcastInDim S128 ![] h7 (constant S_ .f32 0xBF800000#32)) (sitofp .f32 (iotaInDim S128 32 0))) :
            FVec Ideal S128 .f32))) (ix2 n j) = ((128 - j.val : ℝ) : EReal) := by
    pointwise
    rw [sitofp_small _ j.isLt, ofBits_128, ofBits_neg_one, mul_coe, add_coe]
    exact congrArg (fun r : ℝ => (r : EReal)) (by ring)
  rw [mulf_at, hn]
  rw [sign_at, hd, sign_coe, mul_coe]

/-- A minimum of integers, started at the greatest, is at least one when every entry is. -/
theorem one_le_fold (e : Fin 128 → BitVec 32) :
    (1#32).sle (Finset.fold IntOp.minsi 2147483647#32 e Finset.univ) = true ↔ ∀ j, (1#32).sle (e j) = true := by
  have hr : ∀ {x y z : BitVec 32}, (1#32 : BitVec 32).sle (IntOp.minsi y z) = true ↔
      (1#32 : BitVec 32).sle y = true ∧ (1#32 : BitVec 32).sle z = true := by
    intro _ y z
    unfold IntOp.minsi
    simp only [BitVec.sle, BitVec.slt, decide_eq_true_eq]
    split <;> omega
  have := Finset.fold_op_rel_iff_and (s := Finset.univ) (f := e) (b := 2147483647#32) (c := 1#32)
    (op := IntOp.minsi) (r := fun x y => (1#32 : BitVec 32).sle y = true) (fun {x y z} => hr (x := x))
  rw [this]
  constructor
  · exact fun h j => h.2 j (Finset.mem_univ j)
  · exact fun h => ⟨by decide, fun j _ => h j⟩

theorem sign_mul_neg (x y : ℝ) (hy : 0 < y) : ((SignType.sign x : SignType) : ℝ) * y < 0 ↔ x < 0 := by
  rcases lt_trichotomy x 0 with h | h | h
  · rw [sign_neg h]; simp [h, hy]
  · rw [h]; simp
  · rw [sign_pos h]; simp
    exact ⟨fun h' => absurd h' (not_lt.2 hy.le), fun h' => absurd h' (not_lt.2 h.le)⟩

theorem olt_coe' (m : EReal) (x : ℝ) : Ideal.cmp .olt m (x : EReal) = BitVec.ofBool (decide (m < (x : EReal))) := rfl
theorem cmpi_at {s : Shape} (p : CmpIPredicate) (x y : IVec s 32) (i : s.Idx) : cmpi p x y i = IntOp.cmpi p (x i) (y i) := rfl
theorem sge_one (x : BitVec 32) : IntOp.cmpi .sge x 1#32 = BitVec.ofBool ((1#32).sle x) := rfl

/-- The search finds: some distance is negative, and the first is not. -/
theorem finds_at {w : FVec Ideal S131072x128 .f32} {f : Fin 128 → ℝ}
    (hw : ∀ j : Fin 128, w (ix2 n j) = (((SignType.sign (f j) : SignType) * (128 - j.val) : ℝ) : EReal))
    (h1 : S131072x128.ReducesTo [1] S131072) (h2 h3 h4 h5 h6 h7 h8 h9) :
    andi (cmpf .olt (Host.reduce FloatOps.minimumf w (constant S_ .f32 0x7F800000#32) h1 h2)
        (broadcastInDim S131072 ![] h3 (constant S_ .f32 0x00000000#32)))
      (cmpi .sge (Host.reduce IntOp.minsi (select (cmpf .oeq w (broadcastInDim S131072x128 ![0, 1] h4
          (broadcastInDim S131072x1 ![0] h5 (Host.reduce FloatOps.minimumf w (constant S_ .f32 0x7F800000#32) h1 h2))))
        (broadcastInDim S131072x128 ![0, 1] h6 (broadcastInDim S1x128 ![1] h7 (iotaInDim S128 32 0)))
        (broadcastInDim S131072x128 ![] h8 (id (constantI S_ 32 128#32)))) (constantI S_ 32 2147483647#32) h1 h2)
        (broadcastInDim S131072 ![] h9 (constantI S_ 32 1#32))) (ix1 n) =
      BitVec.ofBool (decide ((∃ j, f j < 0) ∧ ¬ f 0 < 0)) := by
  have hm : ∃ m : EReal, Host.reduce FloatOps.minimumf w (constant S_ .f32 0x7F800000#32) h1 h2 (ix1 n) = m ∧
      m = Finset.fold min (⊤ : EReal) (fun j : Fin 128 => (w (ix2 n j) : EReal)) Finset.univ := by
    refine ⟨_, rfl, ?_⟩
    pointwise
    rw [ofBits_inf]
  obtain ⟨m, hm, hf⟩ := hm
  have hi : Host.reduce IntOp.minsi (select (cmpf .oeq w (broadcastInDim S131072x128 ![0, 1] h4
          (broadcastInDim S131072x1 ![0] h5 (Host.reduce FloatOps.minimumf w (constant S_ .f32 0x7F800000#32) h1 h2))))
        (broadcastInDim S131072x128 ![0, 1] h6 (broadcastInDim S1x128 ![1] h7 (iotaInDim S128 32 0)))
        (broadcastInDim S131072x128 ![] h8 (id (constantI S_ 32 128#32)))) (constantI S_ 32 2147483647#32) h1 h2 (ix1 n) =
      Finset.fold IntOp.minsi 2147483647#32 (fun j : Fin 128 =>
        if (w (ix2 n j) : EReal) = m then BitVec.ofNat 32 j.val else 128#32) Finset.univ := by
    generalize Host.reduce FloatOps.minimumf w (constant S_ .f32 0x7F800000#32) h1 h2 = r at hm
    pointwise
    rw [hm]
    rfl
  have hone : broadcastInDim S131072 ![] h9 (constantI S_ 32 1#32) (ix1 n) = 1#32 := by pointwise
  rw [andi_at, cmpf_at, hm, const_at, ofBits_zero, cmpi_at, hi, hone]
  have hlow : ∀ j : Fin 128, m ≤ (w (ix2 n j) : EReal) := fun j => by
    rw [hf]
    exact (Finset.le_fold_min (s := Finset.univ) (f := fun j : Fin 128 => (w (ix2 n j) : EReal)) (b := ⊤) _).1 le_rfl |>.2 j
      (Finset.mem_univ j)
  have hneg : m < ((0 : ℝ) : EReal) ↔ ∃ j, f j < 0 := by
    rw [hf, Finset.fold_min_lt]
    constructor
    · rintro (h | ⟨j, _, h⟩)
      · exact absurd h (by simp)
      · refine ⟨j, ?_⟩
        rw [hw j, EReal.coe_lt_coe_iff] at h
        exact (sign_mul_neg _ _ (by have := j.isLt; have : (j.val : ℝ) < 128 := by exact_mod_cast this
                                    linarith)).1 h
    · rintro ⟨j, h⟩
      refine Or.inr ⟨j, Finset.mem_univ j, ?_⟩
      rw [hw j, EReal.coe_lt_coe_iff]
      exact (sign_mul_neg _ _ (by have := j.isLt; have : (j.val : ℝ) < 128 := by exact_mod_cast this
                                  linarith)).2 h
  have hfirst : (∃ j, f j < 0) → ((w (ix2 n 0) : EReal) = m ↔ f 0 < 0) := by
    intro hj
    constructor
    · intro h
      have h2 := hneg.2 hj
      rw [← h, hw 0, EReal.coe_lt_coe_iff] at h2
      exact (sign_mul_neg _ _ (by norm_num)).1 h2
    · intro h
      refine le_antisymm ?_ (hlow 0)
      rw [hf, Finset.le_fold_min]
      refine ⟨le_top, fun j _ => ?_⟩
      rw [hw j, hw 0, EReal.coe_le_coe_iff, sign_neg h]
      have hj : (j.val : ℝ) < 128 := by exact_mod_cast j.isLt
      have hj0 : (0 : ℝ) ≤ j.val := Nat.cast_nonneg _
      rcases lt_trichotomy (f j) 0 with h' | h' | h'
      · rw [sign_neg h']; simp
      · rw [h']; simp
      · rw [sign_pos h']; simp; linarith
  rw [olt_coe', sge_one, and_ofBool]
  refine congrArg BitVec.ofBool ?_
  rw [Bool.eq_iff_iff, Bool.and_eq_true, decide_eq_true_eq, decide_eq_true_eq, one_le_fold, hneg]
  refine and_congr_right fun hj => ?_
  rw [← hfirst hj]
  constructor
  · intro h e
    have := h 0
    rw [if_pos e] at this
    exact absurd this (by decide)
  · intro h j
    by_cases hj : j = 0
    · rw [hj, if_neg h]; decide
    · split
      · rw [BitVec.sle, toInt_small _ j.isLt, decide_eq_true_eq]
        have : j.val ≠ 0 := fun e => hj (Fin.ext e)
        have h1 : (1#32).toInt = 1 := by decide
        omega
      · decide

end Cert.ReferenceIdeal.Search

end
-- ==== Proof.Outcome.lean ====
/-
  The reference's four results, read for one ray: the search by sign finds exactly where the closed form does, and what
  is kept of a ray that it does not go on to bisect.
-/
module

public import proofs.«01_k».proof.Proof.Loop
public import proofs.«01_k».proof.Proof.Search
public import proofs.«01_k».proof.Proof.Body

@[expose] public section

noncomputable section

open Idealize.ShloMosaic Idealize.ShloMosaic.TcCoe Idealize.SL.Sem

namespace Cert.ReferenceIdeal.Outcome

open Cert.ReferenceIdeal Cert.ReferenceIdeal.Gen Cert.ReferenceIdeal.Value Cert.ReferenceIdeal.Steps
  Cert.ReferenceIdeal.Loop Cert.ReferenceIdeal.Search Cert.Ray Cert.Consts
open Cert.KernelIdeal.Body (fin gap_pos)
open Cert.KernelIdeal.March (keep conv)

variable {l : Line} {n : Fin 131072} {V0 : Valuation τ sig (Elt Ideal)}

theorem low (H : Args l n V0) : (res_main_v310 V0 : V) (ix1 n) = (((fin l).lo : ℝ) : EReal) :=
  mix_at (side_at (m16 H).hc _) (m16 H).ha H.lo0 _

theorem width (H : Args l n V0) (h) :
    (subf (addf (mulf (res_main_v305 V0) (V0 (Proc.devRef .tc main_arg3)))
      (mulf (subf (broadcastInDim S131072 ![] h (constant S_ .f32 0x3F800000#32)) (res_main_v305 V0)) (res_main_v286 V0)))
        (res_main_v310 V0) : V) (ix1 n) = (((fin l).hi - (fin l).lo : ℝ) : EReal) :=
  (congrArg₂ (fun x y : EReal => x - y) (mix_at (side_at (m16 H).hc _) H.hi6 (m16 H).ha h) (low H)).trans (sub_coe _ _)

theorem noti_at (x : M) (i : S131072.Idx) : noti x i = ~~~ x i := rfl

/-- Sample `j`. -/
def place (l : Line) (j : ℕ) : ℝ := (fin l).lo + j * (fin l).gap

theorem sample (H : Args l n V0) (j : Fin 128) :
    (res_main_v325 V0 : FVec Ideal S131072x128 .f32) (ix2 n j) = ((place l j : ℝ) : EReal) :=
  sample_at (low H) (width H _) (lin_at _ _ _ _ _ _ _) _ _ _ _ _ _ j

/-- The distance at sample `j`. -/
def level (l : Line) (j : Fin 128) : ℝ :=
  sdf (l.ox + l.dx * place l j) (l.oy + l.dy * place l j) (l.oz + l.dz * place l j)

theorem weight (H : Args l n V0) (j : Fin 128) :
    (res_main_v347 V0 : FVec Ideal S131072x128 .f32) (ix2 n j) =
      (((SignType.sign (level l j) : SignType) * (128 - j.val) : ℝ) : EReal) :=
  weight_at (point_at H.ox H.dx (sample H j) _ _ _ _ _ _) (point_at H.oy H.dy (sample H j) _ _ _ _ _ _)
    (point_at H.oz H.dz (sample H j) _ _ _ _ _ _) _ _ _ _ _ _ _

theorem search (H : Args l n V0) :
    (res_main_v360 V0 : M) (ix1 n) = BitVec.ofBool (decide ((∃ j, level l j < 0) ∧ ¬ level l 0 < 0)) :=
  finds_at (weight H) _ _ _ _ _ _ _ _ _

theorem level_neg (l : Line) (j : Fin 128) : level l j < 0 ↔ quad l.a l.b l.c ((fin l).lo + (j.val : ℝ) * (fin l).gap) < 0 :=
  sdf_neg_iff l _

/-- The two searches find alike. -/
theorem found (H : Args l n V0) (hc : 0 ≤ l.c) (hu : (fin l).unf = true) :
    (res_main_v360 V0 : M) (ix1 n) = open Classical in BitVec.ofBool (decide (Found l (fin l))) := by
  classical
  rw [search H]
  refine congrArg BitVec.ofBool (decide_eq_decide.2 ?_)
  refine Iff.trans ?_ (finds_iff l.a_nonneg l.b_zero hc (gap_pos hc hu) (m := (fin l).lo)).symm
  rw [level_neg l 0]
  refine and_congr ?_ ?_
  · constructor
    · rintro ⟨j, h⟩
      exact ⟨j.val, by have := j.isLt; omega, (level_neg l j).1 h⟩
    · rintro ⟨j, hj, h⟩
      exact ⟨⟨j, by omega⟩, (level_neg l ⟨j, by omega⟩).2 h⟩
  · simp

/-- A ray that the search bisects. -/
def Bisected (l : Line) : Prop := (fin l).unf = true ∧ Found l (fin l)

section
variable {u f : M} {s : State}

theorem conv_at {w : M} {cur acc hi : V} (hu : u (ix1 n) = BitVec.ofBool s.unf)
    (hf : s.unf = true → f (ix1 n) = open Classical in BitVec.ofBool (decide (Found l s)))
    (hw : w (ix1 n) = 1#1) (hc : cur (ix1 n) = ((s.cur : ℝ) : EReal)) (ha : acc (ix1 n) = ((s.acc : ℝ) : EReal))
    (h6 : hi (ix1 n) = ((6 : ℝ) : EReal)) (h) :
    select u f (andi (andi (andi w (noti u)) (cmpf .ole (Host.absf cur)
      (broadcastInDim S131072 ![] h (constant S_ .f32 0x3851B717#32)))) (cmpf .olt acc hi)) (ix1 n) =
      BitVec.ofBool (conv l s) := by
  classical
  rw [select_at, hu]
  unfold conv
  cases hs : s.unf
  · rw [select_ofBool, andi_at, andi_at, andi_at, cmpf_at, cmpf_at, habsf_at, const_at, ofBits_thr, hw, hc, ha, h6, abs_coe,
      ole_coe, olt_coe, noti_at, hu, hs]
    rw [not_ofBool, show (1#1 : BitVec 1) = BitVec.ofBool true from rfl, and_ofBool, and_ofBool, and_ofBool]
    rfl
  · rw [select_ofBool, hf hs]
    rfl

theorem keep_at {e v : V} {E x : ℝ} (hu : u (ix1 n) = BitVec.ofBool s.unf)
    (hf : s.unf = true → f (ix1 n) = open Classical in BitVec.ofBool (decide (Found l s)))
    (hk : ¬ (s.unf = true ∧ Found l s)) (hv : v (ix1 n) = ((x : ℝ) : EReal)) (h) :
    select u (select f e (broadcastInDim S131072 ![] h (id (constant S_ .f32 0x00000000#32)))) v (ix1 n) =
      ((keep l s E x : ℝ) : EReal) := by
  classical
  rw [select_at, hu, hv]
  unfold keep
  cases hs : s.unf
  · rw [select_ofBool]; rfl
  · have hF : ¬ Found l s := fun h => hk ⟨hs, h⟩
    rw [select_ofBool, select_at, hf hs, decide_eq_false hF, select_ofBool, idconst_at, ofBits_zero, if_neg hF]
    rfl

theorem keep3_at {e v : P} {E x : ℝ} {k : Fin 3} (hu : u (ix1 n) = BitVec.ofBool s.unf)
    (hf : s.unf = true → f (ix1 n) = open Classical in BitVec.ofBool (decide (Found l s)))
    (hk : ¬ (s.unf = true ∧ Found l s)) (hv : v (ix2 n k) = ((x : ℝ) : EReal)) (h1 h2 h3 h4 h5) :
    select (broadcastInDim S131072x3 ![0, 1] h1 (broadcastInDim S131072x1 ![0] h2 u))
      (select (broadcastInDim S131072x3 ![0, 1] h3 (broadcastInDim S131072x1 ![0] h4 f)) e
        (broadcastInDim S131072x3 ![] h5 (id (constant S_ .f32 0x00000000#32)))) v (ix2 n k) =
      ((keep l s E x : ℝ) : EReal) := by
  classical
  rw [select_at, beside, hu, hv]
  unfold keep
  cases hs : s.unf
  · rw [select_ofBool]; rfl
  · have hF : ¬ Found l s := fun h => hk ⟨hs, h⟩
    rw [select_ofBool, select_at, beside, hf hs, decide_eq_false hF, select_ofBool, idconst3_at, ofBits_zero, if_neg hF]
    rfl

end

end Cert.ReferenceIdeal.Outcome

end
-- ==== Proof.Mask.lean ====
/-
  The mask, read over the reference's own arrays: it computes the reference's march and search again, so each of its
  parts goes on with arrays the reference holds, and at its end the kept rays are those the search does not bisect.
-/
module

public import proofs.«01_k».proof.On_not_bisected
public import proofs.«01_k».proof.Proof.Gen.ReferenceIdeal.Run
public import proofs.«01_k».proof.Proof.Steps

@[expose] public section

noncomputable section

open Idealize.ShloMosaic Idealize.ShloMosaic.TcCoe Idealize.SL.Sem

namespace Cert.ReferenceIdeal.Mask

open Cert.ReferenceIdeal Cert.ReferenceIdeal.Gen Cert.ReferenceIdeal.Value Cert.ReferenceIdeal.Facts

/-- The shape relations the mask states, which the reference's program states too. -/
theorem facts : Cert.On_not_bisected.Facts where
  bcast_S131072_S131072x1_0 := bcast_S131072_S131072x1_0
  bcast_S131072x1_S131072x3_0_1 := bcast_S131072x1_S131072x3_0_1
  reducesTo_S131072x3_S131072_d1 := reducesTo_S131072x3_S131072_d1
  h_S_ := h_S_
  bcast_S_S131072 := bcast_S_S131072
  bcast_S_S127 := bcast_S_S127
  shapeCasts_S_S1 := shapeCasts_S_S1
  bcast_S1_S127_0 := bcast_S1_S127_0
  bcast_S_S1 := bcast_S_S1
  concatenates_S127_S1_S128_d0 := concatenates_S127_S1_S128_d0
  bcast_S128_S1x128_1 := bcast_S128_S1x128_1
  bcast_S1x128_S131072x128_0_1 := bcast_S1x128_S131072x128_0_1
  bcast_S131072x1_S131072x128_0_1 := bcast_S131072x1_S131072x128_0_1
  bcast_S131072x3_S131072x1x3_0_2 := bcast_S131072x3_S131072x1x3_0_2
  bcast_S131072x128_S131072x128x1_0_1 := bcast_S131072x128_S131072x128x1_0_1
  bcast_S131072x1x3_S131072x128x3_0_1_2 := bcast_S131072x1x3_S131072x128x3_0_1_2
  bcast_S131072x128x1_S131072x128x3_0_1_2 := bcast_S131072x128x1_S131072x128x3_0_1_2
  reducesTo_S131072x128x3_S131072x128_d2 := reducesTo_S131072x128x3_S131072x128_d2
  bcast_S_S131072x128 := bcast_S_S131072x128
  bcast_S_S128 := bcast_S_S128
  reducesTo_S131072x128_S131072_d1 := reducesTo_S131072x128_S131072_d1

attribute [local instance] facts

variable (V0 : Valuation τ sig (Elt Ideal))

/-- The mask of the arguments. -/
abbrev whole : IVec S131072 1 × IVec S131072x3 1 × IVec S131072 1 × IVec S131072 1 :=
  Cert.On_not_bisected.fn (F := Ideal) (V0 (Proc.devRef .tc main_arg0)) (V0 (Proc.devRef .tc main_arg1))
    (V0 (Proc.devRef .tc main_arg2)) (V0 (Proc.devRef .tc main_arg3)) (V0 (Proc.devRef .tc main_arg4))

theorem part1 : whole V0 = Cert.On_not_bisected.fn_part1 (F := Ideal) (V0 (Proc.devRef .tc main_arg0)) (V0 (Proc.devRef .tc main_arg1)) (V0 (Proc.devRef .tc main_arg2)) (V0 (Proc.devRef .tc main_arg3)) (res_main_v3 V0) (res_main_v8 V0) (res_main_v14 V0) (res_main_v16 V0) (mulf (V0 (Proc.devRef .tc main_arg1)) (broadcastInDim S131072x3 ![0, 1] bcast_S131072x1_S131072x3_0_1 (broadcastInDim S131072x1 ![0] bcast_S131072_S131072x1_0 (res_main_v15 V0)))) := rfl

theorem part2 : whole V0 = Cert.On_not_bisected.fn_part2 (F := Ideal) (V0 (Proc.devRef .tc main_arg0)) (V0 (Proc.devRef .tc main_arg1)) (V0 (Proc.devRef .tc main_arg2)) (V0 (Proc.devRef .tc main_arg3)) (res_main_v26 V0) (res_main_v32 V0) (res_main_v34 V0) (res_main_v38 V0) (mulf (res_main_v38 V0) (res_main_v38 V0)) := (part1 V0).trans rfl

theorem part3 : whole V0 = Cert.On_not_bisected.fn_part3 (F := Ideal) (V0 (Proc.devRef .tc main_arg0)) (V0 (Proc.devRef .tc main_arg1)) (V0 (Proc.devRef .tc main_arg2)) (V0 (Proc.devRef .tc main_arg3)) (res_main_v44 V0) (res_main_v50 V0) (res_main_v52 V0) (res_main_v56 V0) (Host.reduceAdd (mulf (res_main_v56 V0) (res_main_v56 V0)) (constant S_ .f32 0x00000000#32) reducesTo_S131072x3_S131072_d1 h_S_) := (part2 V0).trans rfl

theorem part4 : whole V0 = Cert.On_not_bisected.fn_part4 (F := Ideal) (V0 (Proc.devRef .tc main_arg0)) (V0 (Proc.devRef .tc main_arg1)) (V0 (Proc.devRef .tc main_arg2)) (V0 (Proc.devRef .tc main_arg3)) (res_main_v62 V0) (res_main_v68 V0) (res_main_v70 V0) (res_main_v74 V0) (Host.sqrt (Host.reduceAdd (mulf (res_main_v74 V0) (res_main_v74 V0)) (constant S_ .f32 0x00000000#32) reducesTo_S131072x3_S131072_d1 h_S_)) (constant S_ .f32 0x3F800000#32) := (part3 V0).trans rfl

theorem part5 : whole V0 = Cert.On_not_bisected.fn_part5 (F := Ideal) (V0 (Proc.devRef .tc main_arg0)) (V0 (Proc.devRef .tc main_arg1)) (V0 (Proc.devRef .tc main_arg2)) (V0 (Proc.devRef .tc main_arg3)) (res_main_v80 V0) (res_main_v86 V0) (res_main_v88 V0) (res_main_v92 V0) (subf (Host.sqrt (Host.reduceAdd (mulf (res_main_v92 V0) (res_main_v92 V0)) (constant S_ .f32 0x00000000#32) reducesTo_S131072x3_S131072_d1 h_S_)) (broadcastInDim S131072 ![] bcast_S_S131072 (constant S_ .f32 0x3F800000#32))) := (part4 V0).trans rfl

theorem part6 : whole V0 = Cert.On_not_bisected.fn_part6 (F := Ideal) (V0 (Proc.devRef .tc main_arg0)) (V0 (Proc.devRef .tc main_arg1)) (V0 (Proc.devRef .tc main_arg2)) (V0 (Proc.devRef .tc main_arg3)) (res_main_v104 V0) (res_main_v106 V0) (res_main_v110 V0) (res_main_v116 V0) (Host.absf (res_main_v116 V0)) := (part5 V0).trans rfl

theorem part7 : whole V0 = Cert.On_not_bisected.fn_part7 (F := Ideal) (V0 (Proc.devRef .tc main_arg0)) (V0 (Proc.devRef .tc main_arg1)) (V0 (Proc.devRef .tc main_arg2)) (V0 (Proc.devRef .tc main_arg3)) (res_main_v122 V0) (res_main_v124 V0) (res_main_v128 V0) (res_main_v134 V0) (Host.absf (res_main_v134 V0)) (broadcastInDim S131072 ![] bcast_S_S131072 (constant S_ .f32 0x3851B717#32)) := (part6 V0).trans rfl

theorem part8 : whole V0 = Cert.On_not_bisected.fn_part8 (F := Ideal) (V0 (Proc.devRef .tc main_arg0)) (V0 (Proc.devRef .tc main_arg1)) (V0 (Proc.devRef .tc main_arg2)) (V0 (Proc.devRef .tc main_arg3)) (res_main_v142 V0) (res_main_v146 V0) (res_main_v152 V0) (andi (res_main_v140 V0) (cmpf .ogt (Host.absf (res_main_v152 V0)) (broadcastInDim S131072 ![] bcast_S_S131072 (constant S_ .f32 0x3851B717#32)))) := (part7 V0).trans rfl

theorem part9 : whole V0 = Cert.On_not_bisected.fn_part9 (F := Ideal) (V0 (Proc.devRef .tc main_arg0)) (V0 (Proc.devRef .tc main_arg1)) (V0 (Proc.devRef .tc main_arg2)) (V0 (Proc.devRef .tc main_arg3)) (res_main_v160 V0) (res_main_v164 V0) (res_main_v170 V0) (res_main_v176 V0) := (part8 V0).trans rfl

theorem part10 : whole V0 = Cert.On_not_bisected.fn_part10 (F := Ideal) (V0 (Proc.devRef .tc main_arg0)) (V0 (Proc.devRef .tc main_arg1)) (V0 (Proc.devRef .tc main_arg2)) (V0 (Proc.devRef .tc main_arg3)) (res_main_v178 V0) (res_main_v182 V0) (res_main_v188 V0) (res_main_v194 V0) (res_main_v195 V0) := (part9 V0).trans rfl

theorem part11 : whole V0 = Cert.On_not_bisected.fn_part11 (F := Ideal) (V0 (Proc.devRef .tc main_arg0)) (V0 (Proc.devRef .tc main_arg1)) (V0 (Proc.devRef .tc main_arg2)) (V0 (Proc.devRef .tc main_arg3)) (res_main_v200 V0) (res_main_v206 V0) (res_main_v212 V0) (res_main_v214 V0) (broadcastInDim S131072x1 ![0] bcast_S131072_S131072x1_0 (res_main_v213 V0)) := (part10 V0).trans rfl

theorem part12 : whole V0 = Cert.On_not_bisected.fn_part12 (F := Ideal) (V0 (Proc.devRef .tc main_arg0)) (V0 (Proc.devRef .tc main_arg1)) (V0 (Proc.devRef .tc main_arg2)) (V0 (Proc.devRef .tc main_arg3)) (res_main_v218 V0) (res_main_v224 V0) (res_main_v230 V0) (res_main_v232 V0) (mulf (V0 (Proc.devRef .tc main_arg1)) (broadcastInDim S131072x3 ![0, 1] bcast_S131072x1_S131072x3_0_1 (broadcastInDim S131072x1 ![0] bcast_S131072_S131072x1_0 (res_main_v231 V0)))) := (part11 V0).trans rfl

theorem part13 : whole V0 = Cert.On_not_bisected.fn_part13 (F := Ideal) (V0 (Proc.devRef .tc main_arg0)) (V0 (Proc.devRef .tc main_arg1)) (V0 (Proc.devRef .tc main_arg2)) (V0 (Proc.devRef .tc main_arg3)) (res_main_v242 V0) (res_main_v248 V0) (res_main_v250 V0) (res_main_v254 V0) (mulf (res_main_v254 V0) (res_main_v254 V0)) := (part12 V0).trans rfl

theorem part14 : whole V0 = Cert.On_not_bisected.fn_part14 (F := Ideal) (V0 (Proc.devRef .tc main_arg0)) (V0 (Proc.devRef .tc main_arg1)) (V0 (Proc.devRef .tc main_arg2)) (V0 (Proc.devRef .tc main_arg3)) (res_main_v260 V0) (res_main_v266 V0) (res_main_v268 V0) (res_main_v272 V0) (Host.reduceAdd (mulf (res_main_v272 V0) (res_main_v272 V0)) (constant S_ .f32 0x00000000#32) reducesTo_S131072x3_S131072_d1 h_S_) := (part13 V0).trans rfl

theorem part15 : whole V0 = Cert.On_not_bisected.fn_part15 (F := Ideal) (V0 (Proc.devRef .tc main_arg0)) (V0 (Proc.devRef .tc main_arg1)) (V0 (Proc.devRef .tc main_arg2)) (V0 (Proc.devRef .tc main_arg3)) (res_main_v278 V0) (res_main_v284 V0) (res_main_v286 V0) (Host.sqrt (Host.reduceAdd (mulf (res_main_v290 V0) (res_main_v290 V0)) (constant S_ .f32 0x00000000#32) reducesTo_S131072x3_S131072_d1 h_S_)) (constant S_ .f32 0x3F800000#32) := (part14 V0).trans rfl

theorem part16 : whole V0 = Cert.On_not_bisected.fn_part16 (F := Ideal) (V0 (Proc.devRef .tc main_arg0)) (V0 (Proc.devRef .tc main_arg1)) (res_main_v286 V0) (res_main_v302 V0) (res_main_v310 V0) (mulf (res_main_v305 V0) (V0 (Proc.devRef .tc main_arg3))) (subf (broadcastInDim S131072 ![] bcast_S_S131072 (constant S_ .f32 0x3F800000#32)) (res_main_v305 V0)) := (part15 V0).trans rfl

theorem part17 : whole V0 = Cert.On_not_bisected.fn_part17 (F := Ideal) (res_main_v302 V0) (mulf (res_main_v333 V0) (res_main_v333 V0)) (constant S_ .f32 0x00000000#32) := (part16 V0).trans rfl

theorem part18 : whole V0 = Cert.On_not_bisected.fn_part18 (F := Ideal) (res_main_v302 V0) (res_main_v348 V0) (cmpf .oeq (res_main_v347 V0) (broadcastInDim S131072x128 ![0, 1] bcast_S131072x1_S131072x128_0_1 (broadcastInDim S131072x1 ![0] bcast_S131072_S131072x1_0 (res_main_v348 V0)))) (broadcastInDim S1x128 ![1] bcast_S128_S1x128_1 (iotaInDim S128 32 0)) (constantI S_ 32 128#32) := (part17 V0).trans rfl

/-- The kept rays. -/
theorem whole_eq : whole V0 =
    (broadcastInDim S131072 ![] bcast_S_S131072 (constantI S_ 1 1#1),
      broadcastInDim S131072x3 ![0, 1] bcast_S131072x1_S131072x3_0_1 (broadcastInDim S131072x1 ![0] bcast_S131072_S131072x1_0
        (noti (andi (res_main_v302 V0) (res_main_v360 V0)))),
      noti (andi (res_main_v302 V0) (res_main_v360 V0)), noti (andi (res_main_v302 V0) (res_main_v360 V0))) :=
  (part18 V0).trans rfl

end Cert.ReferenceIdeal.Mask

end
-- ==== Proof.Agree.lean ====
/-
  The reference's results at the rays the mask keeps, and the mask's bits, read for one ray.
-/
module

public import proofs.«01_k».proof.Proof.Outcome
public import proofs.«01_k».proof.Proof.Mask
public import proofs.«01_k».proof.Proof.Blocks

@[expose] public section

noncomputable section

open Idealize.ShloMosaic Idealize.ShloMosaic.TcCoe Idealize.SL.Sem Idealize.ShloMosaic.StableHlo

namespace Cert.ReferenceIdeal.Agree

open Cert.ReferenceIdeal Cert.ReferenceIdeal.Gen Cert.ReferenceIdeal.Value Cert.ReferenceIdeal.Steps
  Cert.ReferenceIdeal.Loop Cert.ReferenceIdeal.Outcome Cert.Ray Cert.Consts
open Cert.KernelIdeal.Body (fin gap_pos)
open Cert.KernelIdeal.March (keep conv)

variable {l : Line} {n : Fin 131072} {V0 : Valuation τ sig (Elt Ideal)}

theorem not_both {u f : M} (h : noti (andi u f) (ix1 n) = 1#1) (hu : u (ix1 n) = BitVec.ofBool true)
    (hf : f (ix1 n) = BitVec.ofBool true) : False := by
  rw [noti_at, andi_at, hu, hf] at h
  exact absurd h (by decide)

/-- A ray the mask keeps is not bisected. -/
theorem kept (H : Args l n V0) (hc : 0 ≤ l.c)
    (h : (noti (andi (res_main_v302 V0) (res_main_v360 V0)) : M) (ix1 n) = 1#1) :
    ¬ ((fin l).unf = true ∧ Found l (fin l)) := by
  classical
  rintro ⟨hu, hF⟩
  exact not_both h ((m16 H).hu.trans (congrArg BitVec.ofBool hu))
    ((found H hc hu).trans (congrArg BitVec.ofBool (decide_eq_true hF)))

/-- The bits of the mask for the points. -/
theorem kept3 (H : Args l n V0) (hc : 0 ≤ l.c) {k : Fin 3}
    (h : ((Mask.whole V0).2.1 : IVec S131072x3 1) (ix2 n k) = 1#1) : ¬ ((fin l).unf = true ∧ Found l (fin l)) := by
  rw [Mask.whole_eq] at h
  exact kept H hc ((beside _ bcast_S131072x1_S131072x3_0_1 bcast_S131072_S131072x1_0 n k).symm.trans h)

/-- The bits of the mask for the distances. -/
theorem kept1 (H : Args l n V0) (hc : 0 ≤ l.c)
    (h : ((Mask.whole V0).2.2.1 : IVec S131072 1) (ix1 n) = 1#1) : ¬ ((fin l).unf = true ∧ Found l (fin l)) := by
  rw [Mask.whole_eq] at h
  exact kept H hc h

/-- The bits of the mask for the lengths. -/
theorem kept2 (H : Args l n V0) (hc : 0 ≤ l.c)
    (h : ((Mask.whole V0).2.2.2 : IVec S131072 1) (ix1 n) = 1#1) : ¬ ((fin l).unf = true ∧ Found l (fin l)) := by
  rw [Mask.whole_eq] at h
  exact kept H hc h

theorem point (H : Args l n V0) (k : Fin 3) : (res_main_v290 V0 : P) (ix2 n k) = (((fin l).pt k : ℝ) : EReal) := by
  fin_cases k
  · exact (m16 H).hx
  · exact (m16 H).hy
  · exact (m16 H).hz

/-- The converged rays. -/
theorem hits (H : Args l n V0) (hc : 0 ≤ l.c) :
    (select (res_main_v302 V0) (res_main_v360 V0) (andi (andi (andi (V0 (Proc.devRef .tc main_arg4))
      (noti (res_main_v302 V0))) (cmpf .ole (Host.absf (res_main_v296 V0))
        (broadcastInDim S131072 ![] bcast_S_S131072 (constant S_ .f32 0x3851B717#32))))
      (cmpf .olt (res_main_v286 V0) (V0 (Proc.devRef .tc main_arg3)))) : M) (ix1 n) = BitVec.ofBool (conv l (fin l)) :=
  conv_at (m16 H).hu (found H hc) H.w1 (m16 H).hc (m16 H).ha H.hi6 _

/-- The points. -/
theorem spots (H : Args l n V0) (hc : 0 ≤ l.c) (E : ℝ) (k : Fin 3) (hk : ¬ ((fin l).unf = true ∧ Found l (fin l))) :
    (select (broadcastInDim S131072x3 ![0, 1] bcast_S131072x1_S131072x3_0_1 (broadcastInDim S131072x1 ![0]
      bcast_S131072_S131072x1_0 (res_main_v302 V0))) (select (broadcastInDim S131072x3 ![0, 1] bcast_S131072x1_S131072x3_0_1
        (broadcastInDim S131072x1 ![0] bcast_S131072_S131072x1_0 (res_main_v360 V0))) (res_main_v1064 V0)
        (broadcastInDim S131072x3 ![] bcast_S_S131072x3 (id (constant S_ .f32 0x00000000#32)))) (res_main_v290 V0) : P)
      (ix2 n k) = ((keep l (fin l) E ((fin l).pt k) : ℝ) : EReal) :=
  keep3_at (m16 H).hu (found H hc) hk (point H k) _ _ _ _ _

/-- The distances. -/
theorem dists (H : Args l n V0) (hc : 0 ≤ l.c) (E : ℝ) (e : V) (hk : ¬ ((fin l).unf = true ∧ Found l (fin l))) :
    (select (res_main_v302 V0) (select (res_main_v360 V0) e
      (broadcastInDim S131072 ![] bcast_S_S131072 (id (constant S_ .f32 0x00000000#32)))) (res_main_v296 V0) : V) (ix1 n) =
      ((keep l (fin l) E (fin l).cur : ℝ) : EReal) :=
  keep_at (m16 H).hu (found H hc) hk (m16 H).hc _

/-- The lengths. -/
theorem travels (H : Args l n V0) (hc : 0 ≤ l.c) (E : ℝ) (e : V) (hk : ¬ ((fin l).unf = true ∧ Found l (fin l))) :
    (select (res_main_v302 V0) (select (res_main_v360 V0) e
      (broadcastInDim S131072 ![] bcast_S_S131072 (id (constant S_ .f32 0x00000000#32)))) (res_main_v286 V0) : V) (ix1 n) =
      ((keep l (fin l) E (fin l).acc : ℝ) : EReal) :=
  keep_at (m16 H).hu (found H hc) hk (m16 H).ha _

/-- The reference's run: its four results. -/
theorem run (m : (ℓ : Loc nD τ sig) → Buf (Elt Ideal) ℓ) (ρ : Dev nD → PrngReg) (L : Dev nD → Fin 131072 → Line)
    (H : ∀ c n, Args (L c n) n (launchContents m c)) (hL : ∀ c n, 0 ≤ (L c n).c) (E1 : Dev nD → Fin 131072 → Fin 3 → ℝ)
    (E2 E3 : Dev nD → Fin 131072 → ℝ) :
    θ_run defs (onTc (τ := τ) (main (F := Ideal))) ⟨m, fun _ => 0, ρ⟩ fun r => ∀ c : Dev nD,
      (∀ n, (r.2.mem ((c.tc : Thread nD τ).loc main_v1074) : M) (ix1 n) = BitVec.ofBool (conv (L c n) (fin (L c n))))
      ∧ (∀ n k, ¬ ((fin (L c n)).unf = true ∧ Found (L c n) (fin (L c n))) →
        (r.2.mem ((c.tc : Thread nD τ).loc main_v1076) : P) (ix2 n k) =
          ((keep (L c n) (fin (L c n)) (E1 c n k) ((fin (L c n)).pt k) : ℝ) : EReal))
      ∧ (∀ n, ¬ ((fin (L c n)).unf = true ∧ Found (L c n) (fin (L c n))) →
        (r.2.mem ((c.tc : Thread nD τ).loc main_v1077) : V) (ix1 n) =
          ((keep (L c n) (fin (L c n)) (E2 c n) (fin (L c n)).cur : ℝ) : EReal))
      ∧ (∀ n, ¬ ((fin (L c n)).unf = true ∧ Found (L c n) (fin (L c n))) →
        (r.2.mem ((c.tc : Thread nD τ).loc main_v1078) : V) (ix1 n) =
          ((keep (L c n) (fin (L c n)) (E3 c n) (fin (L c n)).acc : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run (F := Ideal) m ρ)
  obtain ⟨h0, h1, h2, h3, h4⟩ := h c
  refine ⟨fun n => ?_, fun n k hk => ?_, fun n hk => ?_, fun n hk => ?_, h4⟩
  · rw [h0]; exact hits (H c n) (hL c n)
  · rw [h1]; exact spots (H c n) (hL c n) _ k hk
  · rw [h2]; exact dists (H c n) (hL c n) _ _ hk
  · rw [h3]; exact travels (H c n) (hL c n) _ _ hk

end Cert.ReferenceIdeal.Agree

end
-- ==== Proof.lean ====
/-
  The proof of `Cert.Claim`: the three programs run and leave their arguments unchanged; replacing the named constant
  preserves the kernel; and on rays that start outside the sphere the kernel and the reference agree, wherever the
  reference does not go on to bisect.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Result
public import proofs.«01_k».proof.Proof.Pre
public import proofs.«01_k».proof.Proof.Agree

@[expose] public section

noncomputable section

namespace Cert.Proof

open Idealize.ShloMosaic Idealize.ShloMosaic.TcCoe Idealize.SL.Sem Idealize.ShloMosaic.StableHlo Cert.Ray
open Cert.KernelIdeal.Blocks (org dir line hit spot dist travel)

attribute [local instance] Cert.ReferenceIdeal.Mask.facts

/-- The results agree, where the mask keeps them. -/
theorem agree : algebraic_KernelIdeal_ReferenceIdeal_on_not_bisected_pre_rays_outside
    (hKernelIdeal := Cert.KernelIdeal.Gen.facts) (hReferenceIdeal := Cert.ReferenceIdeal.Gen.facts)
    (hPre_rays_outside := Cert.ReferenceIdeal.Pre.facts) (hOn_not_bisected := Cert.ReferenceIdeal.Mask.facts) := by
  intro m g m' g' hp hargs
  have hf : ∀ c : Dev Cert.KernelIdeal.nD, Fits (org m c) (dir m c) := fun c => Cert.ReferenceIdeal.Pre.fits (hp c)
  have H : ∀ (c : Dev Cert.KernelIdeal.nD) n,
      Cert.ReferenceIdeal.Loop.Args (line m c n) n (launchContents m' c) := fun c n => by
    obtain ⟨e0, e1, e2, e3, e4⟩ := hargs c
    have h := Cert.ReferenceIdeal.Pre.holds (hp c) n
    rw [← e0, ← e1, ← e2, ← e3, ← e4] at h
    unfold line
    rw [show org m c = _ from e0.symm, show dir m c = _ from e1.symm]
    exact h
  refine ⟨fun c i => BitVec.ofBool (hit m c (i 0)), fun c i => ((spot m c (i 0) (i 1) : ℝ) : EReal),
    fun c i => ((dist m c (i 0) : ℝ) : EReal), fun c i => ((travel m c (i 0) : ℝ) : EReal), ?_, ?_⟩
  · refine (θ_run _ _ _).mono (fun r h c => ?_) (Cert.KernelIdeal.Result.run m g hf)
    obtain ⟨h0, h1, h2, h3, h4⟩ := h c
    refine ⟨fun i _ => ?_, fun i _ => ?_, fun i _ => ?_, fun i _ => ?_, h4⟩
    · rw [Idealize.ShloMosaic.ValueIdx.eq_ix1 i]; exact h0 _
    · rw [Idealize.ShloMosaic.ValueIdx.eq_ix2 i]; exact h1 _ _
    · rw [Idealize.ShloMosaic.ValueIdx.eq_ix1 i]; exact h2 _
    · rw [Idealize.ShloMosaic.ValueIdx.eq_ix1 i]; exact h3 _
  · have hmask : ∀ c : Dev Cert.KernelIdeal.nD, Cert.On_not_bisected.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) =
        Cert.ReferenceIdeal.Mask.whole (launchContents m' c) := fun c => by
      obtain ⟨e0, e1, e2, e3, e4⟩ := hargs c
      rw [← e0, ← e1, ← e2, ← e3, ← e4]
    refine (θ_run _ _ _).mono (fun r h c => ?_) (Cert.ReferenceIdeal.Agree.run m' g' (fun c n => line m c n) H
      (fun c => (hf c).hc) (fun c n => (line m c n).at (line m c n).enter)
      (fun c n => sdf ((line m c n).ox + (line m c n).dx * (line m c n).enter)
        ((line m c n).oy + (line m c n).dy * (line m c n).enter) ((line m c n).oz + (line m c n).dz * (line m c n).enter))
      (fun c n => (line m c n).enter))
    obtain ⟨h0, h1, h2, h3, h4⟩ := h c
    refine ⟨fun i _ => ?_, fun i hi => ?_, fun i hi => ?_, fun i hi => ?_, h4⟩
    · rw [Idealize.ShloMosaic.ValueIdx.eq_ix1 i]; exact h0 _
    · rw [hmask c, Idealize.ShloMosaic.ValueIdx.eq_ix2 i] at hi
      rw [Idealize.ShloMosaic.ValueIdx.eq_ix2 i]
      exact h1 _ _ (Cert.ReferenceIdeal.Agree.kept3 (H c _) ((hf c).hc _) hi)
    · rw [hmask c, Idealize.ShloMosaic.ValueIdx.eq_ix1 i] at hi
      rw [Idealize.ShloMosaic.ValueIdx.eq_ix1 i]
      exact h2 _ (Cert.ReferenceIdeal.Agree.kept1 (H c _) ((hf c).hc _) hi)
    · rw [hmask c, Idealize.ShloMosaic.ValueIdx.eq_ix1 i] at hi
      rw [Idealize.ShloMosaic.ValueIdx.eq_ix1 i]
      exact h3 _ (Cert.ReferenceIdeal.Agree.kept2 (H c _) ((hf c).hc _) hi)

theorem claim : Cert.Claim :=
  ⟨Cert.Kernel.Gen.facts, Cert.KernelIdeal.Gen.facts, Cert.ReferenceIdeal.Gen.facts, Cert.ReferenceIdeal.Pre.facts,
    Cert.ReferenceIdeal.Mask.facts,
    fun m ρ _ => Cert.Kernel.Gen.frame m ρ, fun m ρ _ => Cert.KernelIdeal.Gen.frame m ρ,
    fun m ρ _ => Cert.KernelIdeal.Gen.frame m ρ,
    fun m ρ _ => (θ_run Cert.ReferenceIdeal.defs _ _).mono (fun r h =>
      ⟨fun c => (h c).2.2.2.2, Idealize.ShloMosaic.sem_eq_zero_of_no_sems (by decide) r.2⟩)
      (Cert.ReferenceIdeal.Value.run (F := Ideal) m ρ),
    fun m ρ _ => (θ_run Cert.ReferenceIdeal.defs _ _).mono (fun r h =>
      ⟨fun c => (h c).2.2.2.2, Idealize.ShloMosaic.sem_eq_zero_of_no_sems (by decide) r.2⟩)
      (Cert.ReferenceIdeal.Value.run (F := Ideal) m ρ),
    IdealRules.named_const.statement Cert.KernelIdeal.κ "inv127" .f32 0x3C010204#32 ((127⁻¹ : ℝ) : EReal) rfl,
    agree⟩

end Cert.Proof

end
